-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn_part1 {F : FTy → Type} [FloatOps F] (main_arg2 : IVec S1024x200 32) (main_v12 : IVec S_ 1) (main_v14 : IVec S1024x200 1) (main_v15 : IVec S1024x200 32) : IVec S_ 1 :=
  let main_v16 : IVec S1024x200 1 := cmpi .slt main_arg2 main_v15
  let main_v17 : IVec S1024x200 1 := andi main_v14 main_v16
  let main_c_7 : IVec S_ 1 := constantI S_ 1 1#1
  let main_v18 : IVec S_ 1 := (fun x v => Host.reduce IntOp.andi x v reducesTo_S1024x200_S_d0_1 h_S_) main_v17 main_c_7
  let main_v19 : IVec S_ 1 := andi main_v12 main_v18
  main_v19

def fn {F : FTy → Type} [FloatOps F] (main_arg0 : IVec S1024x200 32) (main_arg1 : IVec S1024x200 32) (main_arg2 : IVec S1024x200 32) (main_arg3 : FVec F S100000x128 .f32) (main_arg4 : FVec F S512x128 .f32) (main_arg5 : FVec F S2x128 .f32) (main_arg6 : FVec F S128 .f32) (main_arg7 : FVec F S128 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  let main_c_2 : IVec S_ 32 := constantI S_ 32 0#32
  let main_v6 : IVec S1024x200 32 := broadcastInDim S1024x200 ![] bcast_S_S1024x200 main_c_2
  let main_v7 : IVec S1024x200 1 := cmpi .sge main_arg1 main_v6
  let main_c_3 : IVec S_ 32 := constantI S_ 32 2#32
  let main_v8 : IVec S1024x200 32 := broadcastInDim S1024x200 ![] bcast_S_S1024x200 main_c_3
  let main_v9 : IVec S1024x200 1 := cmpi .slt main_arg1 main_v8
  let main_v10 : IVec S1024x200 1 := andi main_v7 main_v9
  let main_c_4 : IVec S_ 1 := constantI S_ 1 1#1
  let main_v11 : IVec S_ 1 := (fun x v => Host.reduce IntOp.andi x v reducesTo_S1024x200_S_d0_1 h_S_) main_v10 main_c_4
  let main_v12 : IVec S_ 1 := andi main_v5 main_v11
  let main_c_5 : IVec S_ 32 := constantI S_ 32 0#32
  let main_v13 : IVec S1024x200 32 := broadcastInDim S1024x200 ![] bcast_S_S1024x200 main_c_5
  let main_v14 : IVec S1024x200 1 := cmpi .sge main_arg2 main_v13
  let main_c_6 : IVec S_ 32 := constantI S_ 32 512#32
  let main_v15 : IVec S1024x200 32 := broadcastInDim S1024x200 ![] bcast_S_S1024x200 main_c_6
  fn_part1 (F := F) main_arg2 main_v12 main_v14 main_v15
-- ==== Kernel.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S204800 : Shape := ⟨1, ![204800]⟩
abbrev S25x1x8192 : Shape := ⟨3, ![25, 1, 8192]⟩
abbrev S514x128 : Shape := ⟨2, ![514, 128]⟩
abbrev S1x128 : Shape := ⟨2, ![1, 128]⟩
abbrev S1600x128 : Shape := ⟨2, ![1600, 128]⟩
abbrev S40960x128 : Shape := ⟨2, ![40960, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S204800x128 : Shape := ⟨2, ![204800, 128]⟩
abbrev S8192x128 : Shape := ⟨2, ![8192, 128]⟩
abbrev S1x1x8192 : Shape := ⟨3, ![1, 1, 8192]⟩
abbrev S2048x128 : Shape := ⟨2, ![2048, 128]⟩
abbrev S1x1x2048 : Shape := ⟨3, ![1, 1, 2048]⟩
abbrev S1x2048 : Shape := ⟨2, ![1, 2048]⟩
abbrev S512x2048 : Shape := ⟨2, ![512, 2048]⟩
abbrev S2x2048 : Shape := ⟨2, ![2, 2048]⟩
abbrev S514x2048 : Shape := ⟨2, ![514, 2048]⟩
abbrev S2048 : Shape := ⟨1, ![2048]⟩
abbrev S2048x1 : Shape := ⟨2, ![2048, 1]⟩
abbrev S1024x200x128 : Shape := ⟨3, ![1024, 200, 128]⟩

abbrev nBuf : Table → Nat
  | .hbm => 27
  | .local .tc .vmem => 55
  | .local .scVector .vmem => 10
  | _ => 0

abbrev bufTy : (tb : Table) → Fin (nBuf tb) → BufTy
  | .hbm, ⟨0, _⟩ => ⟨S1024x200, .i32⟩
  | .hbm, ⟨1, _⟩ => ⟨S1024x200, .i32⟩
  | .hbm, ⟨2, _⟩ => ⟨S1024x200, .i32⟩
  | .hbm, ⟨3, _⟩ => ⟨S100000x128, .f32⟩
  | .hbm, ⟨4, _⟩ => ⟨S512x128, .f32⟩
  | .hbm, ⟨5, _⟩ => ⟨S2x128, .f32⟩
  | .hbm, ⟨6, _⟩ => ⟨S128, .f32⟩
  | .hbm, ⟨7, _⟩ => ⟨S128, .f32⟩
  | .hbm, ⟨8, _⟩ => ⟨S204800, .i32⟩
  | .hbm, ⟨9, _⟩ => ⟨S25x1x8192, .i32⟩
  | .hbm, ⟨10, _⟩ => ⟨S25x1x8192, .i32⟩
  | .hbm, ⟨11, _⟩ => ⟨S514x128, .f32⟩
  | .hbm, ⟨12, _⟩ => ⟨S514x128, .bf16⟩
  | .hbm, ⟨13, _⟩ => ⟨S1x128, .f32⟩
  | .hbm, ⟨14, _⟩ => ⟨S1x128, .f32⟩
  | .hbm, ⟨15, _⟩ => ⟨S1600x128, .i32⟩
  | .hbm, ⟨16, _⟩ => ⟨S40960x128, .f32⟩
  | .hbm, ⟨17, _⟩ => ⟨S40960x128, .f32⟩
  | .hbm, ⟨18, _⟩ => ⟨S40960x128, .f32⟩
  | .hbm, ⟨19, _⟩ => ⟨S40960x128, .f32⟩
  | .hbm, ⟨20, _⟩ => ⟨S40960x128, .f32⟩
  | .hbm, ⟨21, _⟩ => ⟨S204800x128, .f32⟩
  | .hbm, ⟨22, _⟩ => ⟨S204800x128, .f32⟩
  | .hbm, ⟨23, _⟩ => ⟨S204800x128, .f32⟩
  | .hbm, ⟨24, _⟩ => ⟨S204800x128, .f32⟩
  | .hbm, ⟨25, _⟩ => ⟨S204800x128, .f32⟩
  | .hbm, ⟨26, _⟩ => ⟨S1024x200x128, .f32⟩
  | .local .tc .vmem, ⟨0, _⟩ => ⟨S8192x128, .f32⟩
  | .local .tc .vmem, ⟨1, _⟩ => ⟨S8192x128, .f32⟩
  | .local .tc .vmem, ⟨2, _⟩ => ⟨S1x1x8192, .i32⟩
  | .local .tc .vmem, ⟨3, _⟩ => ⟨S1x1x8192, .i32⟩
  | .local .tc .vmem, ⟨4, _⟩ => ⟨S1x1x8192, .i32⟩
  | .local .tc .vmem, ⟨5, _⟩ => ⟨S1x1x8192, .i32⟩
  | .local .tc .vmem, ⟨6, _⟩ => ⟨S514x128, .bf16⟩
  | .local .tc .vmem, ⟨7, _⟩ => ⟨S1x128, .f32⟩
  | .local .tc .vmem, ⟨8, _⟩ => ⟨S1x128, .f32⟩
  | .local .tc .vmem, ⟨9, _⟩ => ⟨S8192x128, .f32⟩
  | .local .tc .vmem, ⟨10, _⟩ => ⟨S8192x128, .f32⟩
  | .local .tc .vmem, ⟨11, _⟩ => ⟨S8192x128, .f32⟩
  | .local .tc .vmem, ⟨12, _⟩ => ⟨S8192x128, .f32⟩
  | .local .tc .vmem, ⟨13, _⟩ => ⟨S1x1x8192, .i32⟩
  | .local .tc .vmem, ⟨14, _⟩ => ⟨S1x1x8192, .i32⟩
  | .local .tc .vmem, ⟨15, _⟩ => ⟨S1x1x8192, .i32⟩
  | .local .tc .vmem, ⟨16, _⟩ => ⟨S1x1x8192, .i32⟩
  | .local .tc .vmem, ⟨17, _⟩ => ⟨S514x128, .bf16⟩
  | .local .tc .vmem, ⟨18, _⟩ => ⟨S1x128, .f32⟩
  | .local .tc .vmem, ⟨19, _⟩ => ⟨S1x128, .f32⟩
  | .local .tc .vmem, ⟨20, _⟩ => ⟨S8192x128, .f32⟩
  | .local .tc .vmem, ⟨21, _⟩ => ⟨S8192x128, .f32⟩
  | .local .tc .vmem, ⟨22, _⟩ => ⟨S8192x128, .f32⟩
  | .local .tc .vmem, ⟨23, _⟩ => ⟨S8192x128, .f32⟩
  | .local .tc .vmem, ⟨24, _⟩ => ⟨S1x1x8192, .i32⟩
  | .local .tc .vmem, ⟨25, _⟩ => ⟨S1x1x8192, .i32⟩
  | .local .tc .vmem, ⟨26, _⟩ => ⟨S1x1x8192, .i32⟩
  | .local .tc .vmem, ⟨27, _⟩ => ⟨S1x1x8192, .i32⟩
  | .local .tc .vmem, ⟨28, _⟩ => ⟨S514x128, .bf16⟩
  | .local .tc .vmem, ⟨29, _⟩ => ⟨S1x128, .f32⟩
  | .local .tc .vmem, ⟨30, _⟩ => ⟨S1x128, .f32⟩
  | .local .tc .vmem, ⟨31, _⟩ => ⟨S8192x128, .f32⟩
  | .local .tc .vmem, ⟨32, _⟩ => ⟨S8192x128, .f32⟩
  | .local .tc .vmem, ⟨33, _⟩ => ⟨S8192x128, .f32⟩
  | .local .tc .vmem, ⟨34, _⟩ => ⟨S8192x128, .f32⟩
  | .local .tc .vmem, ⟨35, _⟩ => ⟨S1x1x8192, .i32⟩
  | .local .tc .vmem, ⟨36, _⟩ => ⟨S1x1x8192, .i32⟩
  | .local .tc .vmem, ⟨37, _⟩ => ⟨S1x1x8192, .i32⟩
  | .local .tc .vmem, ⟨38, _⟩ => ⟨S1x1x8192, .i32⟩
  | .local .tc .vmem, ⟨39, _⟩ => ⟨S514x128, .bf16⟩
  | .local .tc .vmem, ⟨40, _⟩ => ⟨S1x128, .f32⟩
  | .local .tc .vmem, ⟨41, _⟩ => ⟨S1x128, .f32⟩
  | .local .tc .vmem, ⟨42, _⟩ => ⟨S8192x128, .f32⟩
  | .local .tc .vmem, ⟨43, _⟩ => ⟨S8192x128, .f32⟩
  | .local .tc .vmem, ⟨44, _⟩ => ⟨S8192x128, .f32⟩
  | .local .tc .vmem, ⟨45, _⟩ => ⟨S8192x128, .f32⟩
  | .local .tc .vmem, ⟨46, _⟩ => ⟨S1x1x8192, .i32⟩
  | .local .tc .vmem, ⟨47, _⟩ => ⟨S1x1x8192, .i32⟩
  | .local .tc .vmem, ⟨48, _⟩ => ⟨S1x1x8192, .i32⟩
  | .local .tc .vmem, ⟨49, _⟩ => ⟨S1x1x8192, .i32⟩
  | .local .tc .vmem, ⟨50, _⟩ => ⟨S514x128, .bf16⟩
  | .local .tc .vmem, ⟨51, _⟩ => ⟨S1x128, .f32⟩
  | .local .tc .vmem, ⟨52, _⟩ => ⟨S1x128, .f32⟩
  | .local .tc .vmem, ⟨53, _⟩ => ⟨S8192x128, .f32⟩
  | .local .tc .vmem, ⟨54, _⟩ => ⟨S8192x128, .f32⟩
  | .local .scVector .vmem, ⟨0, _⟩ => ⟨S2x1x128, .i32⟩
  | .local .scVector .vmem, ⟨1, _⟩ => ⟨S2x128x128, .f32⟩
  | .local .scVector .vmem, ⟨2, _⟩ => ⟨S2x1x128, .i32⟩
  | .local .scVector .vmem, ⟨3, _⟩ => ⟨S2x128x128, .f32⟩
  | .local .scVector .vmem, ⟨4, _⟩ => ⟨S2x1x128, .i32⟩
  | .local .scVector .vmem, ⟨5, _⟩ => ⟨S2x128x128, .f32⟩
  | .local .scVector .vmem, ⟨6, _⟩ => ⟨S2x1x128, .i32⟩
  | .local .scVector .vmem, ⟨7, _⟩ => ⟨S2x128x128, .f32⟩
  | .local .scVector .vmem, ⟨8, _⟩ => ⟨S2x1x128, .i32⟩
  | .local .scVector .vmem, ⟨9, _⟩ => ⟨S2x128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 80 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTables nBuf rfl bufTy 4 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_arg3_scv : Ref sig .scVector := ⟨.hbm, 3, rfl⟩
abbrev main_v7_scv : Ref sig .scVector := ⟨.hbm, 15, rfl⟩
abbrev main_v8_scv : Ref sig .scVector := ⟨.hbm, 16, rfl⟩
abbrev main_v9_scv : Ref sig .scVector := ⟨.hbm, 17, rfl⟩
abbrev main_v10_scv : Ref sig .scVector := ⟨.hbm, 18, rfl⟩
abbrev main_v11_scv : Ref sig .scVector := ⟨.hbm, 19, rfl⟩
abbrev main_v12_scv : Ref sig .scVector := ⟨.hbm, 20, rfl⟩
abbrev cc5_stg0_0 : Ref sig .tc := ⟨.vmem, 0, rfl⟩
abbrev cc5_stg0_1 : Ref sig .tc := ⟨.vmem, 1, rfl⟩
abbrev cc5_stg1_0 : Ref sig .tc := ⟨.vmem, 2, rfl⟩
abbrev cc5_stg1_1 : Ref sig .tc := ⟨.vmem, 3, rfl⟩
abbrev cc5_stg2_0 : Ref sig .tc := ⟨.vmem, 4, rfl⟩
abbrev cc5_stg2_1 : Ref sig .tc := ⟨.vmem, 5, rfl⟩
abbrev cc5_stg3_0 : Ref sig .tc := ⟨.vmem, 6, rfl⟩
abbrev cc5_stg4_0 : Ref sig .tc := ⟨.vmem, 7, rfl⟩
abbrev cc5_stg5_0 : Ref sig .tc := ⟨.vmem, 8, rfl⟩
abbrev cc5_stg6_0 : Ref sig .tc := ⟨.vmem, 9, rfl⟩
abbrev cc5_stg6_1 : Ref sig .tc := ⟨.vmem, 10, rfl⟩
abbrev cc6_stg0_0 : Ref sig .tc := ⟨.vmem, 11, rfl⟩
abbrev cc6_stg0_1 : Ref sig .tc := ⟨.vmem, 12, rfl⟩
abbrev cc6_stg1_0 : Ref sig .tc := ⟨.vmem, 13, rfl⟩
abbrev cc6_stg1_1 : Ref sig .tc := ⟨.vmem, 14, rfl⟩
abbrev cc6_stg2_0 : Ref sig .tc := ⟨.vmem, 15, rfl⟩
abbrev cc6_stg2_1 : Ref sig .tc := ⟨.vmem, 16, rfl⟩
abbrev cc6_stg3_0 : Ref sig .tc := ⟨.vmem, 17, rfl⟩
abbrev cc6_stg4_0 : Ref sig .tc := ⟨.vmem, 18, rfl⟩
abbrev cc6_stg5_0 : Ref sig .tc := ⟨.vmem, 19, rfl⟩
abbrev cc6_stg6_0 : Ref sig .tc := ⟨.vmem, 20, rfl⟩
abbrev cc6_stg6_1 : Ref sig .tc := ⟨.vmem, 21, rfl⟩
abbrev cc7_stg0_0 : Ref sig .tc := ⟨.vmem, 22, rfl⟩
abbrev cc7_stg0_1 : Ref sig .tc := ⟨.vmem, 23, rfl⟩
abbrev cc7_stg1_0 : Ref sig .tc := ⟨.vmem, 24, rfl⟩
abbrev cc7_stg1_1 : Ref sig .tc := ⟨.vmem, 25, rfl⟩
abbrev cc7_stg2_0 : Ref sig .tc := ⟨.vmem, 26, rfl⟩
abbrev cc7_stg2_1 : Ref sig .tc := ⟨.vmem, 27, rfl⟩
abbrev cc7_stg3_0 : Ref sig .tc := ⟨.vmem, 28, rfl⟩
abbrev cc7_stg4_0 : Ref sig .tc := ⟨.vmem, 29, rfl⟩
abbrev cc7_stg5_0 : Ref sig .tc := ⟨.vmem, 30, rfl⟩
abbrev cc7_stg6_0 : Ref sig .tc := ⟨.vmem, 31, rfl⟩
abbrev cc7_stg6_1 : Ref sig .tc := ⟨.vmem, 32, rfl⟩
abbrev cc8_stg0_0 : Ref sig .tc := ⟨.vmem, 33, rfl⟩
abbrev cc8_stg0_1 : Ref sig .tc := ⟨.vmem, 34, rfl⟩
abbrev cc8_stg1_0 : Ref sig .tc := ⟨.vmem, 35, rfl⟩
abbrev cc8_stg1_1 : Ref sig .tc := ⟨.vmem, 36, rfl⟩
abbrev cc8_stg2_0 : Ref sig .tc := ⟨.vmem, 37, rfl⟩
abbrev cc8_stg2_1 : Ref sig .tc := ⟨.vmem, 38, rfl⟩
abbrev cc8_stg3_0 : Ref sig .tc := ⟨.vmem, 39, rfl⟩
abbrev cc8_stg4_0 : Ref sig .tc := ⟨.vmem, 40, rfl⟩
abbrev cc8_stg5_0 : Ref sig .tc := ⟨.vmem, 41, rfl⟩
abbrev cc8_stg6_0 : Ref sig .tc := ⟨.vmem, 42, rfl⟩
abbrev cc8_stg6_1 : Ref sig .tc := ⟨.vmem, 43, rfl⟩
abbrev cc9_stg0_0 : Ref sig .tc := ⟨.vmem, 44, rfl⟩
abbrev cc9_stg0_1 : Ref sig .tc := ⟨.vmem, 45, rfl⟩
abbrev cc9_stg1_0 : Ref sig .tc := ⟨.vmem, 46, rfl⟩
abbrev cc9_stg1_1 : Ref sig .tc := ⟨.vmem, 47, rfl⟩
abbrev cc9_stg2_0 : Ref sig .tc := ⟨.vmem, 48, rfl⟩
abbrev cc9_stg2_1 : Ref sig .tc := ⟨.vmem, 49, rfl⟩
abbrev cc9_stg3_0 : Ref sig .tc := ⟨.vmem, 50, rfl⟩
abbrev cc9_stg4_0 : Ref sig .tc := ⟨.vmem, 51, rfl⟩
abbrev cc9_stg5_0 : Ref sig .tc := ⟨.vmem, 52, rfl⟩
abbrev cc9_stg6_0 : Ref sig .tc := ⟨.vmem, 53, rfl⟩
abbrev cc9_stg6_1 : Ref sig .tc := ⟨.vmem, 54, rfl⟩
abbrev cc0_scoped0 : Ref sig .scVector := ⟨.vmem, 0, rfl⟩
abbrev cc0_scoped2 : Ref sig .scVector := ⟨.vmem, 1, rfl⟩
abbrev cc1_scoped0 : Ref sig .scVector := ⟨.vmem, 2, rfl⟩
abbrev cc1_scoped2 : Ref sig .scVector := ⟨.vmem, 3, rfl⟩
abbrev cc2_scoped0 : Ref sig .scVector := ⟨.vmem, 4, rfl⟩
abbrev cc2_scoped2 : Ref sig .scVector := ⟨.vmem, 5, rfl⟩
abbrev cc3_scoped0 : Ref sig .scVector := ⟨.vmem, 6, rfl⟩
abbrev cc3_scoped2 : Ref sig .scVector := ⟨.vmem, 7, rfl⟩
abbrev cc4_scoped0 : Ref sig .scVector := ⟨.vmem, 8, rfl⟩
abbrev cc4_scoped2 : Ref sig .scVector := ⟨.vmem, 9, rfl⟩
abbrev cc5_sem0_0 : DmaSem sig := 25
abbrev cc5_sem0_1 : DmaSem sig := 26
abbrev cc5_sem1_0 : DmaSem sig := 27
abbrev cc5_sem1_1 : DmaSem sig := 28
abbrev cc5_sem2_0 : DmaSem sig := 29
abbrev cc5_sem2_1 : DmaSem sig := 30
abbrev cc5_sem3_0 : DmaSem sig := 31
abbrev cc5_sem4_0 : DmaSem sig := 32
abbrev cc5_sem5_0 : DmaSem sig := 33
abbrev cc5_sem6_0 : DmaSem sig := 34
abbrev cc5_sem6_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc6_sem3_0 : DmaSem sig := 42
abbrev cc6_sem4_0 : DmaSem sig := 43
abbrev cc6_sem5_0 : DmaSem sig := 44
abbrev cc6_sem6_0 : DmaSem sig := 45
abbrev cc6_sem6_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem5_0 : DmaSem sig := 55
abbrev cc7_sem6_0 : DmaSem sig := 56
abbrev cc7_sem6_1 : DmaSem sig := 57
abbrev cc8_sem0_0 : DmaSem sig := 58
abbrev cc8_sem0_1 : DmaSem sig := 59
abbrev cc8_sem1_0 : DmaSem sig := 60
abbrev cc8_sem1_1 : DmaSem sig := 61
abbrev cc8_sem2_0 : DmaSem sig := 62
abbrev cc8_sem2_1 : DmaSem sig := 63
abbrev cc8_sem3_0 : DmaSem sig := 64
abbrev cc8_sem4_0 : DmaSem sig := 65
abbrev cc8_sem5_0 : DmaSem sig := 66
abbrev cc8_sem6_0 : DmaSem sig := 67
abbrev cc8_sem6_1 : DmaSem sig := 68
abbrev cc9_sem0_0 : DmaSem sig := 69
abbrev cc9_sem0_1 : DmaSem sig := 70
abbrev cc9_sem1_0 : DmaSem sig := 71
abbrev cc9_sem1_1 : DmaSem sig := 72
abbrev cc9_sem2_0 : DmaSem sig := 73
abbrev cc9_sem2_1 : DmaSem sig := 74
abbrev cc9_sem3_0 : DmaSem sig := 75
abbrev cc9_sem4_0 : DmaSem sig := 76
abbrev cc9_sem5_0 : DmaSem sig := 77
abbrev cc9_sem6_0 : DmaSem sig := 78
abbrev cc9_sem6_1 : DmaSem sig := 79
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_16_r0 : BitVec 32 := 0#32
  let c0_i32_17_r0 : BitVec 32 := 0#32
  ![v21_r0.toNat, 0, 0]
def k0_off2 (i : grid0.Coords) : Fin 2 → Nat :=
  let c1_i32_15_r0 : BitVec 32 := 1#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v7_r0 : BitVec 32 := Scalar.addi c0_i32_1_r0 v4
  let c0_i32_14_r0 : BitVec 32 := 0#32
  let v22_r0 : BitVec 32 := Scalar.addi v7_r0 c0_i32_14_r0
  let v23_r0 : BitVec 32 := Scalar.muli c1_i32_15_r0 v22_r0
  let c0_i32_18_r0 : BitVec 32 := 0#32
  ![v23_r0.toNat, 0]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_28_r0 : BitVec 32 := 0#32
  let c10_i32_29_r0 : BitVec 32 := 10#32
  let v33_r0 : BitVec 32 := Scalar.addi c0_i32_28_r0 c10_i32_29_r0
  let c1_i32_30_r0 : BitVec 32 := 1#32
  ⟨c0_i32_28_r0, v33_r0, c1_i32_30_r0⟩
def k0_off4 (arg6_r0 : BitVec 32) : Fin 3 → Nat :=
  let c2_i32_103_r0 : BitVec 32 := 2#32
  let v148_r0 : BitVec 32 := Scalar.remui arg6_r0 c2_i32_103_r0
  let c0_i32_106_r0 : BitVec 32 := 0#32
  let c0_i32_107_r0 : BitVec 32 := 0#32
  ![v148_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let c0_i32_69_r0 : BitVec 32 := 0#32
  let v83_r0 : BitVec 32 := Scalar.addi v67_r0 c0_i32_69_r0
  let true_62_r0 : BitVec 1 := 1#1
  let c1_i32_61_r0 : BitVec 32 := 1#32
  let v73_r0 : BitVec 32 := Scalar.addi arg10_r0 c1_i32_61_r0
  let v74_r0 : BitVec 32 := Scalar.select true_62_r0 v73_r0 arg10_r0
  let c10_i32_63_r0 : BitVec 32 := 10#32
  let v75_r0 : BitVec 1 := Scalar.cmpi .eq v74_r0 c10_i32_63_r0
  let c0_i32_64_r0 : BitVec 32 := 0#32
  let v76_r0 : BitVec 32 := Scalar.select v75_r0 c0_i32_64_r0 v74_r0
  let v77_r0 : BitVec 32 := Scalar.addi v76_r0 v4
  let c0_i32_70_r0 : BitVec 32 := 0#32
  let v84_r0 : BitVec 32 := Scalar.addi v77_r0 c0_i32_70_r0
  let v85_r0 : BitVec 1 := Scalar.cmpi .ne v83_r0 v84_r0
  let c0_i32_28_r0 : BitVec 32 := 0#32
  let c1_i32_30_r0 : BitVec 32 := 1#32
  let arg5_r0 : BitVec 32 := Scf.iv c0_i32_28_r0 c1_i32_30_r0 k0_t1
  let c9_i32_71_r0 : BitVec 32 := 9#32
  let v86_r0 : BitVec 1 := Scalar.cmpi .sge arg5_r0 c9_i32_71_r0
  let true_72_r0 : BitVec 1 := 1#1
  let v87_r0 : BitVec 1 := Scalar.xori v86_r0 true_72_r0
  let v88_r0 : BitVec 1 := Scalar.andi v85_r0 v87_r0
  let true_73_r0 : BitVec 1 := 1#1
  let v89_r0 : BitVec 1 := Scalar.andi v88_r0 true_73_r0
  let v90_r0 : BitVec 32 := Scalar.extui v89_r0
  let c0_i32_74_r0 : BitVec 32 := 0#32
  let v91_r0 : BitVec 1 := Scalar.cmpi .ne v90_r0 c0_i32_74_r0
  v91_r0

def k0_off5 (i : grid0.Coords) (arg10_r0 : BitVec 32) : Fin 2 → Nat :=
  let c1_i32_105_r0 : BitVec 32 := 1#32
  let true_62_r0 : BitVec 1 := 1#1
  let c1_i32_61_r0 : BitVec 32 := 1#32
  let v73_r0 : BitVec 32 := Scalar.addi arg10_r0 c1_i32_61_r0
  let v74_r0 : BitVec 32 := Scalar.select true_62_r0 v73_r0 arg10_r0
  let c10_i32_63_r0 : BitVec 32 := 10#32
  let v75_r0 : BitVec 1 := Scalar.cmpi .eq v74_r0 c10_i32_63_r0
  let c0_i32_64_r0 : BitVec 32 := 0#32
  let v76_r0 : BitVec 32 := Scalar.select v75_r0 c0_i32_64_r0 v74_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v77_r0 : BitVec 32 := Scalar.addi v76_r0 v4
  let c0_i32_104_r0 : BitVec 32 := 0#32
  let v149_r0 : BitVec 32 := Scalar.addi v77_r0 c0_i32_104_r0
  let v150_r0 : BitVec 32 := Scalar.muli c1_i32_105_r0 v149_r0
  let c0_i32_108_r0 : BitVec 32 := 0#32
  ![v150_r0.toNat, 0]
def k0_off6 (arg6_r0 : BitVec 32) : Fin 1 → Nat :=
  let c2_i32_103_r0 : BitVec 32 := 2#32
  let v148_r0 : BitVec 32 := Scalar.remui arg6_r0 c2_i32_103_r0
  ![v148_r0.toNat]
def k0_off7 (arg7_r0 : BitVec 32) : Fin 3 → Nat :=
  let c2_i32_105_r0 : BitVec 32 := 2#32
  let v150_r0 : BitVec 32 := Scalar.remui arg7_r0 c2_i32_105_r0
  let c0_i32_106_r0 : BitVec 32 := 0#32
  let c0_i32_107_r0 : BitVec 32 := 0#32
  ![v150_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let c0_i32_69_r0 : BitVec 32 := 0#32
  let v83_r0 : BitVec 32 := Scalar.addi v67_r0 c0_i32_69_r0
  let true_58_r0 : BitVec 1 := 1#1
  let c1_i32_57_r0 : BitVec 32 := 1#32
  let v68_r0 : BitVec 32 := Scalar.subi arg10_r0 c1_i32_57_r0
  let v69_r0 : BitVec 32 := Scalar.select true_58_r0 v68_r0 arg10_r0
  let c_m1_i32_59_r0 : BitVec 32 := 4294967295#32
  let v70_r0 : BitVec 1 := Scalar.cmpi .eq v69_r0 c_m1_i32_59_r0
  let c9_i32_60_r0 : BitVec 32 := 9#32
  let v71_r0 : BitVec 32 := Scalar.select v70_r0 c9_i32_60_r0 v69_r0
  let v72_r0 : BitVec 32 := Scalar.addi v71_r0 v4
  let c0_i32_79_r0 : BitVec 32 := 0#32
  let v99_r0 : BitVec 32 := Scalar.addi v72_r0 c0_i32_79_r0
  let v100_r0 : BitVec 1 := Scalar.cmpi .ne v83_r0 v99_r0
  let c0_i32_28_r0 : BitVec 32 := 0#32
  let c1_i32_30_r0 : BitVec 32 := 1#32
  let arg5_r0 : BitVec 32 := Scf.iv c0_i32_28_r0 c1_i32_30_r0 k0_t1
  let c0_i32_55_r0 : BitVec 32 := 0#32
  let v65_r0 : BitVec 1 := Scalar.cmpi .eq arg5_r0 c0_i32_55_r0
  let v101_r0 : BitVec 1 := Scalar.ori v100_r0 v65_r0
  let c0_i32_80_r0 : BitVec 32 := 0#32
  let v102_r0 : BitVec 1 := Scalar.cmpi .sge arg5_r0 c0_i32_80_r0
  let v103_r0 : BitVec 1 := Scalar.andi v101_r0 v102_r0
  let v104_r0 : BitVec 32 := Scalar.extui v103_r0
  let c0_i32_81_r0 : BitVec 32 := 0#32
  let v105_r0 : BitVec 1 := Scalar.cmpi .ne v104_r0 c0_i32_81_r0
  v105_r0

def k0_off8 (i : grid0.Coords) (arg10_r0 : BitVec 32) : Fin 2 → Nat :=
  let c1_i32_104_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let c0_i32_103_r0 : BitVec 32 := 0#32
  let v148_r0 : BitVec 32 := Scalar.addi v67_r0 c0_i32_103_r0
  let v149_r0 : BitVec 32 := Scalar.muli c1_i32_104_r0 v148_r0
  let c0_i32_108_r0 : BitVec 32 := 0#32
  ![v149_r0.toNat, 0]
def k0_off9 (arg7_r0 : BitVec 32) : Fin 1 → Nat :=
  let c2_i32_105_r0 : BitVec 32 := 2#32
  let v150_r0 : BitVec 32 := Scalar.remui arg7_r0 c2_i32_105_r0
  ![v150_r0.toNat]
def k0_off10 (arg8_r0 : BitVec 32) : Fin 3 → Nat :=
  let c2_i32_85_r0 : BitVec 32 := 2#32
  let v113_r0 : BitVec 32 := Scalar.remui arg8_r0 c2_i32_85_r0
  let c0_i32_103_r1 : BitVec 32 := 0#32
  let c0_i32_104_r1 : BitVec 32 := 0#32
  ![v113_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_84_r0 : BitVec 32 := 2#32
  let v112_r0 : BitVec 32 := Scalar.remui arg7_r0 c2_i32_84_r0
  let c0_i32_105_r1 : BitVec 32 := 0#32
  let c0_i32_106_r1 : BitVec 32 := 0#32
  ![v112_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_103_r0 : BitVec 32 := 2#32
  let v148_r0 : BitVec 32 := Scalar.remui arg8_r0 c2_i32_103_r0
  let c0_i32_105_r0 : BitVec 32 := 0#32
  let c0_i32_106_r0 : BitVec 32 := 0#32
  ![v148_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let true_62_r0 : BitVec 1 := 1#1
  let c1_i32_61_r0 : BitVec 32 := 1#32
  let v73_r0 : BitVec 32 := Scalar.addi arg10_r0 c1_i32_61_r0
  let v74_r0 : BitVec 32 := Scalar.select true_62_r0 v73_r0 arg10_r0
  let c10_i32_63_r0 : BitVec 32 := 10#32
  let v75_r0 : BitVec 1 := Scalar.cmpi .eq v74_r0 c10_i32_63_r0
  let c0_i32_64_r0 : BitVec 32 := 0#32
  let v76_r0 : BitVec 32 := Scalar.select v75_r0 c0_i32_64_r0 v74_r0
  let v77_r0 : BitVec 32 := Scalar.addi v76_r0 v4
  let v119_r0 : BitVec 1 := Scalar.cmpi .ne v67_r0 v77_r0
  let c0_i32_28_r0 : BitVec 32 := 0#32
  let c1_i32_30_r0 : BitVec 32 := 1#32
  let arg5_r0 : BitVec 32 := Scf.iv c0_i32_28_r0 c1_i32_30_r0 k0_t1
  let c9_i32_56_r0 : BitVec 32 := 9#32
  let v66_r0 : BitVec 1 := Scalar.cmpi .eq arg5_r0 c9_i32_56_r0
  let v120_r0 : BitVec 1 := Scalar.ori v119_r0 v66_r0
  let v121_r0 : BitVec 32 := Scalar.extui v120_r0
  let c0_i32_88_r0 : BitVec 32 := 0#32
  let v122_r0 : BitVec 1 := Scalar.cmpi .ne v121_r0 c0_i32_88_r0
  v122_r0

def k0_off13 (i : grid0.Coords) (arg10_r0 : BitVec 32) : Fin 2 → Nat :=
  let c128_i32_104_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let v149_r0 : BitVec 32 := Scalar.muli c128_i32_104_r0 v67_r0
  let c0_i32_107_r0 : BitVec 32 := 0#32
  ![v149_r0.toNat, 0]
def k0_off14 (arg8_r0 : BitVec 32) : Fin 1 → Nat :=
  let c2_i32_103_r0 : BitVec 32 := 2#32
  let v148_r0 : BitVec 32 := Scalar.remui arg8_r0 c2_i32_103_r0
  ![v148_r0.toNat]
def k0_off15 (arg9_r0 : BitVec 32) : Fin 3 → Nat :=
  let c2_i32_103_r0 : BitVec 32 := 2#32
  let v148_r0 : BitVec 32 := Scalar.remui arg9_r0 c2_i32_103_r0
  let c0_i32_105_r0 : BitVec 32 := 0#32
  let c0_i32_106_r0 : BitVec 32 := 0#32
  ![v148_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let true_58_r0 : BitVec 1 := 1#1
  let c1_i32_57_r0 : BitVec 32 := 1#32
  let v68_r0 : BitVec 32 := Scalar.subi arg10_r0 c1_i32_57_r0
  let v69_r0 : BitVec 32 := Scalar.select true_58_r0 v68_r0 arg10_r0
  let c_m1_i32_59_r0 : BitVec 32 := 4294967295#32
  let v70_r0 : BitVec 1 := Scalar.cmpi .eq v69_r0 c_m1_i32_59_r0
  let c9_i32_60_r0 : BitVec 32 := 9#32
  let v71_r0 : BitVec 32 := Scalar.select v70_r0 c9_i32_60_r0 v69_r0
  let v72_r0 : BitVec 32 := Scalar.addi v71_r0 v4
  let v132_r0 : BitVec 1 := Scalar.cmpi .ne v67_r0 v72_r0
  let c0_i32_28_r0 : BitVec 32 := 0#32
  let c1_i32_30_r0 : BitVec 32 := 1#32
  let arg5_r0 : BitVec 32 := Scf.iv c0_i32_28_r0 c1_i32_30_r0 k0_t1
  let c0_i32_55_r0 : BitVec 32 := 0#32
  let v65_r0 : BitVec 1 := Scalar.cmpi .eq arg5_r0 c0_i32_55_r0
  let true_94_r0 : BitVec 1 := 1#1
  let v133_r0 : BitVec 1 := Scalar.xori v65_r0 true_94_r0
  let v134_r0 : BitVec 1 := Scalar.andi v132_r0 v133_r0
  let v135_r0 : BitVec 32 := Scalar.extui v134_r0
  let c0_i32_95_r0 : BitVec 32 := 0#32
  let v136_r0 : BitVec 1 := Scalar.cmpi .ne v135_r0 c0_i32_95_r0
  v136_r0

def k0_off16 (i : grid0.Coords) (arg10_r0 : BitVec 32) : Fin 2 → Nat :=
  let c128_i32_104_r0 : BitVec 32 := 128#32
  let true_58_r0 : BitVec 1 := 1#1
  let c1_i32_57_r0 : BitVec 32 := 1#32
  let v68_r0 : BitVec 32 := Scalar.subi arg10_r0 c1_i32_57_r0
  let v69_r0 : BitVec 32 := Scalar.select true_58_r0 v68_r0 arg10_r0
  let c_m1_i32_59_r0 : BitVec 32 := 4294967295#32
  let v70_r0 : BitVec 1 := Scalar.cmpi .eq v69_r0 c_m1_i32_59_r0
  let c9_i32_60_r0 : BitVec 32 := 9#32
  let v71_r0 : BitVec 32 := Scalar.select v70_r0 c9_i32_60_r0 v69_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v72_r0 : BitVec 32 := Scalar.addi v71_r0 v4
  let v149_r0 : BitVec 32 := Scalar.muli c128_i32_104_r0 v72_r0
  let c0_i32_107_r0 : BitVec 32 := 0#32
  ![v149_r0.toNat, 0]
def k0_off17 (arg9_r0 : BitVec 32) : Fin 1 → Nat :=
  let c2_i32_103_r0 : BitVec 32 := 2#32
  let v148_r0 : BitVec 32 := Scalar.remui arg9_r0 c2_i32_103_r0
  ![v148_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1600x128.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1600x128.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S40960x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S40960x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1600x128.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1600x128.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S40960x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S40960x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v34_3_r0 : BitVec 32) : Fin 3 → Nat :=
  let c2_i32_48_r0 : BitVec 32 := 2#32
  let v55_r0 : BitVec 32 := Scalar.remui v34_3_r0 c2_i32_48_r0
  let c0_i32_49_r0 : BitVec 32 := 0#32
  let c0_i32_50_r0 : BitVec 32 := 0#32
  ![v55_r0.toNat, 0, 0]

def k0_off19 (i : grid0.Coords) (v34_4_r0 : BitVec 32) : Fin 2 → Nat :=
  let c128_i32_r0 : BitVec 32 := 128#32
  let true_33_r0 : BitVec 1 := 1#1
  let c1_i32_32_r0 : BitVec 32 := 1#32
  let v35_r0 : BitVec 32 := Scalar.subi v34_4_r0 c1_i32_32_r0
  let v36_r0 : BitVec 32 := Scalar.select true_33_r0 v35_r0 v34_4_r0
  let c_m1_i32_34_r0 : BitVec 32 := 4294967295#32
  let v37_r0 : BitVec 1 := Scalar.cmpi .eq v36_r0 c_m1_i32_34_r0
  let c9_i32_35_r0 : BitVec 32 := 9#32
  let v38_r0 : BitVec 32 := Scalar.select v37_r0 c9_i32_35_r0 v36_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v39_r0 : BitVec 32 := Scalar.addi v38_r0 v4
  let v56_r0 : BitVec 32 := Scalar.muli c128_i32_r0 v39_r0
  let c0_i32_51_r0 : BitVec 32 := 0#32
  ![v56_r0.toNat, 0]

def k0_chk5 (i : grid0.Coords) (v34_4_r0 : BitVec 32) : Prop :=
  (∀ a, (k0_off19 i v34_4_r0) a + S128x128.size a ≤ S40960x128.size a)
theorem k0_off19_inb : ∀ (i : grid0.Coords) (v34_4_r0 : BitVec 32) (k0_hw5 : k0_chk5 i v34_4_r0), ∀ a, (k0_off19 i v34_4_r0) a + S128x128.size a ≤ S40960x128.size a := fun i v34_4_r0 k0_hw5 => k0_hw5

def k0_off20 (v34_3_r0 : BitVec 32) : Fin 1 → Nat :=
  let c2_i32_48_r0 : BitVec 32 := 2#32
  let v55_r0 : BitVec 32 := Scalar.remui v34_3_r0 c2_i32_48_r0
  ![v55_r0.toNat]
def k0_off21 (v34_3_r0 : BitVec 32) : Fin 3 → Nat :=
  let c2_i32_48_r0 : BitVec 32 := 2#32
  let v55_r0 : BitVec 32 := Scalar.remui v34_3_r0 c2_i32_48_r0
  let c0_i32_53_r0 : BitVec 32 := 0#32
  let c0_i32_54_r0 : BitVec 32 := 0#32
  ![v55_r0.toNat, 0, 0]

def k0_chk4 (v34_3_r0 : BitVec 32) : Prop :=
  (∀ a, (k0_off18 v34_3_r0) a + S1x128x128.size a ≤ S2x128x128.size a) ∧
  (∀ a, (k0_off20 v34_3_r0) a + S1.size a ≤ S2.size a) ∧
  (∀ a, (k0_off21 v34_3_r0) a + S1x128x128.size a ≤ S2x128x128.size a)
theorem k0_off18_inb : ∀ (v34_3_r0 : BitVec 32) (k0_hw4 : k0_chk4 v34_3_r0), ∀ a, (k0_off18 v34_3_r0) a + S1x128x128.size a ≤ S2x128x128.size a := fun v34_3_r0 k0_hw4 => k0_hw4.1
theorem k0_off20_inb : ∀ (v34_3_r0 : BitVec 32) (k0_hw4 : k0_chk4 v34_3_r0), ∀ a, (k0_off20 v34_3_r0) a + S1.size a ≤ S2.size a := fun v34_3_r0 k0_hw4 => k0_hw4.2.1
theorem k0_off21_inb : ∀ (v34_3_r0 : BitVec 32) (k0_hw4 : k0_chk4 v34_3_r0), ∀ a, (k0_off21 v34_3_r0) a + S1x128x128.size a ≤ S2x128x128.size a := fun v34_3_r0 k0_hw4 => k0_hw4.2.2

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_15_r0 : BitVec 32 := 0#32
  let c0_i32_16_r0 : BitVec 32 := 0#32
  ![v21_r0.toNat, 0, 0]
def k1_off2 (i : grid1.Coords) : Fin 2 → Nat :=
  let c1_i32_14_r0 : BitVec 32 := 1#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v7_r0 : BitVec 32 := Scalar.addi c0_i32_1_r0 v4
  let c320_i32_r0 : BitVec 32 := 320#32
  let v22_r0 : BitVec 32 := Scalar.addi v7_r0 c320_i32_r0
  let v23_r0 : BitVec 32 := Scalar.muli c1_i32_14_r0 v22_r0
  let c0_i32_17_r0 : BitVec 32 := 0#32
  ![v23_r0.toNat, 0]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_27_r0 : BitVec 32 := 0#32
  let c10_i32_28_r0 : BitVec 32 := 10#32
  let v33_r0 : BitVec 32 := Scalar.addi c0_i32_27_r0 c10_i32_28_r0
  let c1_i32_29_r0 : BitVec 32 := 1#32
  ⟨c0_i32_27_r0, v33_r0, c1_i32_29_r0⟩
def k1_off4 (arg6_r0 : BitVec 32) : Fin 3 → Nat :=
  let c2_i32_102_r0 : BitVec 32 := 2#32
  let v148_r0 : BitVec 32 := Scalar.remui arg6_r0 c2_i32_102_r0
  let c0_i32_105_r0 : BitVec 32 := 0#32
  let c0_i32_106_r0 : BitVec 32 := 0#32
  ![v148_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let c320_i32_68_r0 : BitVec 32 := 320#32
  let v83_r0 : BitVec 32 := Scalar.addi v67_r0 c320_i32_68_r0
  let true_61_r0 : BitVec 1 := 1#1
  let c1_i32_60_r0 : BitVec 32 := 1#32
  let v73_r0 : BitVec 32 := Scalar.addi arg10_r0 c1_i32_60_r0
  let v74_r0 : BitVec 32 := Scalar.select true_61_r0 v73_r0 arg10_r0
  let c10_i32_62_r0 : BitVec 32 := 10#32
  let v75_r0 : BitVec 1 := Scalar.cmpi .eq v74_r0 c10_i32_62_r0
  let c0_i32_63_r0 : BitVec 32 := 0#32
  let v76_r0 : BitVec 32 := Scalar.select v75_r0 c0_i32_63_r0 v74_r0
  let v77_r0 : BitVec 32 := Scalar.addi v76_r0 v4
  let c320_i32_69_r0 : BitVec 32 := 320#32
  let v84_r0 : BitVec 32 := Scalar.addi v77_r0 c320_i32_69_r0
  let v85_r0 : BitVec 1 := Scalar.cmpi .ne v83_r0 v84_r0
  let c0_i32_27_r0 : BitVec 32 := 0#32
  let c1_i32_29_r0 : BitVec 32 := 1#32
  let arg5_r0 : BitVec 32 := Scf.iv c0_i32_27_r0 c1_i32_29_r0 k1_t1
  let c9_i32_70_r0 : BitVec 32 := 9#32
  let v86_r0 : BitVec 1 := Scalar.cmpi .sge arg5_r0 c9_i32_70_r0
  let true_71_r0 : BitVec 1 := 1#1
  let v87_r0 : BitVec 1 := Scalar.xori v86_r0 true_71_r0
  let v88_r0 : BitVec 1 := Scalar.andi v85_r0 v87_r0
  let true_72_r0 : BitVec 1 := 1#1
  let v89_r0 : BitVec 1 := Scalar.andi v88_r0 true_72_r0
  let v90_r0 : BitVec 32 := Scalar.extui v89_r0
  let c0_i32_73_r0 : BitVec 32 := 0#32
  let v91_r0 : BitVec 1 := Scalar.cmpi .ne v90_r0 c0_i32_73_r0
  v91_r0

def k1_off5 (i : grid1.Coords) (arg10_r0 : BitVec 32) : Fin 2 → Nat :=
  let c1_i32_104_r0 : BitVec 32 := 1#32
  let true_61_r0 : BitVec 1 := 1#1
  let c1_i32_60_r0 : BitVec 32 := 1#32
  let v73_r0 : BitVec 32 := Scalar.addi arg10_r0 c1_i32_60_r0
  let v74_r0 : BitVec 32 := Scalar.select true_61_r0 v73_r0 arg10_r0
  let c10_i32_62_r0 : BitVec 32 := 10#32
  let v75_r0 : BitVec 1 := Scalar.cmpi .eq v74_r0 c10_i32_62_r0
  let c0_i32_63_r0 : BitVec 32 := 0#32
  let v76_r0 : BitVec 32 := Scalar.select v75_r0 c0_i32_63_r0 v74_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v77_r0 : BitVec 32 := Scalar.addi v76_r0 v4
  let c320_i32_103_r0 : BitVec 32 := 320#32
  let v149_r0 : BitVec 32 := Scalar.addi v77_r0 c320_i32_103_r0
  let v150_r0 : BitVec 32 := Scalar.muli c1_i32_104_r0 v149_r0
  let c0_i32_107_r0 : BitVec 32 := 0#32
  ![v150_r0.toNat, 0]
def k1_off6 (arg6_r0 : BitVec 32) : Fin 1 → Nat :=
  let c2_i32_102_r0 : BitVec 32 := 2#32
  let v148_r0 : BitVec 32 := Scalar.remui arg6_r0 c2_i32_102_r0
  ![v148_r0.toNat]
def k1_off7 (arg7_r0 : BitVec 32) : Fin 3 → Nat :=
  let c2_i32_104_r0 : BitVec 32 := 2#32
  let v150_r0 : BitVec 32 := Scalar.remui arg7_r0 c2_i32_104_r0
  let c0_i32_105_r0 : BitVec 32 := 0#32
  let c0_i32_106_r0 : BitVec 32 := 0#32
  ![v150_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let c320_i32_68_r0 : BitVec 32 := 320#32
  let v83_r0 : BitVec 32 := Scalar.addi v67_r0 c320_i32_68_r0
  let true_57_r0 : BitVec 1 := 1#1
  let c1_i32_56_r0 : BitVec 32 := 1#32
  let v68_r0 : BitVec 32 := Scalar.subi arg10_r0 c1_i32_56_r0
  let v69_r0 : BitVec 32 := Scalar.select true_57_r0 v68_r0 arg10_r0
  let c_m1_i32_58_r0 : BitVec 32 := 4294967295#32
  let v70_r0 : BitVec 1 := Scalar.cmpi .eq v69_r0 c_m1_i32_58_r0
  let c9_i32_59_r0 : BitVec 32 := 9#32
  let v71_r0 : BitVec 32 := Scalar.select v70_r0 c9_i32_59_r0 v69_r0
  let v72_r0 : BitVec 32 := Scalar.addi v71_r0 v4
  let c320_i32_78_r0 : BitVec 32 := 320#32
  let v99_r0 : BitVec 32 := Scalar.addi v72_r0 c320_i32_78_r0
  let v100_r0 : BitVec 1 := Scalar.cmpi .ne v83_r0 v99_r0
  let c0_i32_27_r0 : BitVec 32 := 0#32
  let c1_i32_29_r0 : BitVec 32 := 1#32
  let arg5_r0 : BitVec 32 := Scf.iv c0_i32_27_r0 c1_i32_29_r0 k1_t1
  let c0_i32_54_r0 : BitVec 32 := 0#32
  let v65_r0 : BitVec 1 := Scalar.cmpi .eq arg5_r0 c0_i32_54_r0
  let v101_r0 : BitVec 1 := Scalar.ori v100_r0 v65_r0
  let c0_i32_79_r0 : BitVec 32 := 0#32
  let v102_r0 : BitVec 1 := Scalar.cmpi .sge arg5_r0 c0_i32_79_r0
  let v103_r0 : BitVec 1 := Scalar.andi v101_r0 v102_r0
  let v104_r0 : BitVec 32 := Scalar.extui v103_r0
  let c0_i32_80_r0 : BitVec 32 := 0#32
  let v105_r0 : BitVec 1 := Scalar.cmpi .ne v104_r0 c0_i32_80_r0
  v105_r0

def k1_off8 (i : grid1.Coords) (arg10_r0 : BitVec 32) : Fin 2 → Nat :=
  let c1_i32_103_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let c320_i32_102_r0 : BitVec 32 := 320#32
  let v148_r0 : BitVec 32 := Scalar.addi v67_r0 c320_i32_102_r0
  let v149_r0 : BitVec 32 := Scalar.muli c1_i32_103_r0 v148_r0
  let c0_i32_107_r0 : BitVec 32 := 0#32
  ![v149_r0.toNat, 0]
def k1_off9 (arg7_r0 : BitVec 32) : Fin 1 → Nat :=
  let c2_i32_104_r0 : BitVec 32 := 2#32
  let v150_r0 : BitVec 32 := Scalar.remui arg7_r0 c2_i32_104_r0
  ![v150_r0.toNat]
def k1_off10 (arg8_r0 : BitVec 32) : Fin 3 → Nat :=
  let c2_i32_84_r0 : BitVec 32 := 2#32
  let v113_r0 : BitVec 32 := Scalar.remui arg8_r0 c2_i32_84_r0
  let c0_i32_102_r1 : BitVec 32 := 0#32
  let c0_i32_103_r1 : BitVec 32 := 0#32
  ![v113_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_83_r0 : BitVec 32 := 2#32
  let v112_r0 : BitVec 32 := Scalar.remui arg7_r0 c2_i32_83_r0
  let c0_i32_104_r1 : BitVec 32 := 0#32
  let c0_i32_105_r1 : BitVec 32 := 0#32
  ![v112_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_102_r0 : BitVec 32 := 2#32
  let v148_r0 : BitVec 32 := Scalar.remui arg8_r0 c2_i32_102_r0
  let c0_i32_104_r0 : BitVec 32 := 0#32
  let c0_i32_105_r0 : BitVec 32 := 0#32
  ![v148_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let true_61_r0 : BitVec 1 := 1#1
  let c1_i32_60_r0 : BitVec 32 := 1#32
  let v73_r0 : BitVec 32 := Scalar.addi arg10_r0 c1_i32_60_r0
  let v74_r0 : BitVec 32 := Scalar.select true_61_r0 v73_r0 arg10_r0
  let c10_i32_62_r0 : BitVec 32 := 10#32
  let v75_r0 : BitVec 1 := Scalar.cmpi .eq v74_r0 c10_i32_62_r0
  let c0_i32_63_r0 : BitVec 32 := 0#32
  let v76_r0 : BitVec 32 := Scalar.select v75_r0 c0_i32_63_r0 v74_r0
  let v77_r0 : BitVec 32 := Scalar.addi v76_r0 v4
  let v119_r0 : BitVec 1 := Scalar.cmpi .ne v67_r0 v77_r0
  let c0_i32_27_r0 : BitVec 32 := 0#32
  let c1_i32_29_r0 : BitVec 32 := 1#32
  let arg5_r0 : BitVec 32 := Scf.iv c0_i32_27_r0 c1_i32_29_r0 k1_t1
  let c9_i32_55_r0 : BitVec 32 := 9#32
  let v66_r0 : BitVec 1 := Scalar.cmpi .eq arg5_r0 c9_i32_55_r0
  let v120_r0 : BitVec 1 := Scalar.ori v119_r0 v66_r0
  let v121_r0 : BitVec 32 := Scalar.extui v120_r0
  let c0_i32_87_r0 : BitVec 32 := 0#32
  let v122_r0 : BitVec 1 := Scalar.cmpi .ne v121_r0 c0_i32_87_r0
  v122_r0

def k1_off13 (i : grid1.Coords) (arg10_r0 : BitVec 32) : Fin 2 → Nat :=
  let c128_i32_103_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let v149_r0 : BitVec 32 := Scalar.muli c128_i32_103_r0 v67_r0
  let c0_i32_106_r0 : BitVec 32 := 0#32
  ![v149_r0.toNat, 0]
def k1_off14 (arg8_r0 : BitVec 32) : Fin 1 → Nat :=
  let c2_i32_102_r0 : BitVec 32 := 2#32
  let v148_r0 : BitVec 32 := Scalar.remui arg8_r0 c2_i32_102_r0
  ![v148_r0.toNat]
def k1_off15 (arg9_r0 : BitVec 32) : Fin 3 → Nat :=
  let c2_i32_102_r0 : BitVec 32 := 2#32
  let v148_r0 : BitVec 32 := Scalar.remui arg9_r0 c2_i32_102_r0
  let c0_i32_104_r0 : BitVec 32 := 0#32
  let c0_i32_105_r0 : BitVec 32 := 0#32
  ![v148_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let true_57_r0 : BitVec 1 := 1#1
  let c1_i32_56_r0 : BitVec 32 := 1#32
  let v68_r0 : BitVec 32 := Scalar.subi arg10_r0 c1_i32_56_r0
  let v69_r0 : BitVec 32 := Scalar.select true_57_r0 v68_r0 arg10_r0
  let c_m1_i32_58_r0 : BitVec 32 := 4294967295#32
  let v70_r0 : BitVec 1 := Scalar.cmpi .eq v69_r0 c_m1_i32_58_r0
  let c9_i32_59_r0 : BitVec 32 := 9#32
  let v71_r0 : BitVec 32 := Scalar.select v70_r0 c9_i32_59_r0 v69_r0
  let v72_r0 : BitVec 32 := Scalar.addi v71_r0 v4
  let v132_r0 : BitVec 1 := Scalar.cmpi .ne v67_r0 v72_r0
  let c0_i32_27_r0 : BitVec 32 := 0#32
  let c1_i32_29_r0 : BitVec 32 := 1#32
  let arg5_r0 : BitVec 32 := Scf.iv c0_i32_27_r0 c1_i32_29_r0 k1_t1
  let c0_i32_54_r0 : BitVec 32 := 0#32
  let v65_r0 : BitVec 1 := Scalar.cmpi .eq arg5_r0 c0_i32_54_r0
  let true_93_r0 : BitVec 1 := 1#1
  let v133_r0 : BitVec 1 := Scalar.xori v65_r0 true_93_r0
  let v134_r0 : BitVec 1 := Scalar.andi v132_r0 v133_r0
  let v135_r0 : BitVec 32 := Scalar.extui v134_r0
  let c0_i32_94_r0 : BitVec 32 := 0#32
  let v136_r0 : BitVec 1 := Scalar.cmpi .ne v135_r0 c0_i32_94_r0
  v136_r0

def k1_off16 (i : grid1.Coords) (arg10_r0 : BitVec 32) : Fin 2 → Nat :=
  let c128_i32_103_r0 : BitVec 32 := 128#32
  let true_57_r0 : BitVec 1 := 1#1
  let c1_i32_56_r0 : BitVec 32 := 1#32
  let v68_r0 : BitVec 32 := Scalar.subi arg10_r0 c1_i32_56_r0
  let v69_r0 : BitVec 32 := Scalar.select true_57_r0 v68_r0 arg10_r0
  let c_m1_i32_58_r0 : BitVec 32 := 4294967295#32
  let v70_r0 : BitVec 1 := Scalar.cmpi .eq v69_r0 c_m1_i32_58_r0
  let c9_i32_59_r0 : BitVec 32 := 9#32
  let v71_r0 : BitVec 32 := Scalar.select v70_r0 c9_i32_59_r0 v69_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v72_r0 : BitVec 32 := Scalar.addi v71_r0 v4
  let v149_r0 : BitVec 32 := Scalar.muli c128_i32_103_r0 v72_r0
  let c0_i32_106_r0 : BitVec 32 := 0#32
  ![v149_r0.toNat, 0]
def k1_off17 (arg9_r0 : BitVec 32) : Fin 1 → Nat :=
  let c2_i32_102_r0 : BitVec 32 := 2#32
  let v148_r0 : BitVec 32 := Scalar.remui arg9_r0 c2_i32_102_r0
  ![v148_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1600x128.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1600x128.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S40960x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S40960x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1600x128.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1600x128.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S40960x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S40960x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v34_3_r0 : BitVec 32) : Fin 3 → Nat :=
  let c2_i32_47_r0 : BitVec 32 := 2#32
  let v55_r0 : BitVec 32 := Scalar.remui v34_3_r0 c2_i32_47_r0
  let c0_i32_48_r0 : BitVec 32 := 0#32
  let c0_i32_49_r0 : BitVec 32 := 0#32
  ![v55_r0.toNat, 0, 0]

def k1_off19 (i : grid1.Coords) (v34_4_r0 : BitVec 32) : Fin 2 → Nat :=
  let c128_i32_r0 : BitVec 32 := 128#32
  let true_32_r0 : BitVec 1 := 1#1
  let c1_i32_31_r0 : BitVec 32 := 1#32
  let v35_r0 : BitVec 32 := Scalar.subi v34_4_r0 c1_i32_31_r0
  let v36_r0 : BitVec 32 := Scalar.select true_32_r0 v35_r0 v34_4_r0
  let c_m1_i32_33_r0 : BitVec 32 := 4294967295#32
  let v37_r0 : BitVec 1 := Scalar.cmpi .eq v36_r0 c_m1_i32_33_r0
  let c9_i32_34_r0 : BitVec 32 := 9#32
  let v38_r0 : BitVec 32 := Scalar.select v37_r0 c9_i32_34_r0 v36_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v39_r0 : BitVec 32 := Scalar.addi v38_r0 v4
  let v56_r0 : BitVec 32 := Scalar.muli c128_i32_r0 v39_r0
  let c0_i32_50_r0 : BitVec 32 := 0#32
  ![v56_r0.toNat, 0]

def k1_chk5 (i : grid1.Coords) (v34_4_r0 : BitVec 32) : Prop :=
  (∀ a, (k1_off19 i v34_4_r0) a + S128x128.size a ≤ S40960x128.size a)
theorem k1_off19_inb : ∀ (i : grid1.Coords) (v34_4_r0 : BitVec 32) (k1_hw5 : k1_chk5 i v34_4_r0), ∀ a, (k1_off19 i v34_4_r0) a + S128x128.size a ≤ S40960x128.size a := fun i v34_4_r0 k1_hw5 => k1_hw5

def k1_off20 (v34_3_r0 : BitVec 32) : Fin 1 → Nat :=
  let c2_i32_47_r0 : BitVec 32 := 2#32
  let v55_r0 : BitVec 32 := Scalar.remui v34_3_r0 c2_i32_47_r0
  ![v55_r0.toNat]
def k1_off21 (v34_3_r0 : BitVec 32) : Fin 3 → Nat :=
  let c2_i32_47_r0 : BitVec 32 := 2#32
  let v55_r0 : BitVec 32 := Scalar.remui v34_3_r0 c2_i32_47_r0
  let c0_i32_52_r0 : BitVec 32 := 0#32
  let c0_i32_53_r0 : BitVec 32 := 0#32
  ![v55_r0.toNat, 0, 0]

def k1_chk4 (v34_3_r0 : BitVec 32) : Prop :=
  (∀ a, (k1_off18 v34_3_r0) a + S1x128x128.size a ≤ S2x128x128.size a) ∧
  (∀ a, (k1_off20 v34_3_r0) a + S1.size a ≤ S2.size a) ∧
  (∀ a, (k1_off21 v34_3_r0) a + S1x128x128.size a ≤ S2x128x128.size a)
theorem k1_off18_inb : ∀ (v34_3_r0 : BitVec 32) (k1_hw4 : k1_chk4 v34_3_r0), ∀ a, (k1_off18 v34_3_r0) a + S1x128x128.size a ≤ S2x128x128.size a := fun v34_3_r0 k1_hw4 => k1_hw4.1
theorem k1_off20_inb : ∀ (v34_3_r0 : BitVec 32) (k1_hw4 : k1_chk4 v34_3_r0), ∀ a, (k1_off20 v34_3_r0) a + S1.size a ≤ S2.size a := fun v34_3_r0 k1_hw4 => k1_hw4.2.1
theorem k1_off21_inb : ∀ (v34_3_r0 : BitVec 32) (k1_hw4 : k1_chk4 v34_3_r0), ∀ a, (k1_off21 v34_3_r0) a + S1x128x128.size a ≤ S2x128x128.size a := fun v34_3_r0 k1_hw4 => k1_hw4.2.2

abbrev grid2 : Pipeline.Grid := ⟨2, ![2, 16], ![false, false]⟩

def k2_off1 : Fin 3 → Nat :=
  let c0_i32_13_r0 : BitVec 32 := 0#32
  let c2_i32_r0 : BitVec 32 := 2#32
  let v21_r0 : BitVec 32 := Scalar.remui c0_i32_13_r0 c2_i32_r0
  let c0_i32_15_r0 : BitVec 32 := 0#32
  let c0_i32_16_r0 : BitVec 32 := 0#32
  ![v21_r0.toNat, 0, 0]
def k2_off2 (i : grid2.Coords) : Fin 2 → Nat :=
  let c1_i32_14_r0 : BitVec 32 := 1#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v7_r0 : BitVec 32 := Scalar.addi c0_i32_1_r0 v4
  let c640_i32_r0 : BitVec 32 := 640#32
  let v22_r0 : BitVec 32 := Scalar.addi v7_r0 c640_i32_r0
  let v23_r0 : BitVec 32 := Scalar.muli c1_i32_14_r0 v22_r0
  let c0_i32_17_r0 : BitVec 32 := 0#32
  ![v23_r0.toNat, 0]
def k2_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k2_t1_loop : Scf.Loop 32 :=
  let c0_i32_27_r0 : BitVec 32 := 0#32
  let c10_i32_28_r0 : BitVec 32 := 10#32
  let v33_r0 : BitVec 32 := Scalar.addi c0_i32_27_r0 c10_i32_28_r0
  let c1_i32_29_r0 : BitVec 32 := 1#32
  ⟨c0_i32_27_r0, v33_r0, c1_i32_29_r0⟩
def k2_off4 (arg6_r0 : BitVec 32) : Fin 3 → Nat :=
  let c2_i32_102_r0 : BitVec 32 := 2#32
  let v148_r0 : BitVec 32 := Scalar.remui arg6_r0 c2_i32_102_r0
  let c0_i32_105_r0 : BitVec 32 := 0#32
  let c0_i32_106_r0 : BitVec 32 := 0#32
  ![v148_r0.toNat, 0, 0]
def k2_cond1 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let c640_i32_68_r0 : BitVec 32 := 640#32
  let v83_r0 : BitVec 32 := Scalar.addi v67_r0 c640_i32_68_r0
  let true_61_r0 : BitVec 1 := 1#1
  let c1_i32_60_r0 : BitVec 32 := 1#32
  let v73_r0 : BitVec 32 := Scalar.addi arg10_r0 c1_i32_60_r0
  let v74_r0 : BitVec 32 := Scalar.select true_61_r0 v73_r0 arg10_r0
  let c10_i32_62_r0 : BitVec 32 := 10#32
  let v75_r0 : BitVec 1 := Scalar.cmpi .eq v74_r0 c10_i32_62_r0
  let c0_i32_63_r0 : BitVec 32 := 0#32
  let v76_r0 : BitVec 32 := Scalar.select v75_r0 c0_i32_63_r0 v74_r0
  let v77_r0 : BitVec 32 := Scalar.addi v76_r0 v4
  let c640_i32_69_r0 : BitVec 32 := 640#32
  let v84_r0 : BitVec 32 := Scalar.addi v77_r0 c640_i32_69_r0
  let v85_r0 : BitVec 1 := Scalar.cmpi .ne v83_r0 v84_r0
  let c0_i32_27_r0 : BitVec 32 := 0#32
  let c1_i32_29_r0 : BitVec 32 := 1#32
  let arg5_r0 : BitVec 32 := Scf.iv c0_i32_27_r0 c1_i32_29_r0 k2_t1
  let c9_i32_70_r0 : BitVec 32 := 9#32
  let v86_r0 : BitVec 1 := Scalar.cmpi .sge arg5_r0 c9_i32_70_r0
  let true_71_r0 : BitVec 1 := 1#1
  let v87_r0 : BitVec 1 := Scalar.xori v86_r0 true_71_r0
  let v88_r0 : BitVec 1 := Scalar.andi v85_r0 v87_r0
  let true_72_r0 : BitVec 1 := 1#1
  let v89_r0 : BitVec 1 := Scalar.andi v88_r0 true_72_r0
  let v90_r0 : BitVec 32 := Scalar.extui v89_r0
  let c0_i32_73_r0 : BitVec 32 := 0#32
  let v91_r0 : BitVec 1 := Scalar.cmpi .ne v90_r0 c0_i32_73_r0
  v91_r0

def k2_off5 (i : grid2.Coords) (arg10_r0 : BitVec 32) : Fin 2 → Nat :=
  let c1_i32_104_r0 : BitVec 32 := 1#32
  let true_61_r0 : BitVec 1 := 1#1
  let c1_i32_60_r0 : BitVec 32 := 1#32
  let v73_r0 : BitVec 32 := Scalar.addi arg10_r0 c1_i32_60_r0
  let v74_r0 : BitVec 32 := Scalar.select true_61_r0 v73_r0 arg10_r0
  let c10_i32_62_r0 : BitVec 32 := 10#32
  let v75_r0 : BitVec 1 := Scalar.cmpi .eq v74_r0 c10_i32_62_r0
  let c0_i32_63_r0 : BitVec 32 := 0#32
  let v76_r0 : BitVec 32 := Scalar.select v75_r0 c0_i32_63_r0 v74_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v77_r0 : BitVec 32 := Scalar.addi v76_r0 v4
  let c640_i32_103_r0 : BitVec 32 := 640#32
  let v149_r0 : BitVec 32 := Scalar.addi v77_r0 c640_i32_103_r0
  let v150_r0 : BitVec 32 := Scalar.muli c1_i32_104_r0 v149_r0
  let c0_i32_107_r0 : BitVec 32 := 0#32
  ![v150_r0.toNat, 0]
def k2_off6 (arg6_r0 : BitVec 32) : Fin 1 → Nat :=
  let c2_i32_102_r0 : BitVec 32 := 2#32
  let v148_r0 : BitVec 32 := Scalar.remui arg6_r0 c2_i32_102_r0
  ![v148_r0.toNat]
def k2_off7 (arg7_r0 : BitVec 32) : Fin 3 → Nat :=
  let c2_i32_104_r0 : BitVec 32 := 2#32
  let v150_r0 : BitVec 32 := Scalar.remui arg7_r0 c2_i32_104_r0
  let c0_i32_105_r0 : BitVec 32 := 0#32
  let c0_i32_106_r0 : BitVec 32 := 0#32
  ![v150_r0.toNat, 0, 0]
def k2_cond2 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let c640_i32_68_r0 : BitVec 32 := 640#32
  let v83_r0 : BitVec 32 := Scalar.addi v67_r0 c640_i32_68_r0
  let true_57_r0 : BitVec 1 := 1#1
  let c1_i32_56_r0 : BitVec 32 := 1#32
  let v68_r0 : BitVec 32 := Scalar.subi arg10_r0 c1_i32_56_r0
  let v69_r0 : BitVec 32 := Scalar.select true_57_r0 v68_r0 arg10_r0
  let c_m1_i32_58_r0 : BitVec 32 := 4294967295#32
  let v70_r0 : BitVec 1 := Scalar.cmpi .eq v69_r0 c_m1_i32_58_r0
  let c9_i32_59_r0 : BitVec 32 := 9#32
  let v71_r0 : BitVec 32 := Scalar.select v70_r0 c9_i32_59_r0 v69_r0
  let v72_r0 : BitVec 32 := Scalar.addi v71_r0 v4
  let c640_i32_78_r0 : BitVec 32 := 640#32
  let v99_r0 : BitVec 32 := Scalar.addi v72_r0 c640_i32_78_r0
  let v100_r0 : BitVec 1 := Scalar.cmpi .ne v83_r0 v99_r0
  let c0_i32_27_r0 : BitVec 32 := 0#32
  let c1_i32_29_r0 : BitVec 32 := 1#32
  let arg5_r0 : BitVec 32 := Scf.iv c0_i32_27_r0 c1_i32_29_r0 k2_t1
  let c0_i32_54_r0 : BitVec 32 := 0#32
  let v65_r0 : BitVec 1 := Scalar.cmpi .eq arg5_r0 c0_i32_54_r0
  let v101_r0 : BitVec 1 := Scalar.ori v100_r0 v65_r0
  let c0_i32_79_r0 : BitVec 32 := 0#32
  let v102_r0 : BitVec 1 := Scalar.cmpi .sge arg5_r0 c0_i32_79_r0
  let v103_r0 : BitVec 1 := Scalar.andi v101_r0 v102_r0
  let v104_r0 : BitVec 32 := Scalar.extui v103_r0
  let c0_i32_80_r0 : BitVec 32 := 0#32
  let v105_r0 : BitVec 1 := Scalar.cmpi .ne v104_r0 c0_i32_80_r0
  v105_r0

def k2_off8 (i : grid2.Coords) (arg10_r0 : BitVec 32) : Fin 2 → Nat :=
  let c1_i32_103_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let c640_i32_102_r0 : BitVec 32 := 640#32
  let v148_r0 : BitVec 32 := Scalar.addi v67_r0 c640_i32_102_r0
  let v149_r0 : BitVec 32 := Scalar.muli c1_i32_103_r0 v148_r0
  let c0_i32_107_r0 : BitVec 32 := 0#32
  ![v149_r0.toNat, 0]
def k2_off9 (arg7_r0 : BitVec 32) : Fin 1 → Nat :=
  let c2_i32_104_r0 : BitVec 32 := 2#32
  let v150_r0 : BitVec 32 := Scalar.remui arg7_r0 c2_i32_104_r0
  ![v150_r0.toNat]
def k2_off10 (arg8_r0 : BitVec 32) : Fin 3 → Nat :=
  let c2_i32_84_r0 : BitVec 32 := 2#32
  let v113_r0 : BitVec 32 := Scalar.remui arg8_r0 c2_i32_84_r0
  let c0_i32_102_r1 : BitVec 32 := 0#32
  let c0_i32_103_r1 : BitVec 32 := 0#32
  ![v113_r0.toNat, 0, 0]

def k2_chk2 (arg8_r0 : BitVec 32) : Prop :=
  (∀ a, (k2_off10 arg8_r0) a + S1x128x128.size a ≤ S2x128x128.size a)
theorem k2_off10_inb : ∀ (arg8_r0 : BitVec 32) (k2_hw2 : k2_chk2 arg8_r0), ∀ a, (k2_off10 arg8_r0) a + S1x128x128.size a ≤ S2x128x128.size a := fun arg8_r0 k2_hw2 => k2_hw2

def k2_off11 (arg7_r0 : BitVec 32) : Fin 3 → Nat :=
  let c2_i32_83_r0 : BitVec 32 := 2#32
  let v112_r0 : BitVec 32 := Scalar.remui arg7_r0 c2_i32_83_r0
  let c0_i32_104_r1 : BitVec 32 := 0#32
  let c0_i32_105_r1 : BitVec 32 := 0#32
  ![v112_r0.toNat, 0, 0]

def k2_chk3 (arg7_r0 : BitVec 32) : Prop :=
  (∀ a, (k2_off11 arg7_r0) a + S1x1x128.size a ≤ S2x1x128.size a)
theorem k2_off11_inb : ∀ (arg7_r0 : BitVec 32) (k2_hw3 : k2_chk3 arg7_r0), ∀ a, (k2_off11 arg7_r0) a + S1x1x128.size a ≤ S2x1x128.size a := fun arg7_r0 k2_hw3 => k2_hw3

def k2_off12 (arg8_r0 : BitVec 32) : Fin 3 → Nat :=
  let c2_i32_102_r0 : BitVec 32 := 2#32
  let v148_r0 : BitVec 32 := Scalar.remui arg8_r0 c2_i32_102_r0
  let c0_i32_104_r0 : BitVec 32 := 0#32
  let c0_i32_105_r0 : BitVec 32 := 0#32
  ![v148_r0.toNat, 0, 0]
def k2_cond5 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let true_61_r0 : BitVec 1 := 1#1
  let c1_i32_60_r0 : BitVec 32 := 1#32
  let v73_r0 : BitVec 32 := Scalar.addi arg10_r0 c1_i32_60_r0
  let v74_r0 : BitVec 32 := Scalar.select true_61_r0 v73_r0 arg10_r0
  let c10_i32_62_r0 : BitVec 32 := 10#32
  let v75_r0 : BitVec 1 := Scalar.cmpi .eq v74_r0 c10_i32_62_r0
  let c0_i32_63_r0 : BitVec 32 := 0#32
  let v76_r0 : BitVec 32 := Scalar.select v75_r0 c0_i32_63_r0 v74_r0
  let v77_r0 : BitVec 32 := Scalar.addi v76_r0 v4
  let v119_r0 : BitVec 1 := Scalar.cmpi .ne v67_r0 v77_r0
  let c0_i32_27_r0 : BitVec 32 := 0#32
  let c1_i32_29_r0 : BitVec 32 := 1#32
  let arg5_r0 : BitVec 32 := Scf.iv c0_i32_27_r0 c1_i32_29_r0 k2_t1
  let c9_i32_55_r0 : BitVec 32 := 9#32
  let v66_r0 : BitVec 1 := Scalar.cmpi .eq arg5_r0 c9_i32_55_r0
  let v120_r0 : BitVec 1 := Scalar.ori v119_r0 v66_r0
  let v121_r0 : BitVec 32 := Scalar.extui v120_r0
  let c0_i32_87_r0 : BitVec 32 := 0#32
  let v122_r0 : BitVec 1 := Scalar.cmpi .ne v121_r0 c0_i32_87_r0
  v122_r0

def k2_off13 (i : grid2.Coords) (arg10_r0 : BitVec 32) : Fin 2 → Nat :=
  let c128_i32_103_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let v149_r0 : BitVec 32 := Scalar.muli c128_i32_103_r0 v67_r0
  let c0_i32_106_r0 : BitVec 32 := 0#32
  ![v149_r0.toNat, 0]
def k2_off14 (arg8_r0 : BitVec 32) : Fin 1 → Nat :=
  let c2_i32_102_r0 : BitVec 32 := 2#32
  let v148_r0 : BitVec 32 := Scalar.remui arg8_r0 c2_i32_102_r0
  ![v148_r0.toNat]
def k2_off15 (arg9_r0 : BitVec 32) : Fin 3 → Nat :=
  let c2_i32_102_r0 : BitVec 32 := 2#32
  let v148_r0 : BitVec 32 := Scalar.remui arg9_r0 c2_i32_102_r0
  let c0_i32_104_r0 : BitVec 32 := 0#32
  let c0_i32_105_r0 : BitVec 32 := 0#32
  ![v148_r0.toNat, 0, 0]
def k2_cond7 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let true_57_r0 : BitVec 1 := 1#1
  let c1_i32_56_r0 : BitVec 32 := 1#32
  let v68_r0 : BitVec 32 := Scalar.subi arg10_r0 c1_i32_56_r0
  let v69_r0 : BitVec 32 := Scalar.select true_57_r0 v68_r0 arg10_r0
  let c_m1_i32_58_r0 : BitVec 32 := 4294967295#32
  let v70_r0 : BitVec 1 := Scalar.cmpi .eq v69_r0 c_m1_i32_58_r0
  let c9_i32_59_r0 : BitVec 32 := 9#32
  let v71_r0 : BitVec 32 := Scalar.select v70_r0 c9_i32_59_r0 v69_r0
  let v72_r0 : BitVec 32 := Scalar.addi v71_r0 v4
  let v132_r0 : BitVec 1 := Scalar.cmpi .ne v67_r0 v72_r0
  let c0_i32_27_r0 : BitVec 32 := 0#32
  let c1_i32_29_r0 : BitVec 32 := 1#32
  let arg5_r0 : BitVec 32 := Scf.iv c0_i32_27_r0 c1_i32_29_r0 k2_t1
  let c0_i32_54_r0 : BitVec 32 := 0#32
  let v65_r0 : BitVec 1 := Scalar.cmpi .eq arg5_r0 c0_i32_54_r0
  let true_93_r0 : BitVec 1 := 1#1
  let v133_r0 : BitVec 1 := Scalar.xori v65_r0 true_93_r0
  let v134_r0 : BitVec 1 := Scalar.andi v132_r0 v133_r0
  let v135_r0 : BitVec 32 := Scalar.extui v134_r0
  let c0_i32_94_r0 : BitVec 32 := 0#32
  let v136_r0 : BitVec 1 := Scalar.cmpi .ne v135_r0 c0_i32_94_r0
  v136_r0

def k2_off16 (i : grid2.Coords) (arg10_r0 : BitVec 32) : Fin 2 → Nat :=
  let c128_i32_103_r0 : BitVec 32 := 128#32
  let true_57_r0 : BitVec 1 := 1#1
  let c1_i32_56_r0 : BitVec 32 := 1#32
  let v68_r0 : BitVec 32 := Scalar.subi arg10_r0 c1_i32_56_r0
  let v69_r0 : BitVec 32 := Scalar.select true_57_r0 v68_r0 arg10_r0
  let c_m1_i32_58_r0 : BitVec 32 := 4294967295#32
  let v70_r0 : BitVec 1 := Scalar.cmpi .eq v69_r0 c_m1_i32_58_r0
  let c9_i32_59_r0 : BitVec 32 := 9#32
  let v71_r0 : BitVec 32 := Scalar.select v70_r0 c9_i32_59_r0 v69_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v72_r0 : BitVec 32 := Scalar.addi v71_r0 v4
  let v149_r0 : BitVec 32 := Scalar.muli c128_i32_103_r0 v72_r0
  let c0_i32_106_r0 : BitVec 32 := 0#32
  ![v149_r0.toNat, 0]
def k2_off17 (arg9_r0 : BitVec 32) : Fin 1 → Nat :=
  let c2_i32_102_r0 : BitVec 32 := 2#32
  let v148_r0 : BitVec 32 := Scalar.remui arg9_r0 c2_i32_102_r0
  ![v148_r0.toNat]

def k2_chk1 (i : grid2.Coords) (k2_t1 : Fin k2_t1_loop.trips) (arg6_r0 : BitVec 32) (arg7_r0 : BitVec 32) (arg8_r0 : BitVec 32) (arg9_r0 : BitVec 32) (arg10_r0 : BitVec 32) : Prop :=
  (∀ (k2_h1 : k2_cond1 i k2_t1 arg10_r0 = 1#1), ∀ a, (k2_off4 arg6_r0) a + S1x1x128.size a ≤ S2x1x128.size a) ∧
  (∀ (k2_h1 : k2_cond1 i k2_t1 arg10_r0 = 1#1), ∀ a, (k2_off5 i arg10_r0) a + S1x128.size a ≤ S1600x128.size a) ∧
  (∀ (k2_h1 : k2_cond1 i k2_t1 arg10_r0 = 1#1), ∀ a, (k2_off6 arg6_r0) a + S1.size a ≤ S2.size a) ∧
  (∀ (k2_h2 : k2_cond2 i k2_t1 arg10_r0 = 1#1), ∀ a, (k2_off7 arg7_r0) a + S1x1x128.size a ≤ S2x1x128.size a) ∧
  (∀ (k2_h2 : k2_cond2 i k2_t1 arg10_r0 = 1#1), ∀ a, (k2_off8 i arg10_r0) a + S1x128.size a ≤ S1600x128.size a) ∧
  (∀ (k2_h2 : k2_cond2 i k2_t1 arg10_r0 = 1#1), ∀ a, (k2_off9 arg7_r0) a + S1.size a ≤ S2.size a) ∧
  (∀ (k2_h5 : k2_cond5 i k2_t1 arg10_r0 = 1#1), ∀ a, (k2_off12 arg8_r0) a + S1x128x128.size a ≤ S2x128x128.size a) ∧
  (∀ (k2_h5 : k2_cond5 i k2_t1 arg10_r0 = 1#1), ∀ a, (k2_off13 i arg10_r0) a + S128x128.size a ≤ S40960x128.size a) ∧
  (∀ (k2_h5 : k2_cond5 i k2_t1 arg10_r0 = 1#1), ∀ a, (k2_off14 arg8_r0) a + S1.size a ≤ S2.size a) ∧
  (∀ (k2_h7 : k2_cond7 i k2_t1 arg10_r0 = 1#1), ∀ a, (k2_off15 arg9_r0) a + S1x128x128.size a ≤ S2x128x128.size a) ∧
  (∀ (k2_h7 : k2_cond7 i k2_t1 arg10_r0 = 1#1), ∀ a, (k2_off16 i arg10_r0) a + S128x128.size a ≤ S40960x128.size a) ∧
  (∀ (k2_h7 : k2_cond7 i k2_t1 arg10_r0 = 1#1), ∀ a, (k2_off17 arg9_r0) a + S1.size a ≤ S2.size a)
theorem k2_off4_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off4 arg6_r0) a + S1x1x128.size a ≤ S2x1x128.size a := fun i k2_t1 arg6_r0 arg7_r0 arg8_r0 arg9_r0 arg10_r0 k2_hw1 k2_h1 => k2_hw1.1 k2_h1
theorem k2_off5_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off5 i arg10_r0) a + S1x128.size a ≤ S1600x128.size a := fun i k2_t1 arg6_r0 arg7_r0 arg8_r0 arg9_r0 arg10_r0 k2_hw1 k2_h1 => k2_hw1.2.1 k2_h1
theorem k2_off6_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off6 arg6_r0) a + S1.size a ≤ S2.size a := fun i k2_t1 arg6_r0 arg7_r0 arg8_r0 arg9_r0 arg10_r0 k2_hw1 k2_h1 => k2_hw1.2.2.1 k2_h1
theorem k2_off7_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off7 arg7_r0) a + S1x1x128.size a ≤ S2x1x128.size a := fun i k2_t1 arg6_r0 arg7_r0 arg8_r0 arg9_r0 arg10_r0 k2_hw1 k2_h2 => k2_hw1.2.2.2.1 k2_h2
theorem k2_off8_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off8 i arg10_r0) a + S1x128.size a ≤ S1600x128.size a := fun i k2_t1 arg6_r0 arg7_r0 arg8_r0 arg9_r0 arg10_r0 k2_hw1 k2_h2 => k2_hw1.2.2.2.2.1 k2_h2
theorem k2_off9_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off9 arg7_r0) a + S1.size a ≤ S2.size a := fun i k2_t1 arg6_r0 arg7_r0 arg8_r0 arg9_r0 arg10_r0 k2_hw1 k2_h2 => k2_hw1.2.2.2.2.2.1 k2_h2
theorem k2_off12_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off12 arg8_r0) a + S1x128x128.size a ≤ S2x128x128.size a := fun i k2_t1 arg6_r0 arg7_r0 arg8_r0 arg9_r0 arg10_r0 k2_hw1 k2_h5 => k2_hw1.2.2.2.2.2.2.1 k2_h5
theorem k2_off13_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off13 i arg10_r0) a + S128x128.size a ≤ S40960x128.size a := fun i k2_t1 arg6_r0 arg7_r0 arg8_r0 arg9_r0 arg10_r0 k2_hw1 k2_h5 => k2_hw1.2.2.2.2.2.2.2.1 k2_h5
theorem k2_off14_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off14 arg8_r0) a + S1.size a ≤ S2.size a := fun i k2_t1 arg6_r0 arg7_r0 arg8_r0 arg9_r0 arg10_r0 k2_hw1 k2_h5 => k2_hw1.2.2.2.2.2.2.2.2.1 k2_h5
theorem k2_off15_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off15 arg9_r0) a + S1x128x128.size a ≤ S2x128x128.size a := fun i k2_t1 arg6_r0 arg7_r0 arg8_r0 arg9_r0 arg10_r0 k2_hw1 k2_h7 => k2_hw1.2.2.2.2.2.2.2.2.2.1 k2_h7
theorem k2_off16_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off16 i arg10_r0) a + S128x128.size a ≤ S40960x128.size a := fun i k2_t1 arg6_r0 arg7_r0 arg8_r0 arg9_r0 arg10_r0 k2_hw1 k2_h7 => k2_hw1.2.2.2.2.2.2.2.2.2.2.1 k2_h7
theorem k2_off17_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off17 arg9_r0) a + S1.size a ≤ S2.size a := fun i k2_t1 arg6_r0 arg7_r0 arg8_r0 arg9_r0 arg10_r0 k2_hw1 k2_h7 => k2_hw1.2.2.2.2.2.2.2.2.2.2.2 k2_h7

def k2_off18 (v34_3_r0 : BitVec 32) : Fin 3 → Nat :=
  let c2_i32_47_r0 : BitVec 32 := 2#32
  let v55_r0 : BitVec 32 := Scalar.remui v34_3_r0 c2_i32_47_r0
  let c0_i32_48_r0 : BitVec 32 := 0#32
  let c0_i32_49_r0 : BitVec 32 := 0#32
  ![v55_r0.toNat, 0, 0]

def k2_off19 (i : grid2.Coords) (v34_4_r0 : BitVec 32) : Fin 2 → Nat :=
  let c128_i32_r0 : BitVec 32 := 128#32
  let true_32_r0 : BitVec 1 := 1#1
  let c1_i32_31_r0 : BitVec 32 := 1#32
  let v35_r0 : BitVec 32 := Scalar.subi v34_4_r0 c1_i32_31_r0
  let v36_r0 : BitVec 32 := Scalar.select true_32_r0 v35_r0 v34_4_r0
  let c_m1_i32_33_r0 : BitVec 32 := 4294967295#32
  let v37_r0 : BitVec 1 := Scalar.cmpi .eq v36_r0 c_m1_i32_33_r0
  let c9_i32_34_r0 : BitVec 32 := 9#32
  let v38_r0 : BitVec 32 := Scalar.select v37_r0 c9_i32_34_r0 v36_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v39_r0 : BitVec 32 := Scalar.addi v38_r0 v4
  let v56_r0 : BitVec 32 := Scalar.muli c128_i32_r0 v39_r0
  let c0_i32_50_r0 : BitVec 32 := 0#32
  ![v56_r0.toNat, 0]

def k2_chk5 (i : grid2.Coords) (v34_4_r0 : BitVec 32) : Prop :=
  (∀ a, (k2_off19 i v34_4_r0) a + S128x128.size a ≤ S40960x128.size a)
theorem k2_off19_inb : ∀ (i : grid2.Coords) (v34_4_r0 : BitVec 32) (k2_hw5 : k2_chk5 i v34_4_r0), ∀ a, (k2_off19 i v34_4_r0) a + S128x128.size a ≤ S40960x128.size a := fun i v34_4_r0 k2_hw5 => k2_hw5

def k2_off20 (v34_3_r0 : BitVec 32) : Fin 1 → Nat :=
  let c2_i32_47_r0 : BitVec 32 := 2#32
  let v55_r0 : BitVec 32 := Scalar.remui v34_3_r0 c2_i32_47_r0
  ![v55_r0.toNat]
def k2_off21 (v34_3_r0 : BitVec 32) : Fin 3 → Nat :=
  let c2_i32_47_r0 : BitVec 32 := 2#32
  let v55_r0 : BitVec 32 := Scalar.remui v34_3_r0 c2_i32_47_r0
  let c0_i32_52_r0 : BitVec 32 := 0#32
  let c0_i32_53_r0 : BitVec 32 := 0#32
  ![v55_r0.toNat, 0, 0]

def k2_chk4 (v34_3_r0 : BitVec 32) : Prop :=
  (∀ a, (k2_off18 v34_3_r0) a + S1x128x128.size a ≤ S2x128x128.size a) ∧
  (∀ a, (k2_off20 v34_3_r0) a + S1.size a ≤ S2.size a) ∧
  (∀ a, (k2_off21 v34_3_r0) a + S1x128x128.size a ≤ S2x128x128.size a)
theorem k2_off18_inb : ∀ (v34_3_r0 : BitVec 32) (k2_hw4 : k2_chk4 v34_3_r0), ∀ a, (k2_off18 v34_3_r0) a + S1x128x128.size a ≤ S2x128x128.size a := fun v34_3_r0 k2_hw4 => k2_hw4.1
theorem k2_off20_inb : ∀ (v34_3_r0 : BitVec 32) (k2_hw4 : k2_chk4 v34_3_r0), ∀ a, (k2_off20 v34_3_r0) a + S1.size a ≤ S2.size a := fun v34_3_r0 k2_hw4 => k2_hw4.2.1
theorem k2_off21_inb : ∀ (v34_3_r0 : BitVec 32) (k2_hw4 : k2_chk4 v34_3_r0), ∀ a, (k2_off21 v34_3_r0) a + S1x128x128.size a ≤ S2x128x128.size a := fun v34_3_r0 k2_hw4 => k2_hw4.2.2

abbrev grid3 : Pipeline.Grid := ⟨2, ![2, 16], ![false, false]⟩

def k3_off1 : Fin 3 → Nat :=
  let c0_i32_13_r0 : BitVec 32 := 0#32
  let c2_i32_r0 : BitVec 32 := 2#32
  let v21_r0 : BitVec 32 := Scalar.remui c0_i32_13_r0 c2_i32_r0
  let c0_i32_15_r0 : BitVec 32 := 0#32
  let c0_i32_16_r0 : BitVec 32 := 0#32
  ![v21_r0.toNat, 0, 0]
def k3_off2 (i : grid3.Coords) : Fin 2 → Nat :=
  let c1_i32_14_r0 : BitVec 32 := 1#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v7_r0 : BitVec 32 := Scalar.addi c0_i32_1_r0 v4
  let c960_i32_r0 : BitVec 32 := 960#32
  let v22_r0 : BitVec 32 := Scalar.addi v7_r0 c960_i32_r0
  let v23_r0 : BitVec 32 := Scalar.muli c1_i32_14_r0 v22_r0
  let c0_i32_17_r0 : BitVec 32 := 0#32
  ![v23_r0.toNat, 0]
def k3_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k3_t1_loop : Scf.Loop 32 :=
  let c0_i32_27_r0 : BitVec 32 := 0#32
  let c10_i32_28_r0 : BitVec 32 := 10#32
  let v33_r0 : BitVec 32 := Scalar.addi c0_i32_27_r0 c10_i32_28_r0
  let c1_i32_29_r0 : BitVec 32 := 1#32
  ⟨c0_i32_27_r0, v33_r0, c1_i32_29_r0⟩
def k3_off4 (arg6_r0 : BitVec 32) : Fin 3 → Nat :=
  let c2_i32_102_r0 : BitVec 32 := 2#32
  let v148_r0 : BitVec 32 := Scalar.remui arg6_r0 c2_i32_102_r0
  let c0_i32_105_r0 : BitVec 32 := 0#32
  let c0_i32_106_r0 : BitVec 32 := 0#32
  ![v148_r0.toNat, 0, 0]
def k3_cond1 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let c960_i32_68_r0 : BitVec 32 := 960#32
  let v83_r0 : BitVec 32 := Scalar.addi v67_r0 c960_i32_68_r0
  let true_61_r0 : BitVec 1 := 1#1
  let c1_i32_60_r0 : BitVec 32 := 1#32
  let v73_r0 : BitVec 32 := Scalar.addi arg10_r0 c1_i32_60_r0
  let v74_r0 : BitVec 32 := Scalar.select true_61_r0 v73_r0 arg10_r0
  let c10_i32_62_r0 : BitVec 32 := 10#32
  let v75_r0 : BitVec 1 := Scalar.cmpi .eq v74_r0 c10_i32_62_r0
  let c0_i32_63_r0 : BitVec 32 := 0#32
  let v76_r0 : BitVec 32 := Scalar.select v75_r0 c0_i32_63_r0 v74_r0
  let v77_r0 : BitVec 32 := Scalar.addi v76_r0 v4
  let c960_i32_69_r0 : BitVec 32 := 960#32
  let v84_r0 : BitVec 32 := Scalar.addi v77_r0 c960_i32_69_r0
  let v85_r0 : BitVec 1 := Scalar.cmpi .ne v83_r0 v84_r0
  let c0_i32_27_r0 : BitVec 32 := 0#32
  let c1_i32_29_r0 : BitVec 32 := 1#32
  let arg5_r0 : BitVec 32 := Scf.iv c0_i32_27_r0 c1_i32_29_r0 k3_t1
  let c9_i32_70_r0 : BitVec 32 := 9#32
  let v86_r0 : BitVec 1 := Scalar.cmpi .sge arg5_r0 c9_i32_70_r0
  let true_71_r0 : BitVec 1 := 1#1
  let v87_r0 : BitVec 1 := Scalar.xori v86_r0 true_71_r0
  let v88_r0 : BitVec 1 := Scalar.andi v85_r0 v87_r0
  let true_72_r0 : BitVec 1 := 1#1
  let v89_r0 : BitVec 1 := Scalar.andi v88_r0 true_72_r0
  let v90_r0 : BitVec 32 := Scalar.extui v89_r0
  let c0_i32_73_r0 : BitVec 32 := 0#32
  let v91_r0 : BitVec 1 := Scalar.cmpi .ne v90_r0 c0_i32_73_r0
  v91_r0

def k3_off5 (i : grid3.Coords) (arg10_r0 : BitVec 32) : Fin 2 → Nat :=
  let c1_i32_104_r0 : BitVec 32 := 1#32
  let true_61_r0 : BitVec 1 := 1#1
  let c1_i32_60_r0 : BitVec 32 := 1#32
  let v73_r0 : BitVec 32 := Scalar.addi arg10_r0 c1_i32_60_r0
  let v74_r0 : BitVec 32 := Scalar.select true_61_r0 v73_r0 arg10_r0
  let c10_i32_62_r0 : BitVec 32 := 10#32
  let v75_r0 : BitVec 1 := Scalar.cmpi .eq v74_r0 c10_i32_62_r0
  let c0_i32_63_r0 : BitVec 32 := 0#32
  let v76_r0 : BitVec 32 := Scalar.select v75_r0 c0_i32_63_r0 v74_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v77_r0 : BitVec 32 := Scalar.addi v76_r0 v4
  let c960_i32_103_r0 : BitVec 32 := 960#32
  let v149_r0 : BitVec 32 := Scalar.addi v77_r0 c960_i32_103_r0
  let v150_r0 : BitVec 32 := Scalar.muli c1_i32_104_r0 v149_r0
  let c0_i32_107_r0 : BitVec 32 := 0#32
  ![v150_r0.toNat, 0]
def k3_off6 (arg6_r0 : BitVec 32) : Fin 1 → Nat :=
  let c2_i32_102_r0 : BitVec 32 := 2#32
  let v148_r0 : BitVec 32 := Scalar.remui arg6_r0 c2_i32_102_r0
  ![v148_r0.toNat]
def k3_off7 (arg7_r0 : BitVec 32) : Fin 3 → Nat :=
  let c2_i32_104_r0 : BitVec 32 := 2#32
  let v150_r0 : BitVec 32 := Scalar.remui arg7_r0 c2_i32_104_r0
  let c0_i32_105_r0 : BitVec 32 := 0#32
  let c0_i32_106_r0 : BitVec 32 := 0#32
  ![v150_r0.toNat, 0, 0]
def k3_cond2 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let c960_i32_68_r0 : BitVec 32 := 960#32
  let v83_r0 : BitVec 32 := Scalar.addi v67_r0 c960_i32_68_r0
  let true_57_r0 : BitVec 1 := 1#1
  let c1_i32_56_r0 : BitVec 32 := 1#32
  let v68_r0 : BitVec 32 := Scalar.subi arg10_r0 c1_i32_56_r0
  let v69_r0 : BitVec 32 := Scalar.select true_57_r0 v68_r0 arg10_r0
  let c_m1_i32_58_r0 : BitVec 32 := 4294967295#32
  let v70_r0 : BitVec 1 := Scalar.cmpi .eq v69_r0 c_m1_i32_58_r0
  let c9_i32_59_r0 : BitVec 32 := 9#32
  let v71_r0 : BitVec 32 := Scalar.select v70_r0 c9_i32_59_r0 v69_r0
  let v72_r0 : BitVec 32 := Scalar.addi v71_r0 v4
  let c960_i32_78_r0 : BitVec 32 := 960#32
  let v99_r0 : BitVec 32 := Scalar.addi v72_r0 c960_i32_78_r0
  let v100_r0 : BitVec 1 := Scalar.cmpi .ne v83_r0 v99_r0
  let c0_i32_27_r0 : BitVec 32 := 0#32
  let c1_i32_29_r0 : BitVec 32 := 1#32
  let arg5_r0 : BitVec 32 := Scf.iv c0_i32_27_r0 c1_i32_29_r0 k3_t1
  let c0_i32_54_r0 : BitVec 32 := 0#32
  let v65_r0 : BitVec 1 := Scalar.cmpi .eq arg5_r0 c0_i32_54_r0
  let v101_r0 : BitVec 1 := Scalar.ori v100_r0 v65_r0
  let c0_i32_79_r0 : BitVec 32 := 0#32
  let v102_r0 : BitVec 1 := Scalar.cmpi .sge arg5_r0 c0_i32_79_r0
  let v103_r0 : BitVec 1 := Scalar.andi v101_r0 v102_r0
  let v104_r0 : BitVec 32 := Scalar.extui v103_r0
  let c0_i32_80_r0 : BitVec 32 := 0#32
  let v105_r0 : BitVec 1 := Scalar.cmpi .ne v104_r0 c0_i32_80_r0
  v105_r0

def k3_off8 (i : grid3.Coords) (arg10_r0 : BitVec 32) : Fin 2 → Nat :=
  let c1_i32_103_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let c960_i32_102_r0 : BitVec 32 := 960#32
  let v148_r0 : BitVec 32 := Scalar.addi v67_r0 c960_i32_102_r0
  let v149_r0 : BitVec 32 := Scalar.muli c1_i32_103_r0 v148_r0
  let c0_i32_107_r0 : BitVec 32 := 0#32
  ![v149_r0.toNat, 0]
def k3_off9 (arg7_r0 : BitVec 32) : Fin 1 → Nat :=
  let c2_i32_104_r0 : BitVec 32 := 2#32
  let v150_r0 : BitVec 32 := Scalar.remui arg7_r0 c2_i32_104_r0
  ![v150_r0.toNat]
def k3_off10 (arg8_r0 : BitVec 32) : Fin 3 → Nat :=
  let c2_i32_84_r0 : BitVec 32 := 2#32
  let v113_r0 : BitVec 32 := Scalar.remui arg8_r0 c2_i32_84_r0
  let c0_i32_102_r1 : BitVec 32 := 0#32
  let c0_i32_103_r1 : BitVec 32 := 0#32
  ![v113_r0.toNat, 0, 0]

def k3_chk2 (arg8_r0 : BitVec 32) : Prop :=
  (∀ a, (k3_off10 arg8_r0) a + S1x128x128.size a ≤ S2x128x128.size a)
theorem k3_off10_inb : ∀ (arg8_r0 : BitVec 32) (k3_hw2 : k3_chk2 arg8_r0), ∀ a, (k3_off10 arg8_r0) a + S1x128x128.size a ≤ S2x128x128.size a := fun arg8_r0 k3_hw2 => k3_hw2

def k3_off11 (arg7_r0 : BitVec 32) : Fin 3 → Nat :=
  let c2_i32_83_r0 : BitVec 32 := 2#32
  let v112_r0 : BitVec 32 := Scalar.remui arg7_r0 c2_i32_83_r0
  let c0_i32_104_r1 : BitVec 32 := 0#32
  let c0_i32_105_r1 : BitVec 32 := 0#32
  ![v112_r0.toNat, 0, 0]

def k3_chk3 (arg7_r0 : BitVec 32) : Prop :=
  (∀ a, (k3_off11 arg7_r0) a + S1x1x128.size a ≤ S2x1x128.size a)
theorem k3_off11_inb : ∀ (arg7_r0 : BitVec 32) (k3_hw3 : k3_chk3 arg7_r0), ∀ a, (k3_off11 arg7_r0) a + S1x1x128.size a ≤ S2x1x128.size a := fun arg7_r0 k3_hw3 => k3_hw3

def k3_off12 (arg8_r0 : BitVec 32) : Fin 3 → Nat :=
  let c2_i32_102_r0 : BitVec 32 := 2#32
  let v148_r0 : BitVec 32 := Scalar.remui arg8_r0 c2_i32_102_r0
  let c0_i32_104_r0 : BitVec 32 := 0#32
  let c0_i32_105_r0 : BitVec 32 := 0#32
  ![v148_r0.toNat, 0, 0]
def k3_cond5 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let true_61_r0 : BitVec 1 := 1#1
  let c1_i32_60_r0 : BitVec 32 := 1#32
  let v73_r0 : BitVec 32 := Scalar.addi arg10_r0 c1_i32_60_r0
  let v74_r0 : BitVec 32 := Scalar.select true_61_r0 v73_r0 arg10_r0
  let c10_i32_62_r0 : BitVec 32 := 10#32
  let v75_r0 : BitVec 1 := Scalar.cmpi .eq v74_r0 c10_i32_62_r0
  let c0_i32_63_r0 : BitVec 32 := 0#32
  let v76_r0 : BitVec 32 := Scalar.select v75_r0 c0_i32_63_r0 v74_r0
  let v77_r0 : BitVec 32 := Scalar.addi v76_r0 v4
  let v119_r0 : BitVec 1 := Scalar.cmpi .ne v67_r0 v77_r0
  let c0_i32_27_r0 : BitVec 32 := 0#32
  let c1_i32_29_r0 : BitVec 32 := 1#32
  let arg5_r0 : BitVec 32 := Scf.iv c0_i32_27_r0 c1_i32_29_r0 k3_t1
  let c9_i32_55_r0 : BitVec 32 := 9#32
  let v66_r0 : BitVec 1 := Scalar.cmpi .eq arg5_r0 c9_i32_55_r0
  let v120_r0 : BitVec 1 := Scalar.ori v119_r0 v66_r0
  let v121_r0 : BitVec 32 := Scalar.extui v120_r0
  let c0_i32_87_r0 : BitVec 32 := 0#32
  let v122_r0 : BitVec 1 := Scalar.cmpi .ne v121_r0 c0_i32_87_r0
  v122_r0

def k3_off13 (i : grid3.Coords) (arg10_r0 : BitVec 32) : Fin 2 → Nat :=
  let c128_i32_103_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let v149_r0 : BitVec 32 := Scalar.muli c128_i32_103_r0 v67_r0
  let c0_i32_106_r0 : BitVec 32 := 0#32
  ![v149_r0.toNat, 0]
def k3_off14 (arg8_r0 : BitVec 32) : Fin 1 → Nat :=
  let c2_i32_102_r0 : BitVec 32 := 2#32
  let v148_r0 : BitVec 32 := Scalar.remui arg8_r0 c2_i32_102_r0
  ![v148_r0.toNat]
def k3_off15 (arg9_r0 : BitVec 32) : Fin 3 → Nat :=
  let c2_i32_102_r0 : BitVec 32 := 2#32
  let v148_r0 : BitVec 32 := Scalar.remui arg9_r0 c2_i32_102_r0
  let c0_i32_104_r0 : BitVec 32 := 0#32
  let c0_i32_105_r0 : BitVec 32 := 0#32
  ![v148_r0.toNat, 0, 0]
def k3_cond7 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let true_57_r0 : BitVec 1 := 1#1
  let c1_i32_56_r0 : BitVec 32 := 1#32
  let v68_r0 : BitVec 32 := Scalar.subi arg10_r0 c1_i32_56_r0
  let v69_r0 : BitVec 32 := Scalar.select true_57_r0 v68_r0 arg10_r0
  let c_m1_i32_58_r0 : BitVec 32 := 4294967295#32
  let v70_r0 : BitVec 1 := Scalar.cmpi .eq v69_r0 c_m1_i32_58_r0
  let c9_i32_59_r0 : BitVec 32 := 9#32
  let v71_r0 : BitVec 32 := Scalar.select v70_r0 c9_i32_59_r0 v69_r0
  let v72_r0 : BitVec 32 := Scalar.addi v71_r0 v4
  let v132_r0 : BitVec 1 := Scalar.cmpi .ne v67_r0 v72_r0
  let c0_i32_27_r0 : BitVec 32 := 0#32
  let c1_i32_29_r0 : BitVec 32 := 1#32
  let arg5_r0 : BitVec 32 := Scf.iv c0_i32_27_r0 c1_i32_29_r0 k3_t1
  let c0_i32_54_r0 : BitVec 32 := 0#32
  let v65_r0 : BitVec 1 := Scalar.cmpi .eq arg5_r0 c0_i32_54_r0
  let true_93_r0 : BitVec 1 := 1#1
  let v133_r0 : BitVec 1 := Scalar.xori v65_r0 true_93_r0
  let v134_r0 : BitVec 1 := Scalar.andi v132_r0 v133_r0
  let v135_r0 : BitVec 32 := Scalar.extui v134_r0
  let c0_i32_94_r0 : BitVec 32 := 0#32
  let v136_r0 : BitVec 1 := Scalar.cmpi .ne v135_r0 c0_i32_94_r0
  v136_r0

def k3_off16 (i : grid3.Coords) (arg10_r0 : BitVec 32) : Fin 2 → Nat :=
  let c128_i32_103_r0 : BitVec 32 := 128#32
  let true_57_r0 : BitVec 1 := 1#1
  let c1_i32_56_r0 : BitVec 32 := 1#32
  let v68_r0 : BitVec 32 := Scalar.subi arg10_r0 c1_i32_56_r0
  let v69_r0 : BitVec 32 := Scalar.select true_57_r0 v68_r0 arg10_r0
  let c_m1_i32_58_r0 : BitVec 32 := 4294967295#32
  let v70_r0 : BitVec 1 := Scalar.cmpi .eq v69_r0 c_m1_i32_58_r0
  let c9_i32_59_r0 : BitVec 32 := 9#32
  let v71_r0 : BitVec 32 := Scalar.select v70_r0 c9_i32_59_r0 v69_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v72_r0 : BitVec 32 := Scalar.addi v71_r0 v4
  let v149_r0 : BitVec 32 := Scalar.muli c128_i32_103_r0 v72_r0
  let c0_i32_106_r0 : BitVec 32 := 0#32
  ![v149_r0.toNat, 0]
def k3_off17 (arg9_r0 : BitVec 32) : Fin 1 → Nat :=
  let c2_i32_102_r0 : BitVec 32 := 2#32
  let v148_r0 : BitVec 32 := Scalar.remui arg9_r0 c2_i32_102_r0
  ![v148_r0.toNat]

def k3_chk1 (i : grid3.Coords) (k3_t1 : Fin k3_t1_loop.trips) (arg6_r0 : BitVec 32) (arg7_r0 : BitVec 32) (arg8_r0 : BitVec 32) (arg9_r0 : BitVec 32) (arg10_r0 : BitVec 32) : Prop :=
  (∀ (k3_h1 : k3_cond1 i k3_t1 arg10_r0 = 1#1), ∀ a, (k3_off4 arg6_r0) a + S1x1x128.size a ≤ S2x1x128.size a) ∧
  (∀ (k3_h1 : k3_cond1 i k3_t1 arg10_r0 = 1#1), ∀ a, (k3_off5 i arg10_r0) a + S1x128.size a ≤ S1600x128.size a) ∧
  (∀ (k3_h1 : k3_cond1 i k3_t1 arg10_r0 = 1#1), ∀ a, (k3_off6 arg6_r0) a + S1.size a ≤ S2.size a) ∧
  (∀ (k3_h2 : k3_cond2 i k3_t1 arg10_r0 = 1#1), ∀ a, (k3_off7 arg7_r0) a + S1x1x128.size a ≤ S2x1x128.size a) ∧
  (∀ (k3_h2 : k3_cond2 i k3_t1 arg10_r0 = 1#1), ∀ a, (k3_off8 i arg10_r0) a + S1x128.size a ≤ S1600x128.size a) ∧
  (∀ (k3_h2 : k3_cond2 i k3_t1 arg10_r0 = 1#1), ∀ a, (k3_off9 arg7_r0) a + S1.size a ≤ S2.size a) ∧
  (∀ (k3_h5 : k3_cond5 i k3_t1 arg10_r0 = 1#1), ∀ a, (k3_off12 arg8_r0) a + S1x128x128.size a ≤ S2x128x128.size a) ∧
  (∀ (k3_h5 : k3_cond5 i k3_t1 arg10_r0 = 1#1), ∀ a, (k3_off13 i arg10_r0) a + S128x128.size a ≤ S40960x128.size a) ∧
  (∀ (k3_h5 : k3_cond5 i k3_t1 arg10_r0 = 1#1), ∀ a, (k3_off14 arg8_r0) a + S1.size a ≤ S2.size a) ∧
  (∀ (k3_h7 : k3_cond7 i k3_t1 arg10_r0 = 1#1), ∀ a, (k3_off15 arg9_r0) a + S1x128x128.size a ≤ S2x128x128.size a) ∧
  (∀ (k3_h7 : k3_cond7 i k3_t1 arg10_r0 = 1#1), ∀ a, (k3_off16 i arg10_r0) a + S128x128.size a ≤ S40960x128.size a) ∧
  (∀ (k3_h7 : k3_cond7 i k3_t1 arg10_r0 = 1#1), ∀ a, (k3_off17 arg9_r0) a + S1.size a ≤ S2.size a)
theorem k3_off4_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off4 arg6_r0) a + S1x1x128.size a ≤ S2x1x128.size a := fun i k3_t1 arg6_r0 arg7_r0 arg8_r0 arg9_r0 arg10_r0 k3_hw1 k3_h1 => k3_hw1.1 k3_h1
theorem k3_off5_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off5 i arg10_r0) a + S1x128.size a ≤ S1600x128.size a := fun i k3_t1 arg6_r0 arg7_r0 arg8_r0 arg9_r0 arg10_r0 k3_hw1 k3_h1 => k3_hw1.2.1 k3_h1
theorem k3_off6_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off6 arg6_r0) a + S1.size a ≤ S2.size a := fun i k3_t1 arg6_r0 arg7_r0 arg8_r0 arg9_r0 arg10_r0 k3_hw1 k3_h1 => k3_hw1.2.2.1 k3_h1
theorem k3_off7_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off7 arg7_r0) a + S1x1x128.size a ≤ S2x1x128.size a := fun i k3_t1 arg6_r0 arg7_r0 arg8_r0 arg9_r0 arg10_r0 k3_hw1 k3_h2 => k3_hw1.2.2.2.1 k3_h2
theorem k3_off8_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off8 i arg10_r0) a + S1x128.size a ≤ S1600x128.size a := fun i k3_t1 arg6_r0 arg7_r0 arg8_r0 arg9_r0 arg10_r0 k3_hw1 k3_h2 => k3_hw1.2.2.2.2.1 k3_h2
theorem k3_off9_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off9 arg7_r0) a + S1.size a ≤ S2.size a := fun i k3_t1 arg6_r0 arg7_r0 arg8_r0 arg9_r0 arg10_r0 k3_hw1 k3_h2 => k3_hw1.2.2.2.2.2.1 k3_h2
theorem k3_off12_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off12 arg8_r0) a + S1x128x128.size a ≤ S2x128x128.size a := fun i k3_t1 arg6_r0 arg7_r0 arg8_r0 arg9_r0 arg10_r0 k3_hw1 k3_h5 => k3_hw1.2.2.2.2.2.2.1 k3_h5
theorem k3_off13_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off13 i arg10_r0) a + S128x128.size a ≤ S40960x128.size a := fun i k3_t1 arg6_r0 arg7_r0 arg8_r0 arg9_r0 arg10_r0 k3_hw1 k3_h5 => k3_hw1.2.2.2.2.2.2.2.1 k3_h5
theorem k3_off14_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off14 arg8_r0) a + S1.size a ≤ S2.size a := fun i k3_t1 arg6_r0 arg7_r0 arg8_r0 arg9_r0 arg10_r0 k3_hw1 k3_h5 => k3_hw1.2.2.2.2.2.2.2.2.1 k3_h5
theorem k3_off15_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off15 arg9_r0) a + S1x128x128.size a ≤ S2x128x128.size a := fun i k3_t1 arg6_r0 arg7_r0 arg8_r0 arg9_r0 arg10_r0 k3_hw1 k3_h7 => k3_hw1.2.2.2.2.2.2.2.2.2.1 k3_h7
theorem k3_off16_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off16 i arg10_r0) a + S128x128.size a ≤ S40960x128.size a := fun i k3_t1 arg6_r0 arg7_r0 arg8_r0 arg9_r0 arg10_r0 k3_hw1 k3_h7 => k3_hw1.2.2.2.2.2.2.2.2.2.2.1 k3_h7
theorem k3_off17_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off17 arg9_r0) a + S1.size a ≤ S2.size a := fun i k3_t1 arg6_r0 arg7_r0 arg8_r0 arg9_r0 arg10_r0 k3_hw1 k3_h7 => k3_hw1.2.2.2.2.2.2.2.2.2.2.2 k3_h7

def k3_off18 (v34_3_r0 : BitVec 32) : Fin 3 → Nat :=
  let c2_i32_47_r0 : BitVec 32 := 2#32
  let v55_r0 : BitVec 32 := Scalar.remui v34_3_r0 c2_i32_47_r0
  let c0_i32_48_r0 : BitVec 32 := 0#32
  let c0_i32_49_r0 : BitVec 32 := 0#32
  ![v55_r0.toNat, 0, 0]

def k3_off19 (i : grid3.Coords) (v34_4_r0 : BitVec 32) : Fin 2 → Nat :=
  let c128_i32_r0 : BitVec 32 := 128#32
  let true_32_r0 : BitVec 1 := 1#1
  let c1_i32_31_r0 : BitVec 32 := 1#32
  let v35_r0 : BitVec 32 := Scalar.subi v34_4_r0 c1_i32_31_r0
  let v36_r0 : BitVec 32 := Scalar.select true_32_r0 v35_r0 v34_4_r0
  let c_m1_i32_33_r0 : BitVec 32 := 4294967295#32
  let v37_r0 : BitVec 1 := Scalar.cmpi .eq v36_r0 c_m1_i32_33_r0
  let c9_i32_34_r0 : BitVec 32 := 9#32
  let v38_r0 : BitVec 32 := Scalar.select v37_r0 c9_i32_34_r0 v36_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v39_r0 : BitVec 32 := Scalar.addi v38_r0 v4
  let v56_r0 : BitVec 32 := Scalar.muli c128_i32_r0 v39_r0
  let c0_i32_50_r0 : BitVec 32 := 0#32
  ![v56_r0.toNat, 0]

def k3_chk5 (i : grid3.Coords) (v34_4_r0 : BitVec 32) : Prop :=
  (∀ a, (k3_off19 i v34_4_r0) a + S128x128.size a ≤ S40960x128.size a)
theorem k3_off19_inb : ∀ (i : grid3.Coords) (v34_4_r0 : BitVec 32) (k3_hw5 : k3_chk5 i v34_4_r0), ∀ a, (k3_off19 i v34_4_r0) a + S128x128.size a ≤ S40960x128.size a := fun i v34_4_r0 k3_hw5 => k3_hw5

def k3_off20 (v34_3_r0 : BitVec 32) : Fin 1 → Nat :=
  let c2_i32_47_r0 : BitVec 32 := 2#32
  let v55_r0 : BitVec 32 := Scalar.remui v34_3_r0 c2_i32_47_r0
  ![v55_r0.toNat]
def k3_off21 (v34_3_r0 : BitVec 32) : Fin 3 → Nat :=
  let c2_i32_47_r0 : BitVec 32 := 2#32
  let v55_r0 : BitVec 32 := Scalar.remui v34_3_r0 c2_i32_47_r0
  let c0_i32_52_r0 : BitVec 32 := 0#32
  let c0_i32_53_r0 : BitVec 32 := 0#32
  ![v55_r0.toNat, 0, 0]

def k3_chk4 (v34_3_r0 : BitVec 32) : Prop :=
  (∀ a, (k3_off18 v34_3_r0) a + S1x128x128.size a ≤ S2x128x128.size a) ∧
  (∀ a, (k3_off20 v34_3_r0) a + S1.size a ≤ S2.size a) ∧
  (∀ a, (k3_off21 v34_3_r0) a + S1x128x128.size a ≤ S2x128x128.size a)
theorem k3_off18_inb : ∀ (v34_3_r0 : BitVec 32) (k3_hw4 : k3_chk4 v34_3_r0), ∀ a, (k3_off18 v34_3_r0) a + S1x128x128.size a ≤ S2x128x128.size a := fun v34_3_r0 k3_hw4 => k3_hw4.1
theorem k3_off20_inb : ∀ (v34_3_r0 : BitVec 32) (k3_hw4 : k3_chk4 v34_3_r0), ∀ a, (k3_off20 v34_3_r0) a + S1.size a ≤ S2.size a := fun v34_3_r0 k3_hw4 => k3_hw4.2.1
theorem k3_off21_inb : ∀ (v34_3_r0 : BitVec 32) (k3_hw4 : k3_chk4 v34_3_r0), ∀ a, (k3_off21 v34_3_r0) a + S1x128x128.size a ≤ S2x128x128.size a := fun v34_3_r0 k3_hw4 => k3_hw4.2.2

abbrev grid4 : Pipeline.Grid := ⟨2, ![2, 16], ![false, false]⟩

def k4_off1 : Fin 3 → Nat :=
  let c0_i32_13_r0 : BitVec 32 := 0#32
  let c2_i32_r0 : BitVec 32 := 2#32
  let v21_r0 : BitVec 32 := Scalar.remui c0_i32_13_r0 c2_i32_r0
  let c0_i32_15_r0 : BitVec 32 := 0#32
  let c0_i32_16_r0 : BitVec 32 := 0#32
  ![v21_r0.toNat, 0, 0]
def k4_off2 (i : grid4.Coords) : Fin 2 → Nat :=
  let c1_i32_14_r0 : BitVec 32 := 1#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v7_r0 : BitVec 32 := Scalar.addi c0_i32_1_r0 v4
  let c1280_i32_r0 : BitVec 32 := 1280#32
  let v22_r0 : BitVec 32 := Scalar.addi v7_r0 c1280_i32_r0
  let v23_r0 : BitVec 32 := Scalar.muli c1_i32_14_r0 v22_r0
  let c0_i32_17_r0 : BitVec 32 := 0#32
  ![v23_r0.toNat, 0]
def k4_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k4_t1_loop : Scf.Loop 32 :=
  let c0_i32_27_r0 : BitVec 32 := 0#32
  let c10_i32_28_r0 : BitVec 32 := 10#32
  let v33_r0 : BitVec 32 := Scalar.addi c0_i32_27_r0 c10_i32_28_r0
  let c1_i32_29_r0 : BitVec 32 := 1#32
  ⟨c0_i32_27_r0, v33_r0, c1_i32_29_r0⟩
def k4_off4 (arg6_r0 : BitVec 32) : Fin 3 → Nat :=
  let c2_i32_102_r0 : BitVec 32 := 2#32
  let v148_r0 : BitVec 32 := Scalar.remui arg6_r0 c2_i32_102_r0
  let c0_i32_105_r0 : BitVec 32 := 0#32
  let c0_i32_106_r0 : BitVec 32 := 0#32
  ![v148_r0.toNat, 0, 0]
def k4_cond1 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let c1280_i32_68_r0 : BitVec 32 := 1280#32
  let v83_r0 : BitVec 32 := Scalar.addi v67_r0 c1280_i32_68_r0
  let true_61_r0 : BitVec 1 := 1#1
  let c1_i32_60_r0 : BitVec 32 := 1#32
  let v73_r0 : BitVec 32 := Scalar.addi arg10_r0 c1_i32_60_r0
  let v74_r0 : BitVec 32 := Scalar.select true_61_r0 v73_r0 arg10_r0
  let c10_i32_62_r0 : BitVec 32 := 10#32
  let v75_r0 : BitVec 1 := Scalar.cmpi .eq v74_r0 c10_i32_62_r0
  let c0_i32_63_r0 : BitVec 32 := 0#32
  let v76_r0 : BitVec 32 := Scalar.select v75_r0 c0_i32_63_r0 v74_r0
  let v77_r0 : BitVec 32 := Scalar.addi v76_r0 v4
  let c1280_i32_69_r0 : BitVec 32 := 1280#32
  let v84_r0 : BitVec 32 := Scalar.addi v77_r0 c1280_i32_69_r0
  let v85_r0 : BitVec 1 := Scalar.cmpi .ne v83_r0 v84_r0
  let c0_i32_27_r0 : BitVec 32 := 0#32
  let c1_i32_29_r0 : BitVec 32 := 1#32
  let arg5_r0 : BitVec 32 := Scf.iv c0_i32_27_r0 c1_i32_29_r0 k4_t1
  let c9_i32_70_r0 : BitVec 32 := 9#32
  let v86_r0 : BitVec 1 := Scalar.cmpi .sge arg5_r0 c9_i32_70_r0
  let true_71_r0 : BitVec 1 := 1#1
  let v87_r0 : BitVec 1 := Scalar.xori v86_r0 true_71_r0
  let v88_r0 : BitVec 1 := Scalar.andi v85_r0 v87_r0
  let true_72_r0 : BitVec 1 := 1#1
  let v89_r0 : BitVec 1 := Scalar.andi v88_r0 true_72_r0
  let v90_r0 : BitVec 32 := Scalar.extui v89_r0
  let c0_i32_73_r0 : BitVec 32 := 0#32
  let v91_r0 : BitVec 1 := Scalar.cmpi .ne v90_r0 c0_i32_73_r0
  v91_r0

def k4_off5 (i : grid4.Coords) (arg10_r0 : BitVec 32) : Fin 2 → Nat :=
  let c1_i32_104_r0 : BitVec 32 := 1#32
  let true_61_r0 : BitVec 1 := 1#1
  let c1_i32_60_r0 : BitVec 32 := 1#32
  let v73_r0 : BitVec 32 := Scalar.addi arg10_r0 c1_i32_60_r0
  let v74_r0 : BitVec 32 := Scalar.select true_61_r0 v73_r0 arg10_r0
  let c10_i32_62_r0 : BitVec 32 := 10#32
  let v75_r0 : BitVec 1 := Scalar.cmpi .eq v74_r0 c10_i32_62_r0
  let c0_i32_63_r0 : BitVec 32 := 0#32
  let v76_r0 : BitVec 32 := Scalar.select v75_r0 c0_i32_63_r0 v74_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v77_r0 : BitVec 32 := Scalar.addi v76_r0 v4
  let c1280_i32_103_r0 : BitVec 32 := 1280#32
  let v149_r0 : BitVec 32 := Scalar.addi v77_r0 c1280_i32_103_r0
  let v150_r0 : BitVec 32 := Scalar.muli c1_i32_104_r0 v149_r0
  let c0_i32_107_r0 : BitVec 32 := 0#32
  ![v150_r0.toNat, 0]
def k4_off6 (arg6_r0 : BitVec 32) : Fin 1 → Nat :=
  let c2_i32_102_r0 : BitVec 32 := 2#32
  let v148_r0 : BitVec 32 := Scalar.remui arg6_r0 c2_i32_102_r0
  ![v148_r0.toNat]
def k4_off7 (arg7_r0 : BitVec 32) : Fin 3 → Nat :=
  let c2_i32_104_r0 : BitVec 32 := 2#32
  let v150_r0 : BitVec 32 := Scalar.remui arg7_r0 c2_i32_104_r0
  let c0_i32_105_r0 : BitVec 32 := 0#32
  let c0_i32_106_r0 : BitVec 32 := 0#32
  ![v150_r0.toNat, 0, 0]
def k4_cond2 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let c1280_i32_68_r0 : BitVec 32 := 1280#32
  let v83_r0 : BitVec 32 := Scalar.addi v67_r0 c1280_i32_68_r0
  let true_57_r0 : BitVec 1 := 1#1
  let c1_i32_56_r0 : BitVec 32 := 1#32
  let v68_r0 : BitVec 32 := Scalar.subi arg10_r0 c1_i32_56_r0
  let v69_r0 : BitVec 32 := Scalar.select true_57_r0 v68_r0 arg10_r0
  let c_m1_i32_58_r0 : BitVec 32 := 4294967295#32
  let v70_r0 : BitVec 1 := Scalar.cmpi .eq v69_r0 c_m1_i32_58_r0
  let c9_i32_59_r0 : BitVec 32 := 9#32
  let v71_r0 : BitVec 32 := Scalar.select v70_r0 c9_i32_59_r0 v69_r0
  let v72_r0 : BitVec 32 := Scalar.addi v71_r0 v4
  let c1280_i32_78_r0 : BitVec 32 := 1280#32
  let v99_r0 : BitVec 32 := Scalar.addi v72_r0 c1280_i32_78_r0
  let v100_r0 : BitVec 1 := Scalar.cmpi .ne v83_r0 v99_r0
  let c0_i32_27_r0 : BitVec 32 := 0#32
  let c1_i32_29_r0 : BitVec 32 := 1#32
  let arg5_r0 : BitVec 32 := Scf.iv c0_i32_27_r0 c1_i32_29_r0 k4_t1
  let c0_i32_54_r0 : BitVec 32 := 0#32
  let v65_r0 : BitVec 1 := Scalar.cmpi .eq arg5_r0 c0_i32_54_r0
  let v101_r0 : BitVec 1 := Scalar.ori v100_r0 v65_r0
  let c0_i32_79_r0 : BitVec 32 := 0#32
  let v102_r0 : BitVec 1 := Scalar.cmpi .sge arg5_r0 c0_i32_79_r0
  let v103_r0 : BitVec 1 := Scalar.andi v101_r0 v102_r0
  let v104_r0 : BitVec 32 := Scalar.extui v103_r0
  let c0_i32_80_r0 : BitVec 32 := 0#32
  let v105_r0 : BitVec 1 := Scalar.cmpi .ne v104_r0 c0_i32_80_r0
  v105_r0

def k4_off8 (i : grid4.Coords) (arg10_r0 : BitVec 32) : Fin 2 → Nat :=
  let c1_i32_103_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let c1280_i32_102_r0 : BitVec 32 := 1280#32
  let v148_r0 : BitVec 32 := Scalar.addi v67_r0 c1280_i32_102_r0
  let v149_r0 : BitVec 32 := Scalar.muli c1_i32_103_r0 v148_r0
  let c0_i32_107_r0 : BitVec 32 := 0#32
  ![v149_r0.toNat, 0]
def k4_off9 (arg7_r0 : BitVec 32) : Fin 1 → Nat :=
  let c2_i32_104_r0 : BitVec 32 := 2#32
  let v150_r0 : BitVec 32 := Scalar.remui arg7_r0 c2_i32_104_r0
  ![v150_r0.toNat]
def k4_off10 (arg8_r0 : BitVec 32) : Fin 3 → Nat :=
  let c2_i32_84_r0 : BitVec 32 := 2#32
  let v113_r0 : BitVec 32 := Scalar.remui arg8_r0 c2_i32_84_r0
  let c0_i32_102_r1 : BitVec 32 := 0#32
  let c0_i32_103_r1 : BitVec 32 := 0#32
  ![v113_r0.toNat, 0, 0]

def k4_chk2 (arg8_r0 : BitVec 32) : Prop :=
  (∀ a, (k4_off10 arg8_r0) a + S1x128x128.size a ≤ S2x128x128.size a)
theorem k4_off10_inb : ∀ (arg8_r0 : BitVec 32) (k4_hw2 : k4_chk2 arg8_r0), ∀ a, (k4_off10 arg8_r0) a + S1x128x128.size a ≤ S2x128x128.size a := fun arg8_r0 k4_hw2 => k4_hw2

def k4_off11 (arg7_r0 : BitVec 32) : Fin 3 → Nat :=
  let c2_i32_83_r0 : BitVec 32 := 2#32
  let v112_r0 : BitVec 32 := Scalar.remui arg7_r0 c2_i32_83_r0
  let c0_i32_104_r1 : BitVec 32 := 0#32
  let c0_i32_105_r1 : BitVec 32 := 0#32
  ![v112_r0.toNat, 0, 0]

def k4_chk3 (arg7_r0 : BitVec 32) : Prop :=
  (∀ a, (k4_off11 arg7_r0) a + S1x1x128.size a ≤ S2x1x128.size a)
theorem k4_off11_inb : ∀ (arg7_r0 : BitVec 32) (k4_hw3 : k4_chk3 arg7_r0), ∀ a, (k4_off11 arg7_r0) a + S1x1x128.size a ≤ S2x1x128.size a := fun arg7_r0 k4_hw3 => k4_hw3

def k4_off12 (arg8_r0 : BitVec 32) : Fin 3 → Nat :=
  let c2_i32_102_r0 : BitVec 32 := 2#32
  let v148_r0 : BitVec 32 := Scalar.remui arg8_r0 c2_i32_102_r0
  let c0_i32_104_r0 : BitVec 32 := 0#32
  let c0_i32_105_r0 : BitVec 32 := 0#32
  ![v148_r0.toNat, 0, 0]
def k4_cond5 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let true_61_r0 : BitVec 1 := 1#1
  let c1_i32_60_r0 : BitVec 32 := 1#32
  let v73_r0 : BitVec 32 := Scalar.addi arg10_r0 c1_i32_60_r0
  let v74_r0 : BitVec 32 := Scalar.select true_61_r0 v73_r0 arg10_r0
  let c10_i32_62_r0 : BitVec 32 := 10#32
  let v75_r0 : BitVec 1 := Scalar.cmpi .eq v74_r0 c10_i32_62_r0
  let c0_i32_63_r0 : BitVec 32 := 0#32
  let v76_r0 : BitVec 32 := Scalar.select v75_r0 c0_i32_63_r0 v74_r0
  let v77_r0 : BitVec 32 := Scalar.addi v76_r0 v4
  let v119_r0 : BitVec 1 := Scalar.cmpi .ne v67_r0 v77_r0
  let c0_i32_27_r0 : BitVec 32 := 0#32
  let c1_i32_29_r0 : BitVec 32 := 1#32
  let arg5_r0 : BitVec 32 := Scf.iv c0_i32_27_r0 c1_i32_29_r0 k4_t1
  let c9_i32_55_r0 : BitVec 32 := 9#32
  let v66_r0 : BitVec 1 := Scalar.cmpi .eq arg5_r0 c9_i32_55_r0
  let v120_r0 : BitVec 1 := Scalar.ori v119_r0 v66_r0
  let v121_r0 : BitVec 32 := Scalar.extui v120_r0
  let c0_i32_87_r0 : BitVec 32 := 0#32
  let v122_r0 : BitVec 1 := Scalar.cmpi .ne v121_r0 c0_i32_87_r0
  v122_r0

def k4_off13 (i : grid4.Coords) (arg10_r0 : BitVec 32) : Fin 2 → Nat :=
  let c128_i32_103_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let v149_r0 : BitVec 32 := Scalar.muli c128_i32_103_r0 v67_r0
  let c0_i32_106_r0 : BitVec 32 := 0#32
  ![v149_r0.toNat, 0]
def k4_off14 (arg8_r0 : BitVec 32) : Fin 1 → Nat :=
  let c2_i32_102_r0 : BitVec 32 := 2#32
  let v148_r0 : BitVec 32 := Scalar.remui arg8_r0 c2_i32_102_r0
  ![v148_r0.toNat]
def k4_off15 (arg9_r0 : BitVec 32) : Fin 3 → Nat :=
  let c2_i32_102_r0 : BitVec 32 := 2#32
  let v148_r0 : BitVec 32 := Scalar.remui arg9_r0 c2_i32_102_r0
  let c0_i32_104_r0 : BitVec 32 := 0#32
  let c0_i32_105_r0 : BitVec 32 := 0#32
  ![v148_r0.toNat, 0, 0]
def k4_cond7 (i : grid4.Coords) (k4_t1 : Fin k4_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v67_r0 : BitVec 32 := Scalar.addi arg10_r0 v4
  let true_57_r0 : BitVec 1 := 1#1
  let c1_i32_56_r0 : BitVec 32 := 1#32
  let v68_r0 : BitVec 32 := Scalar.subi arg10_r0 c1_i32_56_r0
  let v69_r0 : BitVec 32 := Scalar.select true_57_r0 v68_r0 arg10_r0
  let c_m1_i32_58_r0 : BitVec 32 := 4294967295#32
  let v70_r0 : BitVec 1 := Scalar.cmpi .eq v69_r0 c_m1_i32_58_r0
  let c9_i32_59_r0 : BitVec 32 := 9#32
  let v71_r0 : BitVec 32 := Scalar.select v70_r0 c9_i32_59_r0 v69_r0
  let v72_r0 : BitVec 32 := Scalar.addi v71_r0 v4
  let v132_r0 : BitVec 1 := Scalar.cmpi .ne v67_r0 v72_r0
  let c0_i32_27_r0 : BitVec 32 := 0#32
  let c1_i32_29_r0 : BitVec 32 := 1#32
  let arg5_r0 : BitVec 32 := Scf.iv c0_i32_27_r0 c1_i32_29_r0 k4_t1
  let c0_i32_54_r0 : BitVec 32 := 0#32
  let v65_r0 : BitVec 1 := Scalar.cmpi .eq arg5_r0 c0_i32_54_r0
  let true_93_r0 : BitVec 1 := 1#1
  let v133_r0 : BitVec 1 := Scalar.xori v65_r0 true_93_r0
  let v134_r0 : BitVec 1 := Scalar.andi v132_r0 v133_r0
  let v135_r0 : BitVec 32 := Scalar.extui v134_r0
  let c0_i32_94_r0 : BitVec 32 := 0#32
  let v136_r0 : BitVec 1 := Scalar.cmpi .ne v135_r0 c0_i32_94_r0
  v136_r0

def k4_off16 (i : grid4.Coords) (arg10_r0 : BitVec 32) : Fin 2 → Nat :=
  let c128_i32_103_r0 : BitVec 32 := 128#32
  let true_57_r0 : BitVec 1 := 1#1
  let c1_i32_56_r0 : BitVec 32 := 1#32
  let v68_r0 : BitVec 32 := Scalar.subi arg10_r0 c1_i32_56_r0
  let v69_r0 : BitVec 32 := Scalar.select true_57_r0 v68_r0 arg10_r0
  let c_m1_i32_58_r0 : BitVec 32 := 4294967295#32
  let v70_r0 : BitVec 1 := Scalar.cmpi .eq v69_r0 c_m1_i32_58_r0
  let c9_i32_59_r0 : BitVec 32 := 9#32
  let v71_r0 : BitVec 32 := Scalar.select v70_r0 c9_i32_59_r0 v69_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v72_r0 : BitVec 32 := Scalar.addi v71_r0 v4
  let v149_r0 : BitVec 32 := Scalar.muli c128_i32_103_r0 v72_r0
  let c0_i32_106_r0 : BitVec 32 := 0#32
  ![v149_r0.toNat, 0]
def k4_off17 (arg9_r0 : BitVec 32) : Fin 1 → Nat :=
  let c2_i32_102_r0 : BitVec 32 := 2#32
  let v148_r0 : BitVec 32 := Scalar.remui arg9_r0 c2_i32_102_r0
  ![v148_r0.toNat]

def k4_chk1 (i : grid4.Coords) (k4_t1 : Fin k4_t1_loop.trips) (arg6_r0 : BitVec 32) (arg7_r0 : BitVec 32) (arg8_r0 : BitVec 32) (arg9_r0 : BitVec 32) (arg10_r0 : BitVec 32) : Prop :=
  (∀ (k4_h1 : k4_cond1 i k4_t1 arg10_r0 = 1#1), ∀ a, (k4_off4 arg6_r0) a + S1x1x128.size a ≤ S2x1x128.size a) ∧
  (∀ (k4_h1 : k4_cond1 i k4_t1 arg10_r0 = 1#1), ∀ a, (k4_off5 i arg10_r0) a + S1x128.size a ≤ S1600x128.size a) ∧
  (∀ (k4_h1 : k4_cond1 i k4_t1 arg10_r0 = 1#1), ∀ a, (k4_off6 arg6_r0) a + S1.size a ≤ S2.size a) ∧
  (∀ (k4_h2 : k4_cond2 i k4_t1 arg10_r0 = 1#1), ∀ a, (k4_off7 arg7_r0) a + S1x1x128.size a ≤ S2x1x128.size a) ∧
  (∀ (k4_h2 : k4_cond2 i k4_t1 arg10_r0 = 1#1), ∀ a, (k4_off8 i arg10_r0) a + S1x128.size a ≤ S1600x128.size a) ∧
  (∀ (k4_h2 : k4_cond2 i k4_t1 arg10_r0 = 1#1), ∀ a, (k4_off9 arg7_r0) a + S1.size a ≤ S2.size a) ∧
  (∀ (k4_h5 : k4_cond5 i k4_t1 arg10_r0 = 1#1), ∀ a, (k4_off12 arg8_r0) a + S1x128x128.size a ≤ S2x128x128.size a) ∧
  (∀ (k4_h5 : k4_cond5 i k4_t1 arg10_r0 = 1#1), ∀ a, (k4_off13 i arg10_r0) a + S128x128.size a ≤ S40960x128.size a) ∧
  (∀ (k4_h5 : k4_cond5 i k4_t1 arg10_r0 = 1#1), ∀ a, (k4_off14 arg8_r0) a + S1.size a ≤ S2.size a) ∧
  (∀ (k4_h7 : k4_cond7 i k4_t1 arg10_r0 = 1#1), ∀ a, (k4_off15 arg9_r0) a + S1x128x128.size a ≤ S2x128x128.size a) ∧
  (∀ (k4_h7 : k4_cond7 i k4_t1 arg10_r0 = 1#1), ∀ a, (k4_off16 i arg10_r0) a + S128x128.size a ≤ S40960x128.size a) ∧
  (∀ (k4_h7 : k4_cond7 i k4_t1 arg10_r0 = 1#1), ∀ a, (k4_off17 arg9_r0) a + S1.size a ≤ S2.size a)
theorem k4_off4_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i k4_t1 arg10_r0 = 1#1), ∀ a, (k4_off4 arg6_r0) a + S1x1x128.size a ≤ S2x1x128.size a := fun i k4_t1 arg6_r0 arg7_r0 arg8_r0 arg9_r0 arg10_r0 k4_hw1 k4_h1 => k4_hw1.1 k4_h1
theorem k4_off5_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i k4_t1 arg10_r0 = 1#1), ∀ a, (k4_off5 i arg10_r0) a + S1x128.size a ≤ S1600x128.size a := fun i k4_t1 arg6_r0 arg7_r0 arg8_r0 arg9_r0 arg10_r0 k4_hw1 k4_h1 => k4_hw1.2.1 k4_h1
theorem k4_off6_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i k4_t1 arg10_r0 = 1#1), ∀ a, (k4_off6 arg6_r0) a + S1.size a ≤ S2.size a := fun i k4_t1 arg6_r0 arg7_r0 arg8_r0 arg9_r0 arg10_r0 k4_hw1 k4_h1 => k4_hw1.2.2.1 k4_h1
theorem k4_off7_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h2 : k4_cond2 i k4_t1 arg10_r0 = 1#1), ∀ a, (k4_off7 arg7_r0) a + S1x1x128.size a ≤ S2x1x128.size a := fun i k4_t1 arg6_r0 arg7_r0 arg8_r0 arg9_r0 arg10_r0 k4_hw1 k4_h2 => k4_hw1.2.2.2.1 k4_h2
theorem k4_off8_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h2 : k4_cond2 i k4_t1 arg10_r0 = 1#1), ∀ a, (k4_off8 i arg10_r0) a + S1x128.size a ≤ S1600x128.size a := fun i k4_t1 arg6_r0 arg7_r0 arg8_r0 arg9_r0 arg10_r0 k4_hw1 k4_h2 => k4_hw1.2.2.2.2.1 k4_h2
theorem k4_off9_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h2 : k4_cond2 i k4_t1 arg10_r0 = 1#1), ∀ a, (k4_off9 arg7_r0) a + S1.size a ≤ S2.size a := fun i k4_t1 arg6_r0 arg7_r0 arg8_r0 arg9_r0 arg10_r0 k4_hw1 k4_h2 => k4_hw1.2.2.2.2.2.1 k4_h2
theorem k4_off12_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h5 : k4_cond5 i k4_t1 arg10_r0 = 1#1), ∀ a, (k4_off12 arg8_r0) a + S1x128x128.size a ≤ S2x128x128.size a := fun i k4_t1 arg6_r0 arg7_r0 arg8_r0 arg9_r0 arg10_r0 k4_hw1 k4_h5 => k4_hw1.2.2.2.2.2.2.1 k4_h5
theorem k4_off13_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h5 : k4_cond5 i k4_t1 arg10_r0 = 1#1), ∀ a, (k4_off13 i arg10_r0) a + S128x128.size a ≤ S40960x128.size a := fun i k4_t1 arg6_r0 arg7_r0 arg8_r0 arg9_r0 arg10_r0 k4_hw1 k4_h5 => k4_hw1.2.2.2.2.2.2.2.1 k4_h5
theorem k4_off14_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h5 : k4_cond5 i k4_t1 arg10_r0 = 1#1), ∀ a, (k4_off14 arg8_r0) a + S1.size a ≤ S2.size a := fun i k4_t1 arg6_r0 arg7_r0 arg8_r0 arg9_r0 arg10_r0 k4_hw1 k4_h5 => k4_hw1.2.2.2.2.2.2.2.2.1 k4_h5
theorem k4_off15_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h7 : k4_cond7 i k4_t1 arg10_r0 = 1#1), ∀ a, (k4_off15 arg9_r0) a + S1x128x128.size a ≤ S2x128x128.size a := fun i k4_t1 arg6_r0 arg7_r0 arg8_r0 arg9_r0 arg10_r0 k4_hw1 k4_h7 => k4_hw1.2.2.2.2.2.2.2.2.2.1 k4_h7
theorem k4_off16_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h7 : k4_cond7 i k4_t1 arg10_r0 = 1#1), ∀ a, (k4_off16 i arg10_r0) a + S128x128.size a ≤ S40960x128.size a := fun i k4_t1 arg6_r0 arg7_r0 arg8_r0 arg9_r0 arg10_r0 k4_hw1 k4_h7 => k4_hw1.2.2.2.2.2.2.2.2.2.2.1 k4_h7
theorem k4_off17_inb : ∀ (i : grid4.Coords) (k4_t1 : Fin k4_t1_loop.trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h7 : k4_cond7 i k4_t1 arg10_r0 = 1#1), ∀ a, (k4_off17 arg9_r0) a + S1.size a ≤ S2.size a := fun i k4_t1 arg6_r0 arg7_r0 arg8_r0 arg9_r0 arg10_r0 k4_hw1 k4_h7 => k4_hw1.2.2.2.2.2.2.2.2.2.2.2 k4_h7

def k4_off18 (v34_3_r0 : BitVec 32) : Fin 3 → Nat :=
  let c2_i32_47_r0 : BitVec 32 := 2#32
  let v55_r0 : BitVec 32 := Scalar.remui v34_3_r0 c2_i32_47_r0
  let c0_i32_48_r0 : BitVec 32 := 0#32
  let c0_i32_49_r0 : BitVec 32 := 0#32
  ![v55_r0.toNat, 0, 0]

def k4_off19 (i : grid4.Coords) (v34_4_r0 : BitVec 32) : Fin 2 → Nat :=
  let c128_i32_r0 : BitVec 32 := 128#32
  let true_32_r0 : BitVec 1 := 1#1
  let c1_i32_31_r0 : BitVec 32 := 1#32
  let v35_r0 : BitVec 32 := Scalar.subi v34_4_r0 c1_i32_31_r0
  let v36_r0 : BitVec 32 := Scalar.select true_32_r0 v35_r0 v34_4_r0
  let c_m1_i32_33_r0 : BitVec 32 := 4294967295#32
  let v37_r0 : BitVec 1 := Scalar.cmpi .eq v36_r0 c_m1_i32_33_r0
  let c9_i32_34_r0 : BitVec 32 := 9#32
  let v38_r0 : BitVec 32 := Scalar.select v37_r0 c9_i32_34_r0 v36_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v39_r0 : BitVec 32 := Scalar.addi v38_r0 v4
  let v56_r0 : BitVec 32 := Scalar.muli c128_i32_r0 v39_r0
  let c0_i32_50_r0 : BitVec 32 := 0#32
  ![v56_r0.toNat, 0]

def k4_chk5 (i : grid4.Coords) (v34_4_r0 : BitVec 32) : Prop :=
  (∀ a, (k4_off19 i v34_4_r0) a + S128x128.size a ≤ S40960x128.size a)
theorem k4_off19_inb : ∀ (i : grid4.Coords) (v34_4_r0 : BitVec 32) (k4_hw5 : k4_chk5 i v34_4_r0), ∀ a, (k4_off19 i v34_4_r0) a + S128x128.size a ≤ S40960x128.size a := fun i v34_4_r0 k4_hw5 => k4_hw5

def k4_off20 (v34_3_r0 : BitVec 32) : Fin 1 → Nat :=
  let c2_i32_47_r0 : BitVec 32 := 2#32
  let v55_r0 : BitVec 32 := Scalar.remui v34_3_r0 c2_i32_47_r0
  ![v55_r0.toNat]
def k4_off21 (v34_3_r0 : BitVec 32) : Fin 3 → Nat :=
  let c2_i32_47_r0 : BitVec 32 := 2#32
  let v55_r0 : BitVec 32 := Scalar.remui v34_3_r0 c2_i32_47_r0
  let c0_i32_52_r0 : BitVec 32 := 0#32
  let c0_i32_53_r0 : BitVec 32 := 0#32
  ![v55_r0.toNat, 0, 0]

def k4_chk4 (v34_3_r0 : BitVec 32) : Prop :=
  (∀ a, (k4_off18 v34_3_r0) a + S1x128x128.size a ≤ S2x128x128.size a) ∧
  (∀ a, (k4_off20 v34_3_r0) a + S1.size a ≤ S2.size a) ∧
  (∀ a, (k4_off21 v34_3_r0) a + S1x128x128.size a ≤ S2x128x128.size a)
theorem k4_off18_inb : ∀ (v34_3_r0 : BitVec 32) (k4_hw4 : k4_chk4 v34_3_r0), ∀ a, (k4_off18 v34_3_r0) a + S1x128x128.size a ≤ S2x128x128.size a := fun v34_3_r0 k4_hw4 => k4_hw4.1
theorem k4_off20_inb : ∀ (v34_3_r0 : BitVec 32) (k4_hw4 : k4_chk4 v34_3_r0), ∀ a, (k4_off20 v34_3_r0) a + S1.size a ≤ S2.size a := fun v34_3_r0 k4_hw4 => k4_hw4.2.1
theorem k4_off21_inb : ∀ (v34_3_r0 : BitVec 32) (k4_hw4 : k4_chk4 v34_3_r0), ∀ a, (k4_off21 v34_3_r0) a + S1x128x128.size a ≤ S2x128x128.size a := fun v34_3_r0 k4_hw4 => k4_hw4.2.2

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc5_transform_2 (i : grid5.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage5_0 : Fin 2 → Memref sig .tc .vmem S8192x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1x8192 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x1x8192 .i32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S514x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S8192x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let c5_i32 : BitVec 32 := 5#32
  let v0 : BitVec 32 := Scalar.addi arg0 c5_i32
  let c0_i32 : BitVec 32 := 0#32
  let c0_i32_0 : BitVec 32 := 0#32
  let c0_i32_1 : BitVec 32 := 0#32
  ![v0.toNat, c0_i32.toNat, c0_i32_0.toNat]

def cc6_transform_2 (i : grid6.Coords) : Fin 3 → Nat :=
  let arg0 : BitVec 32 := BitVec.ofNat 32 (i 0).val
  let c5_i32 : BitVec 32 := 5#32
  let v0 : BitVec 32 := Scalar.addi arg0 c5_i32
  let c0_i32 : BitVec 32 := 0#32
  let c0_i32_0 : BitVec 32 := 0#32
  let c0_i32_1 : BitVec 32 := 0#32
  ![v0.toNat, c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c5_i32 : BitVec 32 := 5#32
  let v0 : BitVec 32 := Scalar.addi arg0 c5_i32
  let c0_i32 : BitVec 32 := 0#32
  let c0_i32_0 : BitVec 32 := 0#32
  ![v0.toNat, c0_i32.toNat]

abbrev stage6_0 : Fin 2 → Memref sig .tc .vmem S8192x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x8192 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x1x8192 .i32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S514x128 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S8192x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 3 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  let c0_i32_1 : BitVec 32 := 0#32
  ![v0.toNat, c0_i32.toNat, c0_i32_0.toNat]

def cc7_transform_2 (i : grid7.Coords) : Fin 3 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  let c0_i32_1 : BitVec 32 := 0#32
  ![v0.toNat, c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  ![v0.toNat, c0_i32.toNat]

abbrev stage7_0 : Fin 2 → Memref sig .tc .vmem S8192x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x1x8192 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x1x8192 .i32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S514x128 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S8192x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 3 → Nat :=
  let arg0 : BitVec 32 := BitVec.ofNat 32 (i 0).val
  let c15_i32 : BitVec 32 := 15#32
  let v0 : BitVec 32 := Scalar.addi arg0 c15_i32
  let c0_i32 : BitVec 32 := 0#32
  let c0_i32_0 : BitVec 32 := 0#32
  let c0_i32_1 : BitVec 32 := 0#32
  ![v0.toNat, c0_i32.toNat, c0_i32_0.toNat]

def cc8_transform_2 (i : grid8.Coords) : Fin 3 → Nat :=
  let arg0 : BitVec 32 := BitVec.ofNat 32 (i 0).val
  let c15_i32 : BitVec 32 := 15#32
  let v0 : BitVec 32 := Scalar.addi arg0 c15_i32
  let c0_i32 : BitVec 32 := 0#32
  let c0_i32_0 : BitVec 32 := 0#32
  let c0_i32_1 : BitVec 32 := 0#32
  ![v0.toNat, c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c15_i32 : BitVec 32 := 15#32
  let v0 : BitVec 32 := Scalar.addi arg0 c15_i32
  let c0_i32 : BitVec 32 := 0#32
  let c0_i32_0 : BitVec 32 := 0#32
  ![v0.toNat, c0_i32.toNat]

abbrev stage8_0 : Fin 2 → Memref sig .tc .vmem S8192x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x1x8192 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1x1x8192 .i32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S514x128 .bf16 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S8192x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 3 → Nat :=
  let arg0 : BitVec 32 := BitVec.ofNat 32 (i 0).val
  let c20_i32 : BitVec 32 := 20#32
  let v0 : BitVec 32 := Scalar.addi arg0 c20_i32
  let c0_i32 : BitVec 32 := 0#32
  let c0_i32_0 : BitVec 32 := 0#32
  let c0_i32_1 : BitVec 32 := 0#32
  ![v0.toNat, c0_i32.toNat, c0_i32_0.toNat]

def cc9_transform_2 (i : grid9.Coords) : Fin 3 → Nat :=
  let arg0 : BitVec 32 := BitVec.ofNat 32 (i 0).val
  let c20_i32 : BitVec 32 := 20#32
  let v0 : BitVec 32 := Scalar.addi arg0 c20_i32
  let c0_i32 : BitVec 32 := 0#32
  let c0_i32_0 : BitVec 32 := 0#32
  let c0_i32_1 : BitVec 32 := 0#32
  ![v0.toNat, c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c20_i32 : BitVec 32 := 20#32
  let v0 : BitVec 32 := Scalar.addi arg0 c20_i32
  let c0_i32 : BitVec 32 := 0#32
  let c0_i32_0 : BitVec 32 := 0#32
  ![v0.toNat, c0_i32.toNat]

abbrev stage9_0 : Fin 2 → Memref sig .tc .vmem S8192x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x1x8192 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S1x1x8192 .i32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S514x128 .bf16 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S8192x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev scKind : Fin 5 → Kind := fun | 0 => .scVector | 1 => .scVector | 2 => .scVector | 3 => .scVector | 4 => .scVector | ⟨_ + 5, h⟩ => absurd h (Nat.not_lt.2 (Nat.le_add_left _ _))
abbrev scNCore : Fin 5 → Nat := fun | 0 => 2 | 1 => 2 | 2 => 2 | 3 => 2 | 4 => 2 | ⟨_ + 5, h⟩ => absurd h (Nat.not_lt.2 (Nat.le_add_left _ _))
abbrev scNSub : Fin 5 → Nat := fun | 0 => 16 | 1 => 16 | 2 => 16 | 3 => 16 | 4 => 16 | ⟨_ + 5, h⟩ => absurd h (Nat.not_lt.2 (Nat.le_add_left _ _))
-- ==== ReferenceIdeal.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1x1x128 : Shape := ⟨3, ![1, 1, 128]⟩

abbrev nBuf : Space → Nat
  | .hbm => 123
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024x200, .i32⟩
  | .hbm, ⟨2, _⟩ => ⟨S1024x200, .i32⟩
  | .hbm, ⟨3, _⟩ => ⟨S100000x128, .f32⟩
  | .hbm, ⟨4, _⟩ => ⟨S512x128, .f32⟩
  | .hbm, ⟨5, _⟩ => ⟨S2x128, .f32⟩
  | .hbm, ⟨6, _⟩ => ⟨S128, .f32⟩
  | .hbm, ⟨7, _⟩ => ⟨S128, .f32⟩
  | .hbm, ⟨8, _⟩ => ⟨S_, .i32⟩
  | .hbm, ⟨9, _⟩ => ⟨S1024x200, .i32⟩
  | .hbm, ⟨10, _⟩ => ⟨S1024x200, .i1⟩
  | .hbm, ⟨11, _⟩ => ⟨S_, .i32⟩
  | .hbm, ⟨12, _⟩ => ⟨S1024x200, .i32⟩
  | .hbm, ⟨13, _⟩ => ⟨S1024x200, .i32⟩
  | .hbm, ⟨14, _⟩ => ⟨S1024x200, .i32⟩
  | .hbm, ⟨15, _⟩ => ⟨S1024x200x1, .i32⟩
  | .hbm, ⟨16, _⟩ => ⟨S1, .i32⟩
  | .hbm, ⟨17, _⟩ => ⟨S_, .i32⟩
  | .hbm, ⟨18, _⟩ => ⟨S1024x200x1, .i32⟩
  | .hbm, ⟨19, _⟩ => ⟨S1024x200x1, .i1⟩
  | .hbm, ⟨20, _⟩ => ⟨S1x1x1, .i32⟩
  | .hbm, ⟨21, _⟩ => ⟨S1024x200x1, .i32⟩
  | .hbm, ⟨22, _⟩ => ⟨S1024x200x1, .i1⟩
  | .hbm, ⟨23, _⟩ => ⟨S1024x200x1, .i1⟩
  | .hbm, ⟨24, _⟩ => ⟨S_, .i1⟩
  | .hbm, ⟨25, _⟩ => ⟨S1024x200, .i1⟩
  | .hbm, ⟨26, _⟩ => ⟨S1024x200x128, .f32⟩
  | .hbm, ⟨27, _⟩ => ⟨S1024x200x128, .i1⟩
  | .hbm, ⟨28, _⟩ => ⟨S_, .f32⟩
  | .hbm, ⟨29, _⟩ => ⟨S1024x200x128, .f32⟩
  | .hbm, ⟨30, _⟩ => ⟨S1024x200x128, .f32⟩
  | .hbm, ⟨31, _⟩ => ⟨S_, .i32⟩
  | .hbm, ⟨32, _⟩ => ⟨S1024x200, .i32⟩
  | .hbm, ⟨33, _⟩ => ⟨S1024x200, .i1⟩
  | .hbm, ⟨34, _⟩ => ⟨S_, .i32⟩
  | .hbm, ⟨35, _⟩ => ⟨S1024x200, .i32⟩
  | .hbm, ⟨36, _⟩ => ⟨S1024x200, .i32⟩
  | .hbm, ⟨37, _⟩ => ⟨S1024x200, .i32⟩
  | .hbm, ⟨38, _⟩ => ⟨S1024x200x1, .i32⟩
  | .hbm, ⟨39, _⟩ => ⟨S1, .i32⟩
  | .hbm, ⟨40, _⟩ => ⟨S_, .i32⟩
  | .hbm, ⟨41, _⟩ => ⟨S1024x200x1, .i32⟩
  | .hbm, ⟨42, _⟩ => ⟨S1024x200x1, .i1⟩
  | .hbm, ⟨43, _⟩ => ⟨S1x1x1, .i32⟩
  | .hbm, ⟨44, _⟩ => ⟨S1024x200x1, .i32⟩
  | .hbm, ⟨45, _⟩ => ⟨S1024x200x1, .i1⟩
  | .hbm, ⟨46, _⟩ => ⟨S1024x200x1, .i1⟩
  | .hbm, ⟨47, _⟩ => ⟨S_, .i1⟩
  | .hbm, ⟨48, _⟩ => ⟨S1024x200, .i1⟩
  | .hbm, ⟨49, _⟩ => ⟨S1024x200x128, .f32⟩
  | .hbm, ⟨50, _⟩ => ⟨S1024x200x128, .i1⟩
  | .hbm, ⟨51, _⟩ => ⟨S_, .f32⟩
  | .hbm, ⟨52, _⟩ => ⟨S1024x200x128, .f32⟩
  | .hbm, ⟨53, _⟩ => ⟨S1024x200x128, .f32⟩
  | .hbm, ⟨54, _⟩ => ⟨S_, .i32⟩
  | .hbm, ⟨55, _⟩ => ⟨S1024x200, .i32⟩
  | .hbm, ⟨56, _⟩ => ⟨S1024x200, .i1⟩
  | .hbm, ⟨57, _⟩ => ⟨S_, .i32⟩
  | .hbm, ⟨58, _⟩ => ⟨S1024x200, .i32⟩
  | .hbm, ⟨59, _⟩ => ⟨S1024x200, .i32⟩
  | .hbm, ⟨60, _⟩ => ⟨S1024x200, .i32⟩
  | .hbm, ⟨61, _⟩ => ⟨S1024x200x1, .i32⟩
  | .hbm, ⟨62, _⟩ => ⟨S1, .i32⟩
  | .hbm, ⟨63, _⟩ => ⟨S_, .i32⟩
  | .hbm, ⟨64, _⟩ => ⟨S1024x200x1, .i32⟩
  | .hbm, ⟨65, _⟩ => ⟨S1024x200x1, .i1⟩
  | .hbm, ⟨66, _⟩ => ⟨S1x1x1, .i32⟩
  | .hbm, ⟨67, _⟩ => ⟨S1024x200x1, .i32⟩
  | .hbm, ⟨68, _⟩ => ⟨S1024x200x1, .i1⟩
  | .hbm, ⟨69, _⟩ => ⟨S1024x200x1, .i1⟩
  | .hbm, ⟨70, _⟩ => ⟨S_, .i1⟩
  | .hbm, ⟨71, _⟩ => ⟨S1024x200, .i1⟩
  | .hbm, ⟨72, _⟩ => ⟨S1024x200x128, .f32⟩
  | .hbm, ⟨73, _⟩ => ⟨S1024x200x128, .i1⟩
  | .hbm, ⟨74, _⟩ => ⟨S_, .f32⟩
  | .hbm, ⟨75, _⟩ => ⟨S1024x200x128, .f32⟩
  | .hbm, ⟨76, _⟩ => ⟨S1024x200x128, .f32⟩
  | .hbm, ⟨77, _⟩ => ⟨S1024x200x128, .f32⟩
  | .hbm, ⟨78, _⟩ => ⟨S1024x200x128, .f32⟩
  | .hbm, ⟨79, _⟩ => ⟨S_, .f32⟩
  | .hbm, ⟨80, _⟩ => ⟨S1024x200, .f32⟩
  | .hbm, ⟨81, _⟩ => ⟨S1024x200x1, .f32⟩
  | .hbm, ⟨82, _⟩ => ⟨S_, .f32⟩
  | .hbm, ⟨83, _⟩ => ⟨S1024x200x1, .f32⟩
  | .hbm, ⟨84, _⟩ => ⟨S1024x200x1, .f32⟩
  | .hbm, ⟨85, _⟩ => ⟨S_, .i32⟩
  | .hbm, ⟨86, _⟩ => ⟨S_, .f32⟩
  | .hbm, ⟨87, _⟩ => ⟨S1024x200, .f32⟩
  | .hbm, ⟨88, _⟩ => ⟨S1024x200x1, .f32⟩
  | .hbm, ⟨89, _⟩ => ⟨S_, .f32⟩
  | .hbm, ⟨90, _⟩ => ⟨S1024x200x1, .f32⟩
  | .hbm, ⟨91, _⟩ => ⟨S1024x200x1, .f32⟩
  | .hbm, ⟨92, _⟩ => ⟨S1024x200x128, .f32⟩
  | .hbm, ⟨93, _⟩ => ⟨S1024x200x128, .f32⟩
  | .hbm, ⟨94, _⟩ => ⟨S1024x200x128, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S1024x200, .f32⟩
  | .hbm, ⟨100, _⟩ => ⟨S1024x200x1, .f32⟩
  | .hbm, ⟨101, _⟩ => ⟨S1024x200x1, .f32⟩
  | .hbm, ⟨102, _⟩ => ⟨S1024x200x1, .f32⟩
  | .hbm, ⟨103, _⟩ => ⟨S_, .f32⟩
  | .hbm, ⟨104, _⟩ => ⟨S_, .i1⟩
  | .hbm, ⟨105, _⟩ => ⟨S_, .f32⟩
  | .hbm, ⟨106, _⟩ => ⟨S_, .f32⟩
  | .hbm, ⟨107, _⟩ => ⟨S1024x200x1, .f32⟩
  | .hbm, ⟨108, _⟩ => ⟨S1024x200x1, .f32⟩
  | .hbm, ⟨109, _⟩ => ⟨S1024x200x128, .f32⟩
  | .hbm, ⟨110, _⟩ => ⟨S1024x200x128, .f32⟩
  | .hbm, ⟨111, _⟩ => ⟨S_, .f32⟩
  | .hbm, ⟨112, _⟩ => ⟨S1024x200x1, .f32⟩
  | .hbm, ⟨113, _⟩ => ⟨S1024x200x1, .f32⟩
  | .hbm, ⟨114, _⟩ => ⟨S1024x200x1, .f32⟩
  | .hbm, ⟨115, _⟩ => ⟨S1024x200x128, .f32⟩
  | .hbm, ⟨116, _⟩ => ⟨S1024x200x128, .f32⟩
  | .hbm, ⟨117, _⟩ => ⟨S1x1x128, .f32⟩
  | .hbm, ⟨118, _⟩ => ⟨S1024x200x128, .f32⟩
  | .hbm, ⟨119, _⟩ => ⟨S1024x200x128, .f32⟩
  | .hbm, ⟨120, _⟩ => ⟨S1x1x128, .f32⟩
  | .hbm, ⟨121, _⟩ => ⟨S1024x200x128, .f32⟩
  | .hbm, ⟨122, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v2 : Ref sig .tc := ⟨.hbm, 76, rfl⟩
abbrev main_v3 : Ref sig .tc := ⟨.hbm, 77, rfl⟩
abbrev main_v4 : Ref sig .tc := ⟨.hbm, 78, rfl⟩
abbrev main_cst : Ref sig .tc := ⟨.hbm, 79, rfl⟩
abbrev main_v5 : Ref sig .tc := ⟨.hbm, 80, rfl⟩
abbrev main_v6 : Ref sig .tc := ⟨.hbm, 81, rfl⟩
abbrev main_cst_0 : Ref sig .tc := ⟨.hbm, 82, rfl⟩
abbrev main_v7 : Ref sig .tc := ⟨.hbm, 83, rfl⟩
abbrev main_v8 : Ref sig .tc := ⟨.hbm, 84, rfl⟩
abbrev main_c : Ref sig .tc := ⟨.hbm, 85, rfl⟩
abbrev main_call3_cst : Ref sig .tc := ⟨.hbm, 86, rfl⟩
abbrev main_call3_v0 : Ref sig .tc := ⟨.hbm, 87, rfl⟩
abbrev main_call3_v1 : Ref sig .tc := ⟨.hbm, 88, rfl⟩
abbrev main_call3_cst_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_v6 : Ref sig .tc := ⟨.hbm, 94, rfl⟩
abbrev main_call3_v7 : Ref sig .tc := ⟨.hbm, 95, rfl⟩
abbrev main_call3_cst_1 : Ref sig .tc := ⟨.hbm, 96, rfl⟩
abbrev main_call3_v8 : Ref sig .tc := ⟨.hbm, 97, rfl⟩
abbrev main_call3_cst_2 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_v12 : Ref sig .tc := ⟨.hbm, 102, rfl⟩
abbrev main_call3_cst_3 : Ref sig .tc := ⟨.hbm, 103, rfl⟩
abbrev main_call3_v13 : Ref sig .tc := ⟨.hbm, 104, rfl⟩
abbrev main_call3_cst_4 : Ref sig .tc := ⟨.hbm, 105, rfl⟩
abbrev main_call3_call0_v0 : Ref sig .tc := ⟨.hbm, 106, rfl⟩
abbrev main_call3_call0_v1 : Ref sig .tc := ⟨.hbm, 107, rfl⟩
abbrev main_v9 : Ref sig .tc := ⟨.hbm, 108, rfl⟩
abbrev main_v10 : Ref sig .tc := ⟨.hbm, 109, rfl⟩
abbrev main_v11 : Ref sig .tc := ⟨.hbm, 110, rfl⟩
abbrev main_cst_1 : Ref sig .tc := ⟨.hbm, 111, rfl⟩
abbrev main_v12 : Ref sig .tc := ⟨.hbm, 112, rfl⟩
abbrev main_v13 : Ref sig .tc := ⟨.hbm, 113, rfl⟩
abbrev main_v14 : Ref sig .tc := ⟨.hbm, 114, rfl⟩
abbrev main_v15 : Ref sig .tc := ⟨.hbm, 115, rfl⟩
abbrev main_v16 : Ref sig .tc := ⟨.hbm, 116, rfl⟩
abbrev main_v17 : Ref sig .tc := ⟨.hbm, 117, rfl⟩
abbrev main_v18 : Ref sig .tc := ⟨.hbm, 118, rfl⟩
abbrev main_v19 : Ref sig .tc := ⟨.hbm, 119, rfl⟩
abbrev main_v20 : Ref sig .tc := ⟨.hbm, 120, rfl⟩
abbrev main_v21 : Ref sig .tc := ⟨.hbm, 121, rfl⟩
abbrev main_v22 : Ref sig .tc := ⟨.hbm, 122, rfl⟩

abbrev nD : Nat := 1
abbrev τ : Topo := Topo.v7x

variable {F : FTy → Type} [FloatOps F]
-- ==== Proof.TileProgram.lean ====
module

public import proofs.«01_k».proof.Proof.Gen.KernelIdeal.Skeleton

/-! The five SparseCore calls run one program: each tile gathers ten windows of 128 table rows, and the calls differ
    in the constant they add to a window's row of the index array (320 windows a call). This module writes that
    program once, at a constant `o`, and shows that each call's body is it. -/

@[expose] public section

set_option synthInstance.maxSize 4096

noncomputable section

namespace Cert.KernelIdeal.Tile

open Idealize.ShloMosaic Idealize.SL.Sem Cert.KernelIdeal Cert.KernelIdeal.Gen

variable {F : FTy → Type} [FloatOps F]

/-- Ten times a tile's number: its first window. -/
def ten (i : grid0.Coords) : BitVec 32 :=
  Scalar.muli (Scalar.addi (Scalar.addi 0#32 (Scalar.muli (BitVec.ofNat 32 (i 1).val) 1#32))
    (Scalar.muli (BitVec.ofNat 32 (i 0).val) 16#32)) 10#32

/-- The window after window `a` of ten, the first after the last; -/
def next (a : BitVec 32) : BitVec 32 :=
  Scalar.select (Scalar.cmpi .eq (Scalar.select 1#1 (Scalar.addi a 1#32) a) 10#32) 0#32 (Scalar.select 1#1 (Scalar.addi a 1#32) a)

/-- and the one before it. -/
def prev (a : BitVec 32) : BitVec 32 :=
  Scalar.select (Scalar.cmpi .eq (Scalar.select 1#1 (Scalar.subi a 1#32) a) 4294967295#32) 9#32 (Scalar.select 1#1 (Scalar.subi a 1#32) a)

/-- The row of the index array that holds the first window's list, -/
def off2 (o : BitVec 32) (i : grid0.Coords) : Fin 2 → Nat :=
  ![(Scalar.muli 1#32 (Scalar.addi (Scalar.addi 0#32 (ten i)) o)).toNat, 0]

/-- the row that holds the next window's, -/
def off5 (o : BitVec 32) (i : grid0.Coords) (a : BitVec 32) : Fin 2 → Nat :=
  ![(Scalar.muli 1#32 (Scalar.addi (Scalar.addi (next a) (ten i)) o)).toNat, 0]

/-- and the row that holds this window's. -/
def off8 (o : BitVec 32) (i : grid0.Coords) (a : BitVec 32) : Fin 2 → Nat :=
  ![(Scalar.muli 1#32 (Scalar.addi (Scalar.addi a (ten i)) o)).toNat, 0]

/-- Whether a trip brings in the next list. -/
def cond1 (o : BitVec 32) (i : grid0.Coords) (t : Fin k0_t1_loop.trips) (a : BitVec 32) : BitVec 1 :=
  Scalar.cmpi .ne (Scalar.extui (Scalar.andi (Scalar.andi
    (Scalar.cmpi .ne (Scalar.addi (Scalar.addi a (ten i)) o) (Scalar.addi (Scalar.addi (next a) (ten i)) o))
    (Scalar.xori (Scalar.cmpi .sge (Scf.iv 0#32 1#32 t) 9#32) 1#1)) 1#1)) 0#32

/-- Whether it waits for its own. -/
def cond2 (o : BitVec 32) (i : grid0.Coords) (t : Fin k0_t1_loop.trips) (a : BitVec 32) : BitVec 1 :=
  Scalar.cmpi .ne (Scalar.extui (Scalar.andi (Scalar.ori
    (Scalar.cmpi .ne (Scalar.addi (Scalar.addi a (ten i)) o) (Scalar.addi (Scalar.addi (prev a) (ten i)) o))
    (Scalar.cmpi .eq (Scf.iv 0#32 1#32 t) 0#32)) (Scalar.cmpi .sge (Scf.iv 0#32 1#32 t) 0#32))) 0#32

/-- What a trip checks of its offsets: each slice it takes lies in its buffer. -/
def tripOk (o : BitVec 32) (i : grid0.Coords) (t : Fin k0_t1_loop.trips) (arg6 arg7 arg8 arg9 arg10 : BitVec 32) : Prop :=
  (∀ (h1 : cond1 o i t arg10 = 1#1), ∀ a, (k0_off4 arg6) a + S1x1x128.size a ≤ S2x1x128.size a) ∧
  (∀ (h1 : cond1 o i t arg10 = 1#1), ∀ a, (off5 o i arg10) a + S1x128.size a ≤ S1600x128.size a) ∧
  (∀ (h1 : cond1 o i t arg10 = 1#1), ∀ a, (k0_off6 arg6) a + S1.size a ≤ S2.size a) ∧
  (∀ (h2 : cond2 o i t arg10 = 1#1), ∀ a, (k0_off7 arg7) a + S1x1x128.size a ≤ S2x1x128.size a) ∧
  (∀ (h2 : cond2 o i t arg10 = 1#1), ∀ a, (off8 o i arg10) a + S1x128.size a ≤ S1600x128.size a) ∧
  (∀ (h2 : cond2 o i t arg10 = 1#1), ∀ a, (k0_off9 arg7) a + S1.size a ≤ S2.size a) ∧
  (∀ (h5 : k0_cond5 i t arg10 = 1#1), ∀ a, (k0_off12 arg8) a + S1x128x128.size a ≤ S2x128x128.size a) ∧
  (∀ (h5 : k0_cond5 i t arg10 = 1#1), ∀ a, (k0_off13 i arg10) a + S128x128.size a ≤ S40960x128.size a) ∧
  (∀ (h5 : k0_cond5 i t arg10 = 1#1), ∀ a, (k0_off14 arg8) a + S1.size a ≤ S2.size a) ∧
  (∀ (h7 : k0_cond7 i t arg10 = 1#1), ∀ a, (k0_off15 arg9) a + S1x128x128.size a ≤ S2x128x128.size a) ∧
  (∀ (h7 : k0_cond7 i t arg10 = 1#1), ∀ a, (k0_off16 i arg10) a + S128x128.size a ≤ S40960x128.size a) ∧
  (∀ (h7 : k0_cond7 i t arg10 = 1#1), ∀ a, (k0_off17 arg9) a + S1.size a ≤ S2.size a)

set_option synthInstance.maxHeartbeats 0 in
set_option synthInstance.maxSize 1000000 in
instance tripOk.dec : ∀ (o : BitVec 32) (i : grid0.Coords) (t : Fin k0_t1_loop.trips) (arg6 arg7 arg8 arg9 arg10 : BitVec 32),
    Decidable (tripOk o i t arg6 arg7 arg8 arg9 arg10) :=
  fun o i t arg6 arg7 arg8 arg9 arg10 => decidable_of_iff' _ (Iff.of_eq (tripOk.eq_1 o i t arg6 arg7 arg8 arg9 arg10))

set_option cleanup.letToHave false in
/-- The first part of a trip: the checks of the trip's offsets, and the copy in of the next list, where there is one. -/
def tripA (o : BitVec 32) (i : grid0.Coords) (tbl : Memref sig .scVector .hbm S100000x128 .f32) (ids : Memref sig .scVector .hbm S1600x128 .i32) (out : Memref sig .scVector .hbm S40960x128 .f32) (lists : Memref sig .scVector .vmem S2x1x128 .i32) (inSem : DmaSems sig S2) (rowsBuf : Memref sig .scVector .vmem S2x128x128 .f32) (outSem : DmaSems sig S2) (gSem : DmaSems sig S_) (v4 : BitVec 32) (c0_i32_28 : BitVec 32) (c1_i32_30 : BitVec 32) (t : Fin k0_t1_loop.trips) (arg6 : BitVec 32) (arg7 : BitVec 32) (arg8 : BitVec 32) (arg9 : BitVec 32) (arg10 : BitVec 32) :
    Prog (TpuEff nD τ sig (Elt F) Λ₀ (.scVector ((i 0).castLE hcore0) ((i 1).castLE hsub0))) (Σ' (hw3 : k0_chk3 arg7) (hw2 : k0_chk2 arg8) (hw1 : tripOk o i t arg6 arg7 arg8 arg9 arg10) (arg5 : BitVec 32) (v65 : BitVec 1) (v66 : BitVec 1) (v67 : BitVec 32) (v72 : BitVec 32) (v77 : BitVec 32) (v83 : BitVec 32) (v84 : BitVec 32) (v94 : BitVec 32) (v95 : BitVec 1), BitVec 1) := do
  have hw3 : k0_chk3 arg7 := (← Prog.lift (TpuEff.assume (k0_chk3 arg7) (k0_chk3.dec arg7))).down
  have hw2 : k0_chk2 arg8 := (← Prog.lift (TpuEff.assume (k0_chk2 arg8) (k0_chk2.dec arg8))).down
  have hw1 : tripOk o i t arg6 arg7 arg8 arg9 arg10 := (← Prog.lift (TpuEff.assume (tripOk o i t arg6 arg7 arg8 arg9 arg10) (tripOk.dec o i t arg6 arg7 arg8 arg9 arg10))).down
  let arg5 : BitVec 32 := Scf.iv c0_i32_28 c1_i32_30 t
  let v65 : BitVec 1 := Scalar.cmpi .eq arg5 0#32
  let v66 : BitVec 1 := Scalar.cmpi .eq arg5 9#32
  let v67 : BitVec 32 := Scalar.addi arg10 v4
  let v68 : BitVec 32 := Scalar.subi arg10 1#32
  let v69 : BitVec 32 := Scalar.select 1#1 v68 arg10
  let v70 : BitVec 1 := Scalar.cmpi .eq v69 4294967295#32
  let v71 : BitVec 32 := Scalar.select v70 9#32 v69
  let v72 : BitVec 32 := Scalar.addi v71 v4
  let v73 : BitVec 32 := Scalar.addi arg10 1#32
  let v74 : BitVec 32 := Scalar.select 1#1 v73 arg10
  let v75 : BitVec 1 := Scalar.cmpi .eq v74 10#32
  let v76 : BitVec 32 := Scalar.select v75 0#32 v74
  let v77 : BitVec 32 := Scalar.addi v76 v4
  let v83 : BitVec 32 := Scalar.addi v67 o
  let v84 : BitVec 32 := Scalar.addi v77 o
  let v85 : BitVec 1 := Scalar.cmpi .ne v83 v84
  let v86 : BitVec 1 := Scalar.cmpi .sge arg5 9#32
  let v87 : BitVec 1 := Scalar.xori v86 1#1
  let v88 : BitVec 1 := Scalar.andi v85 v87
  if h1 : cond1 o i t arg10 = 1#1 then do
    let v154 : DmaSems sig S1 := inSem.slice (Rect.unit (s := S2) (k0_off6 arg6) S1.size (hw1.2.2.1 h1))
    let v155 : DmaSems sig S_ := v154.squeeze S_ squeezes_S1_S_
    let v156 : Memref sig .scVector .vmem S1x1x128 .i32 := lists.slice (Rect.unit (s := S2x1x128) (k0_off4 arg6) S1x1x128.size (hw1.1 h1)) (fun _ => rfl)
    let v157 : Memref sig .scVector .vmem S1x128 .i32 := v156.squeeze S1x128 squeezes_S1x1x128_S1x128
    let v158 : Memref sig .scVector .hbm S1x128 .i32 := ids.slice (Rect.unit (s := S1600x128) (off5 o i arg10) S1x128.size (hw1.2.1 h1)) (fun _ => rfl)
    Prog.lift (.enqueueDma v158 (.here v157) (.dma v155.sem) (View.wordExact_bits rfl) ((View.wordExact_bits rfl).reshape _ _) ⟨Or.inl rfl, trivial⟩)
    pure ⟨⟩
  else do
    pure ⟨⟩
  let v92 : BitVec 1 := Scalar.andi v88 1#1
  let v93 : BitVec 32 := Scalar.addi arg6 1#32
  let v94 : BitVec 32 := Scalar.select v92 v93 arg6
  let v95 : BitVec 1 := Scalar.cmpi .ne v67 v77
  let v96 : BitVec 1 := Scalar.cmpi .sge arg5 9#32
  pure ⟨hw3, hw2, hw1, arg5, v65, v66, v67, v72, v77, v83, v84, v94, v95, v96⟩

set_option cleanup.letToHave false in
/-- The second part of a trip: the wait for this trip's list, the gather of its rows into the output slot, and the wait for it. -/
def tripB (o : BitVec 32) (i : grid0.Coords) (tbl : Memref sig .scVector .hbm S100000x128 .f32) (ids : Memref sig .scVector .hbm S1600x128 .i32) (out : Memref sig .scVector .hbm S40960x128 .f32) (lists : Memref sig .scVector .vmem S2x1x128 .i32) (inSem : DmaSems sig S2) (rowsBuf : Memref sig .scVector .vmem S2x128x128 .f32) (outSem : DmaSems sig S2) (gSem : DmaSems sig S_) (t : Fin k0_t1_loop.trips) (arg6 : BitVec 32) (arg7 : BitVec 32) (arg8 : BitVec 32) (arg9 : BitVec 32) (arg10 : BitVec 32) (hw3 : k0_chk3 arg7) (hw2 : k0_chk2 arg8) (hw1 : tripOk o i t arg6 arg7 arg8 arg9 arg10) (arg5 : BitVec 32) (v65 : BitVec 1) (v66 : BitVec 1) (v67 : BitVec 32) (v72 : BitVec 32) (v83 : BitVec 32) (v84 : BitVec 32) (v95 : BitVec 1) (v96 : BitVec 1) :
    Prog (TpuEff nD τ sig (Elt F) Λ₀ (.scVector ((i 0).castLE hcore0) ((i 1).castLE hsub0))) (Σ' (v99 : BitVec 32), BitVec 1) := do
  let v99 : BitVec 32 := Scalar.addi v72 o
  if h2 : cond2 o i t arg10 = 1#1 then do
    let v154 : DmaSems sig S1 := inSem.slice (Rect.unit (s := S2) (k0_off9 arg7) S1.size (hw1.2.2.2.2.2.1 h2))
    let v155 : DmaSems sig S_ := v154.squeeze S_ squeezes_S1_S_
    let v156 : Memref sig .scVector .vmem S1x1x128 .i32 := lists.slice (Rect.unit (s := S2x1x128) (k0_off7 arg7) S1x1x128.size (hw1.2.2.2.1 h2)) (fun _ => rfl)
    let v157 : Memref sig .scVector .vmem S1x128 .i32 := v156.squeeze S1x128 squeezes_S1x1x128_S1x128
    let v158 : Memref sig .scVector .hbm S1x128 .i32 := ids.slice (Rect.unit (s := S1600x128) (off8 o i arg10) S1x128.size (hw1.2.2.2.2.1 h2)) (fun _ => rfl)
    Prog.lift (.waitDma2 v155.sem v158 v157 (View.wordExact_bits rfl) ((View.wordExact_bits rfl).reshape _ _))
    pure ⟨⟩
  else do
    pure ⟨⟩
  let v106 : BitVec 1 := Scalar.cmpi .ne v67 v72
  let v107 : BitVec 1 := Scalar.ori v106 v65
  let v108 : BitVec 1 := Scalar.cmpi .sge arg5 0#32
  let v109 : BitVec 1 := Scalar.andi v107 v108
  let v110 : BitVec 32 := Scalar.extui v109
  let v111 : BitVec 1 := Scalar.cmpi .ne v110 0#32
  if v111 = 1#1 then do
    pure ⟨⟩
  else do
    pure ⟨⟩
  let v149 : Memref sig .scVector .vmem S1x128x128 .f32 := rowsBuf.slice (Rect.unit (s := S2x128x128) (k0_off10 arg8) S1x128x128.size (k0_off10_inb arg8 hw2)) (fun _ => rfl)
  let v150 : Memref sig .scVector .vmem S128x128 .f32 := v149.squeeze S128x128 squeezes_S1x128x128_S128x128
  let v151 : Memref sig .scVector .vmem S1x1x128 .i32 := lists.slice (Rect.unit (s := S2x1x128) (k0_off11 arg7) S1x1x128.size (k0_off11_inb arg7 hw3)) (fun _ => rfl)
  let v152 : Memref sig .scVector .vmem S1x128 .i32 := v151.squeeze S1x128 squeezes_S1x1x128_S1x128
  let v153 : Memref sig .scVector .vmem S1x128 .i32 := v152.slice (Rect.unit (s := S1x128) ![0, 0] S1x128.size inb_S1x128_S1x128_0_0) (fun _ => rfl)
  let v154 : Memref sig .scVector .vmem S128 .i32 := v153.squeeze S128 squeezes_S1x128_S128
  let v155 : Memref sig .scVector .hbm S100000x128 .f32 := tbl.slice (Rect.unit (s := S100000x128) ![0, 0] S100000x128.size inb_S100000x128_S100000x128_0_0) (fun _ => rfl)
  SparseCore.enqueueIndirectGather rfl v155 v150 gathers_S100000x128_S128x128 v154 rfl gSem.sem (View.wordExact_bits rfl) rfl (Or.inl rfl)
  let v156 : Memref sig .scVector .vmem S1x128x128 .f32 := rowsBuf.slice (Rect.unit (s := S2x128x128) (k0_off10 arg8) S1x128x128.size (k0_off10_inb arg8 hw2)) (fun _ => rfl)
  let v157 : Memref sig .scVector .vmem S128x128 .f32 := v156.squeeze S128x128 squeezes_S1x128x128_S128x128
  let v162 : Memref sig .scVector .hbm S100000x128 .f32 := tbl.slice (Rect.unit (s := S100000x128) ![0, 0] S100000x128.size inb_S100000x128_S100000x128_0_0) (fun _ => rfl)
  SparseCore.waitIndirectGather gSem.sem v162 v157 (View.wordExact_bits rfl) ((View.wordExact_bits rfl).reshape _ _)
  let v114 : BitVec 1 := Scalar.cmpi .ne v83 v84
  let v115 : BitVec 1 := Scalar.ori v114 v66
  pure ⟨v99, v115⟩

set_option cleanup.letToHave false in
/-- The first window of a tile, as the kernel computes it. -/
def firstWin (o : BitVec 32) (i : grid0.Coords) (tbl : Memref sig .scVector .hbm S100000x128 .f32) (ids : Memref sig .scVector .hbm S1600x128 .i32) (out : Memref sig .scVector .hbm S40960x128 .f32) (lists : Memref sig .scVector .vmem S2x1x128 .i32) (inSem : DmaSems sig S2) (rowsBuf : Memref sig .scVector .vmem S2x128x128 .f32) (outSem : DmaSems sig S2) (gSem : DmaSems sig S_) :
    Prog (TpuEff nD τ sig (Elt F) Λ₀ (.scVector ((i 0).castLE hcore0) ((i 1).castLE hsub0))) (BitVec 32) := do
  let arg0 : BitVec 32 := BitVec.ofNat 32 (i 0).val
  let arg1 : BitVec 32 := BitVec.ofNat 32 (i 1).val
  let v0 : BitVec 32 := Scalar.muli arg1 1#32
  let v1 : BitVec 32 := Scalar.addi 0#32 v0
  let v2 : BitVec 32 := Scalar.muli arg0 16#32
  let v3 : BitVec 32 := Scalar.addi v1 v2
  let v4 : BitVec 32 := Scalar.muli v3 10#32
  pure v4

set_option cleanup.letToHave false in
/-- One trip of the pipeline's loop: bring in the next list, gather by this one, send the rows out, and wait for the rows sent a trip earlier. -/
def trip (o : BitVec 32) (i : grid0.Coords) (tbl : Memref sig .scVector .hbm S100000x128 .f32) (ids : Memref sig .scVector .hbm S1600x128 .i32) (out : Memref sig .scVector .hbm S40960x128 .f32) (lists : Memref sig .scVector .vmem S2x1x128 .i32) (inSem : DmaSems sig S2) (rowsBuf : Memref sig .scVector .vmem S2x128x128 .f32) (outSem : DmaSems sig S2) (gSem : DmaSems sig S_) (v4 : BitVec 32) :
    Fin k0_t1_loop.trips → BitVec 32 × BitVec 32 × BitVec 32 × BitVec 32 × BitVec 32 → Prog (TpuEff nD τ sig (Elt F) Λ₀ (.scVector ((i 0).castLE hcore0) ((i 1).castLE hsub0))) (BitVec 32 × BitVec 32 × BitVec 32 × BitVec 32 × BitVec 32) :=
  fun t (arg6, arg7, arg8, arg9, arg10) => do
    let ⟨hw3, hw2, hw1, arg5, v65, v66, v67, v72, v77, v83, v84, v94, v95, v96⟩ : Σ' (hw3 : k0_chk3 arg7) (hw2 : k0_chk2 arg8) (hw1 : tripOk o i t arg6 arg7 arg8 arg9 arg10) (arg5 : BitVec 32) (v65 : BitVec 1) (v66 : BitVec 1) (v67 : BitVec 32) (v72 : BitVec 32) (v77 : BitVec 32) (v83 : BitVec 32) (v84 : BitVec 32) (v94 : BitVec 32) (v95 : BitVec 1), BitVec 1 ← tripA o i tbl ids out lists inSem rowsBuf outSem gSem v4 0#32 1#32 t arg6 arg7 arg8 arg9 arg10
    let ⟨v99, v115⟩ : Σ' (v99 : BitVec 32), BitVec 1 ← tripB o i tbl ids out lists inSem rowsBuf outSem gSem t arg6 arg7 arg8 arg9 arg10 hw3 hw2 hw1 arg5 v65 v66 v67 v72 v83 v84 v95 v96
    let v116 : BitVec 32 := Scalar.extui v115
    let v117 : BitVec 1 := Scalar.cmpi .ne v116 0#32
    if v117 = 1#1 then do
      pure ⟨⟩
    else do
      pure ⟨⟩
    let v119 : BitVec 1 := Scalar.cmpi .ne v67 v77
    let v120 : BitVec 1 := Scalar.ori v119 v66
    if h5 : k0_cond5 i t arg10 = 1#1 then do
      let v153 : DmaSems sig S1 := outSem.slice (Rect.unit (s := S2) (k0_off14 arg8) S1.size (hw1.2.2.2.2.2.2.2.2.1 h5))
      let v154 : DmaSems sig S_ := v153.squeeze S_ squeezes_S1_S_
      let v155 : Memref sig .scVector .hbm S128x128 .f32 := out.slice (Rect.unit (s := S40960x128) (k0_off13 i arg10) S128x128.size (hw1.2.2.2.2.2.2.2.1 h5)) (fun _ => rfl)
      let v156 : Memref sig .scVector .vmem S1x128x128 .f32 := rowsBuf.slice (Rect.unit (s := S2x128x128) (k0_off12 arg8) S1x128x128.size (hw1.2.2.2.2.2.2.1 h5)) (fun _ => rfl)
      let v157 : Memref sig .scVector .vmem S128x128 .f32 := v156.squeeze S128x128 squeezes_S1x128x128_S128x128
      Prog.lift (.enqueueDma v157 (.here v155) (.dma v154.sem) ((View.wordExact_bits rfl).reshape _ _) (View.wordExact_bits rfl) ⟨Or.inl rfl, trivial⟩)
      pure ⟨⟩
    else do
      pure ⟨⟩
    let v123 : BitVec 1 := Scalar.andi v120 1#1
    let v124 : BitVec 32 := Scalar.addi arg8 1#32
    let v125 : BitVec 32 := Scalar.select v123 v124 arg8
    let v126 : BitVec 1 := Scalar.cmpi .ne v83 v99
    let v127 : BitVec 1 := Scalar.xori v65 1#1
    let v128 : BitVec 1 := Scalar.andi v126 v127
    let v129 : BitVec 32 := Scalar.extui v128
    let v130 : BitVec 1 := Scalar.cmpi .ne v129 0#32
    if v130 = 1#1 then do
      pure ⟨⟩
    else do
      pure ⟨⟩
    let v132 : BitVec 1 := Scalar.cmpi .ne v67 v72
    let v133 : BitVec 1 := Scalar.xori v65 1#1
    let v134 : BitVec 1 := Scalar.andi v132 v133
    if h7 : k0_cond7 i t arg10 = 1#1 then do
      let v153 : DmaSems sig S1 := outSem.slice (Rect.unit (s := S2) (k0_off17 arg9) S1.size (hw1.2.2.2.2.2.2.2.2.2.2.2 h7))
      let v154 : DmaSems sig S_ := v153.squeeze S_ squeezes_S1_S_
      let v155 : Memref sig .scVector .hbm S128x128 .f32 := out.slice (Rect.unit (s := S40960x128) (k0_off16 i arg10) S128x128.size (hw1.2.2.2.2.2.2.2.2.2.2.1 h7)) (fun _ => rfl)
      let v156 : Memref sig .scVector .vmem S1x128x128 .f32 := rowsBuf.slice (Rect.unit (s := S2x128x128) (k0_off15 arg9) S1x128x128.size (hw1.2.2.2.2.2.2.2.2.2.1 h7)) (fun _ => rfl)
      let v157 : Memref sig .scVector .vmem S128x128 .f32 := v156.squeeze S128x128 squeezes_S1x128x128_S128x128
      Prog.lift (.waitDma2 v154.sem v157 v155 ((View.wordExact_bits rfl).reshape _ _) (View.wordExact_bits rfl))
      pure ⟨⟩
    else do
      pure ⟨⟩
    let v137 : BitVec 1 := Scalar.andi v134 1#1
    let v138 : BitVec 32 := Scalar.addi arg9 1#32
    let v139 : BitVec 32 := Scalar.select v137 v138 arg9
    let v140 : BitVec 1 := Scalar.cmpi .ne v83 v84
    let v141 : BitVec 1 := Scalar.ori v140 v66
    let v142 : BitVec 32 := Scalar.addi arg7 1#32
    let v143 : BitVec 32 := Scalar.select v141 v142 arg7
    let v144 : BitVec 32 := Scalar.addi arg10 1#32
    let v145 : BitVec 32 := Scalar.select 1#1 v144 arg10
    let v146 : BitVec 1 := Scalar.cmpi .eq v145 10#32
    let v147 : BitVec 32 := Scalar.select v146 0#32 v145
    pure (v94, v143, v125, v139, v147)

set_option cleanup.letToHave false in
/-- The first list brought in, and the loop. -/
def loopPart (o : BitVec 32) (i : grid0.Coords) (ho : ∀ a, (off2 o i) a + S1x128.size a ≤ S1600x128.size a) (tbl : Memref sig .scVector .hbm S100000x128 .f32) (ids : Memref sig .scVector .hbm S1600x128 .i32) (out : Memref sig .scVector .hbm S40960x128 .f32) (lists : Memref sig .scVector .vmem S2x1x128 .i32) (inSem : DmaSems sig S2) (rowsBuf : Memref sig .scVector .vmem S2x128x128 .f32) (outSem : DmaSems sig S2) (gSem : DmaSems sig S_) (v4 : BitVec 32) :
    Prog (TpuEff nD τ sig (Elt F) Λ₀ (.scVector ((i 0).castLE hcore0) ((i 1).castLE hsub0))) (Σ' (v34_3 : BitVec 32) (v34_4 : BitVec 32) (hw5 : k0_chk5 i v34_4), k0_chk4 v34_3) := do
  let v31 : Memref sig .scVector .hbm S1x128 .i32 := ids.slice (Rect.unit (s := S1600x128) (off2 o i) S1x128.size ho) (fun _ => rfl)
  let v27 : DmaSems sig S1 := inSem.slice (Rect.unit (s := S2) k0_off3 S1.size k0_off3_inb)
  let v28 : DmaSems sig S_ := v27.squeeze S_ squeezes_S1_S_
  let v29 : Memref sig .scVector .vmem S1x1x128 .i32 := lists.slice (Rect.unit (s := S2x1x128) k0_off1 S1x1x128.size k0_off1_inb) (fun _ => rfl)
  let v30 : Memref sig .scVector .vmem S1x128 .i32 := v29.squeeze S1x128 squeezes_S1x1x128_S1x128
  Prog.lift (.enqueueDma v31 (.here v30) (.dma v28.sem) (View.wordExact_bits rfl) ((View.wordExact_bits rfl).reshape _ _) ⟨Or.inl rfl, trivial⟩)
  let v32 : BitVec 32 := Scalar.addi 0#32 1#32
  let (v34_0, v34_1, v34_2, v34_3, v34_4) ← Scf.Loop.for k0_t1_loop k0_t1_ok (v32, 0#32, 0#32, 0#32, 0#32) (trip o i tbl ids out lists inSem rowsBuf outSem gSem v4)
  have hw5 : k0_chk5 i v34_4 := (← Prog.lift (TpuEff.assume (k0_chk5 i v34_4) (k0_chk5.dec i v34_4))).down
  have hw4 : k0_chk4 v34_3 := (← Prog.lift (TpuEff.assume (k0_chk4 v34_3) (k0_chk4.dec v34_3))).down
  pure ⟨v34_3, v34_4, hw5, hw4⟩

set_option cleanup.letToHave false in
/-- A tile's whole run: the list of the first window, the loop, and the wait for the last rows sent out. -/
def tileRun (o : BitVec 32) (i : grid0.Coords) (ho : ∀ a, (off2 o i) a + S1x128.size a ≤ S1600x128.size a) (tbl : Memref sig .scVector .hbm S100000x128 .f32) (ids : Memref sig .scVector .hbm S1600x128 .i32) (out : Memref sig .scVector .hbm S40960x128 .f32) (lists : Memref sig .scVector .vmem S2x1x128 .i32) (inSem : DmaSems sig S2) (rowsBuf : Memref sig .scVector .vmem S2x128x128 .f32) (outSem : DmaSems sig S2) (gSem : DmaSems sig S_) :
    Prog (TpuEff nD τ sig (Elt F) Λ₀ (.scVector ((i 0).castLE hcore0) ((i 1).castLE hsub0))) PUnit := do
  let v4 : BitVec 32 ← firstWin o i tbl ids out lists inSem rowsBuf outSem gSem
  let ⟨v34_3, v34_4, hw5, hw4⟩ : Σ' (v34_3 : BitVec 32) (v34_4 : BitVec 32) (hw5 : k0_chk5 i v34_4), k0_chk4 v34_3 ← loopPart o i ho tbl ids out lists inSem rowsBuf outSem gSem v4
  let v60 : DmaSems sig S1 := outSem.slice (Rect.unit (s := S2) (k0_off20 v34_3) S1.size (k0_off20_inb v34_3 hw4))
  let v61 : DmaSems sig S_ := v60.squeeze S_ squeezes_S1_S_
  let v62 : Memref sig .scVector .hbm S128x128 .f32 := out.slice (Rect.unit (s := S40960x128) (k0_off19 i v34_4) S128x128.size (k0_off19_inb i v34_4 hw5)) (fun _ => rfl)
  let v63 : Memref sig .scVector .vmem S1x128x128 .f32 := rowsBuf.slice (Rect.unit (s := S2x128x128) (k0_off21 v34_3) S1x128x128.size (k0_off21_inb v34_3 hw4)) (fun _ => rfl)
  let v64 : Memref sig .scVector .vmem S128x128 .f32 := v63.squeeze S128x128 squeezes_S1x128x128_S128x128
  Prog.lift (.waitDma2 v61.sem v64 v62 ((View.wordExact_bits rfl).reshape _ _) (View.wordExact_bits rfl))
  pure ⟨⟩

set_option maxRecDepth 65536 in
/-- Call 0's body is the program at 0. -/
theorem cc0_eq (i : grid0.Coords) (a2 : Memref sig .scVector .hbm S100000x128 .f32) (h2) (a3 : Memref sig .scVector .hbm S1600x128 .i32) (h3) (a4 : Memref sig .scVector .hbm S40960x128 .f32) (h4) (l : Memref sig .scVector .vmem S2x1x128 .i32) (hl) (s1 : DmaSems sig S2) (b : Memref sig .scVector .vmem S2x128x128 .f32) (hb) (s2 : DmaSems sig S2) (s3 : DmaSems sig S_) :
    cc0__sc_gather_body (F := F) i a2 h2 a3 h3 a4 h4 l hl s1 b hb s2 s3 = tileRun (F := F) 0#32 i (k0_off2_inb i) a2 a3 a4 l s1 b s2 s3 := by
  rw [cc0__sc_gather_body_eq_skeleton]; rfl

set_option maxRecDepth 65536 in
/-- Call 1's body is the program at 320. -/
theorem cc1_eq (i : grid1.Coords) (a2 : Memref sig .scVector .hbm S100000x128 .f32) (h2) (a3 : Memref sig .scVector .hbm S1600x128 .i32) (h3) (a4 : Memref sig .scVector .hbm S40960x128 .f32) (h4) (l : Memref sig .scVector .vmem S2x1x128 .i32) (hl) (s1 : DmaSems sig S2) (b : Memref sig .scVector .vmem S2x128x128 .f32) (hb) (s2 : DmaSems sig S2) (s3 : DmaSems sig S_) :
    cc1__sc_gather_body (F := F) i a2 h2 a3 h3 a4 h4 l hl s1 b hb s2 s3 = tileRun (F := F) 320#32 i (k1_off2_inb i) a2 a3 a4 l s1 b s2 s3 := by
  rw [cc1__sc_gather_body_eq_skeleton]; rfl

set_option maxRecDepth 65536 in
/-- Call 2's body is the program at 640. -/
theorem cc2_eq (i : grid2.Coords) (a2 : Memref sig .scVector .hbm S100000x128 .f32) (h2) (a3 : Memref sig .scVector .hbm S1600x128 .i32) (h3) (a4 : Memref sig .scVector .hbm S40960x128 .f32) (h4) (l : Memref sig .scVector .vmem S2x1x128 .i32) (hl) (s1 : DmaSems sig S2) (b : Memref sig .scVector .vmem S2x128x128 .f32) (hb) (s2 : DmaSems sig S2) (s3 : DmaSems sig S_) :
    cc2__sc_gather_body (F := F) i a2 h2 a3 h3 a4 h4 l hl s1 b hb s2 s3 = tileRun (F := F) 640#32 i (k2_off2_inb i) a2 a3 a4 l s1 b s2 s3 := by
  rw [cc2__sc_gather_body_eq_skeleton]; rfl

set_option maxRecDepth 65536 in
/-- Call 3's body is the program at 960. -/
theorem cc3_eq (i : grid3.Coords) (a2 : Memref sig .scVector .hbm S100000x128 .f32) (h2) (a3 : Memref sig .scVector .hbm S1600x128 .i32) (h3) (a4 : Memref sig .scVector .hbm S40960x128 .f32) (h4) (l : Memref sig .scVector .vmem S2x1x128 .i32) (hl) (s1 : DmaSems sig S2) (b : Memref sig .scVector .vmem S2x128x128 .f32) (hb) (s2 : DmaSems sig S2) (s3 : DmaSems sig S_) :
    cc3__sc_gather_body (F := F) i a2 h2 a3 h3 a4 h4 l hl s1 b hb s2 s3 = tileRun (F := F) 960#32 i (k3_off2_inb i) a2 a3 a4 l s1 b s2 s3 := by
  rw [cc3__sc_gather_body_eq_skeleton]; rfl

set_option maxRecDepth 65536 in
/-- Call 4's body is the program at 1280. -/
theorem cc4_eq (i : grid4.Coords) (a2 : Memref sig .scVector .hbm S100000x128 .f32) (h2) (a3 : Memref sig .scVector .hbm S1600x128 .i32) (h3) (a4 : Memref sig .scVector .hbm S40960x128 .f32) (h4) (l : Memref sig .scVector .vmem S2x1x128 .i32) (hl) (s1 : DmaSems sig S2) (b : Memref sig .scVector .vmem S2x128x128 .f32) (hb) (s2 : DmaSems sig S2) (s3 : DmaSems sig S_) :
    cc4__sc_gather_body (F := F) i a2 h2 a3 h3 a4 h4 l hl s1 b hb s2 s3 = tileRun (F := F) 1280#32 i (k4_off2_inb i) a2 a3 a4 l s1 b s2 s3 := by
  rw [cc4__sc_gather_body_eq_skeleton]; rfl

end Cert.KernelIdeal.Tile
-- ==== Proof.Closed.lean ====
module

public import proofs.«01_k».proof.Proof.TileProgram

/-! The numbers a tile computes, in closed form: the windows it visits, the buffer slots and semaphores of each trip,
    and which of the trip's conditional parts run. -/

@[expose] public section

namespace Cert.KernelIdeal.Tile

open Idealize.ShloMosaic Cert.KernelIdeal Cert.KernelIdeal.Gen

/-- The grid point of tile `y` of SparseCore `x`. -/
abbrev at2 (x : Fin 2) (y : Fin 16) : grid0.Coords := fun | 0 => x | 1 => y | ⟨_ + 2, h⟩ => absurd h (Nat.not_lt.2 (Nat.le_add_left _ _))

theorem eq_at2 (i : grid0.Coords) : i = at2 (i 0) (i 1) := by
  funext a; match a with | 0 => rfl | 1 => rfl

/-- A tile's number among the thirty-two, -/
def wid (i : grid0.Coords) : Nat := (i 0).val * 16 + (i 1).val

theorem wid_lt (i : grid0.Coords) : wid i < 32 := by
  have h0 : (i 0).val < 2 := (i 0).isLt
  have h1 : (i 1).val < 16 := (i 1).isLt
  unfold wid; omega

/-- the constant of call `k`, -/
def base (k : Fin 5) : BitVec 32 := BitVec.ofNat 32 (320 * k.val)

/-- and what the loop carries before trip `t`: the lists asked for, the trips done, the rows sent, the rows waited
    for, and the window. -/
def carried (t : Nat) : BitVec 32 × BitVec 32 × BitVec 32 × BitVec 32 × BitVec 32 :=
  (BitVec.ofNat 32 (min (t + 1) 10), BitVec.ofNat 32 t, BitVec.ofNat 32 t, BitVec.ofNat 32 (t - 1), BitVec.ofNat 32 (t % 10))

abbrev a6 (t : Nat) : BitVec 32 := (carried t).1
abbrev a7 (t : Nat) : BitVec 32 := (carried t).2.1
abbrev a8 (t : Nat) : BitVec 32 := (carried t).2.2.1
abbrev a9 (t : Nat) : BitVec 32 := (carried t).2.2.2.1
abbrev a10 (t : Nat) : BitVec 32 := (carried t).2.2.2.2

theorem trips_eq : k0_t1_loop.trips = 10 := by decide +kernel

/-! ## The conditions and the offsets of the index rows -/

theorem cond1_at (k : Fin 5) (i : grid0.Coords) (t : Fin k0_t1_loop.trips) :
    cond1 (base k) i t (a10 t.val) = if t.val < 9 then 1#1 else 0#1 := by
  rw [eq_at2 i]; generalize i 0 = x; generalize i 1 = y; revert k x y t; decide +kernel

theorem cond2_at (k : Fin 5) (i : grid0.Coords) (t : Fin k0_t1_loop.trips) : cond2 (base k) i t (a10 t.val) = 1#1 := by
  rw [eq_at2 i]; generalize i 0 = x; generalize i 1 = y; revert k x y t; decide +kernel

theorem cond5_at (i : grid0.Coords) (t : Fin k0_t1_loop.trips) : k0_cond5 i t (a10 t.val) = 1#1 := by
  rw [eq_at2 i]; generalize i 0 = x; generalize i 1 = y; revert x y t; decide +kernel

theorem cond7_at (i : grid0.Coords) (t : Fin k0_t1_loop.trips) : k0_cond7 i t (a10 t.val) = if 0 < t.val then 1#1 else 0#1 := by
  rw [eq_at2 i]; generalize i 0 = x; generalize i 1 = y; revert x y t; decide +kernel

theorem off2_at (k : Fin 5) (i : grid0.Coords) : off2 (base k) i = ![320 * k.val + 10 * wid i, 0] := by
  rw [eq_at2 i]; generalize i 0 = x; generalize i 1 = y; revert k x y; decide +kernel

theorem off5_at (k : Fin 5) (i : grid0.Coords) (t : Fin k0_t1_loop.trips) (h : t.val < 9) :
    off5 (base k) i (a10 t.val) = ![320 * k.val + 10 * wid i + (t.val + 1), 0] := by
  rw [eq_at2 i]; generalize i 0 = x; generalize i 1 = y; revert k x y t; decide +kernel

theorem off8_at (k : Fin 5) (i : grid0.Coords) (t : Fin k0_t1_loop.trips) :
    off8 (base k) i (a10 t.val) = ![320 * k.val + 10 * wid i + t.val, 0] := by
  rw [eq_at2 i]; generalize i 0 = x; generalize i 1 = y; revert k x y t; decide +kernel

/-! ## The slots and the output windows -/

theorem off13_at (i : grid0.Coords) (t : Fin k0_t1_loop.trips) : k0_off13 i (a10 t.val) = ![128 * (10 * wid i + t.val), 0] := by
  rw [eq_at2 i]; generalize i 0 = x; generalize i 1 = y; revert x y t; decide +kernel

theorem off16_at (i : grid0.Coords) (t : Fin k0_t1_loop.trips) (h : 0 < t.val) :
    k0_off16 i (a10 t.val) = ![128 * (10 * wid i + (t.val - 1)), 0] := by
  rw [eq_at2 i]; generalize i 0 = x; generalize i 1 = y; revert x y t; decide +kernel

theorem off19_at (i : grid0.Coords) : k0_off19 i (a10 10) = ![128 * (10 * wid i + 9), 0] := by
  rw [eq_at2 i]; generalize i 0 = x; generalize i 1 = y; revert x y; decide +kernel

theorem off1_at : k0_off1 = ![0 % 2, 0, 0] := by decide +kernel
theorem off3_at : k0_off3 = ![0 % 2] := by decide +kernel
theorem off4_at (t : Fin k0_t1_loop.trips) (h : t.val < 9) : k0_off4 (a6 t.val) = ![(t.val + 1) % 2, 0, 0] := by revert t; decide +kernel
theorem off6_at (t : Fin k0_t1_loop.trips) (h : t.val < 9) : k0_off6 (a6 t.val) = ![(t.val + 1) % 2] := by revert t; decide +kernel
theorem off7_at (t : Fin k0_t1_loop.trips) : k0_off7 (a7 t.val) = ![t.val % 2, 0, 0] := by revert t; decide +kernel
theorem off9_at (t : Fin k0_t1_loop.trips) : k0_off9 (a7 t.val) = ![t.val % 2] := by revert t; decide +kernel
theorem off10_at (t : Fin k0_t1_loop.trips) : k0_off10 (a8 t.val) = ![t.val % 2, 0, 0] := by revert t; decide +kernel
theorem off11_at (t : Fin k0_t1_loop.trips) : k0_off11 (a7 t.val) = ![t.val % 2, 0, 0] := by revert t; decide +kernel
theorem off12_at (t : Fin k0_t1_loop.trips) : k0_off12 (a8 t.val) = ![t.val % 2, 0, 0] := by revert t; decide +kernel
theorem off14_at (t : Fin k0_t1_loop.trips) : k0_off14 (a8 t.val) = ![t.val % 2] := by revert t; decide +kernel
theorem off15_at (t : Fin k0_t1_loop.trips) (h : 0 < t.val) : k0_off15 (a9 t.val) = ![(t.val - 1) % 2, 0, 0] := by revert t; decide +kernel
theorem off17_at (t : Fin k0_t1_loop.trips) (h : 0 < t.val) : k0_off17 (a9 t.val) = ![(t.val - 1) % 2] := by revert t; decide +kernel
theorem off20_at : k0_off20 (a9 10) = ![9 % 2] := by decide +kernel
theorem off21_at : k0_off21 (a9 10) = ![9 % 2, 0, 0] := by decide +kernel

/-! ## The checks, and what a trip hands the next -/

theorem chk3_at (t : Fin k0_t1_loop.trips) : k0_chk3 (a7 t.val) := by revert t; decide +kernel
theorem chk2_at (t : Fin k0_t1_loop.trips) : k0_chk2 (a8 t.val) := by revert t; decide +kernel
theorem chk4_at : k0_chk4 (a9 10) := by decide +kernel
theorem chk5_at (i : grid0.Coords) : k0_chk5 i (a10 10) := by
  rw [eq_at2 i]; generalize i 0 = x; generalize i 1 = y; revert x y; decide +kernel

theorem tripOk_at (k : Fin 5) (i : grid0.Coords) (t : Fin k0_t1_loop.trips) :
    tripOk (base k) i t (a6 t.val) (a7 t.val) (a8 t.val) (a9 t.val) (a10 t.val) := by
  rw [eq_at2 i]; generalize i 0 = x; generalize i 1 = y; revert k x y t; decide +kernel

/-- The word carried as the number of lists asked for, after a trip; -/
def nx6 (o w : BitVec 32) (t : Fin k0_t1_loop.trips) (x6 x10 : BitVec 32) : BitVec 32 :=
  Scalar.select (Scalar.andi (Scalar.andi
    (Scalar.cmpi .ne (Scalar.addi (Scalar.addi x10 w) o) (Scalar.addi (Scalar.addi (next x10) w) o))
    (Scalar.xori (Scalar.cmpi .sge (Scf.iv 0#32 1#32 t) 9#32) 1#1)) 1#1) (Scalar.addi x6 1#32) x6

/-- the trips done; -/
def nx7 (o w : BitVec 32) (t : Fin k0_t1_loop.trips) (x7 x10 : BitVec 32) : BitVec 32 :=
  Scalar.select (Scalar.ori
    (Scalar.cmpi .ne (Scalar.addi (Scalar.addi x10 w) o) (Scalar.addi (Scalar.addi (next x10) w) o))
    (Scalar.cmpi .eq (Scf.iv 0#32 1#32 t) 9#32)) (Scalar.addi x7 1#32) x7

/-- the rows sent; -/
def nx8 (w : BitVec 32) (t : Fin k0_t1_loop.trips) (x8 x10 : BitVec 32) : BitVec 32 :=
  Scalar.select (Scalar.andi (Scalar.ori
    (Scalar.cmpi .ne (Scalar.addi x10 w) (Scalar.addi (next x10) w))
    (Scalar.cmpi .eq (Scf.iv 0#32 1#32 t) 9#32)) 1#1) (Scalar.addi x8 1#32) x8

/-- the rows waited for. -/
def nx9 (w : BitVec 32) (t : Fin k0_t1_loop.trips) (x9 x10 : BitVec 32) : BitVec 32 :=
  Scalar.select (Scalar.andi (Scalar.andi
    (Scalar.cmpi .ne (Scalar.addi x10 w) (Scalar.addi (prev x10) w))
    (Scalar.xori (Scalar.cmpi .eq (Scf.iv 0#32 1#32 t) 0#32) 1#1)) 1#1) (Scalar.addi x9 1#32) x9

theorem nx_at (k : Fin 5) (i : grid0.Coords) (t : Fin k0_t1_loop.trips) :
    (nx6 (base k) (ten i) t (a6 t.val) (a10 t.val), nx7 (base k) (ten i) t (a7 t.val) (a10 t.val), nx8 (ten i) t (a8 t.val) (a10 t.val),
      nx9 (ten i) t (a9 t.val) (a10 t.val), next (a10 t.val)) = carried (t.val + 1) := by
  rw [eq_at2 i]; generalize i 0 = x; generalize i 1 = y; revert k x y t; decide +kernel

end Cert.KernelIdeal.Tile
-- ==== Proof.Base.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.Closed

/-! The setting of the kernel's proof: its labels and SparseCore launch, and the ghost state — the handshakes' rounds,
    the pipelines' rounds and the transfers' counters side by side. -/

@[expose] public section

noncomputable section

namespace Cert.KernelIdeal

open Cert.KernelIdeal.Gen
open Idealize.ShloMosaic
open Idealize.ShloMosaic.SparseCore (S V T)
open Idealize.ShloMosaic.SparseCore.Cfg (HIx Pay)
open Idealize.SL Idealize.SL.RA Idealize.SL.BI Idealize.SL.Sem
open Idealize.ShloMosaic.Rounds

variable {F : FTy → Type}

abbrev ΛP : Labels := Pipeline.Sig Λ₀ (Fin 5) fun p => (pcfgs (F := F) p).Adm
abbrev K : SparseCore.Cfg τ sig (ΛP (F := F)) 5 := sc (F := F)
abbrev DP [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => by fin_cases q <;> rfl⟩

/-- The handshakes' rounds, the pipelines' rounds, and all the ghost state. -/
abbrev UH : Type := URounds (GSem nD τ sig) ℕ
abbrev UP : Type := URounds (GSem nD τ sig) Unit
abbrev UU : Type := UH × (UP × Counters)

/-- The machine's resources with it. -/
abbrev M5 (F : FTy → Type) : Type := MT nD τ sig (HIx 5) (Elt F) ℕ UU ℕ

abbrev EH : Emb UH (M5 F) := embL

/-- The pipelines' rounds within it. -/
def EP : Emb UP (M5 F) :=
  ((Emb.inl : Emb UP (UP × Counters)).trans (Emb.inr : Emb (UP × Counters) UU)).trans
    (uEmb (nD := nD) (τ := τ) (sig := sig) (Ix := HIx 5) (Val := Elt F) (Name := ℕ) (U := UU) (Lvl := ℕ)).toEmb

instance EP_landsIn : (EP : Emb UP (M5 F)).LandsIn (upEmb : UEmb _ (M5 F)) := by unfold EP; infer_instance

end Cert.KernelIdeal
-- ==== Proof.Rows.lean ====
module

public import proofs.«01_k».proof.Proof.Base
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.WordCmp

/-! One block of the TensorCore's part: 8192 gathered rows, 2048 at a time, get their embeddings added and are
    normalised. The body is run once, for the first call; the other four calls run the same body. -/

@[expose] public section

set_option maxRecDepth 16384

noncomputable section

namespace Cert.KernelIdeal.Rows

open Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => M5 F

/-- The whole embedding table; a scale or a bias; the rows of a quarter; their position and segment numbers. -/
abbrev tabR : Rect S514x128 := Rect.unit (s := S514x128) ![0, 0] S514x128.size inb_S514x128_S514x128_0_0
abbrev vecR : Rect S1x128 := Rect.unit (s := S1x128) ![0, 0] S1x128.size inb_S1x128_S1x128_0_0
abbrev rowR0 : Rect S8192x128 := Rect.unit (s := S8192x128) ![0, 0] S2048x128.size inb_S8192x128_S2048x128_0_0
abbrev rowR1 : Rect S8192x128 := Rect.unit (s := S8192x128) ![2048, 0] S2048x128.size inb_S8192x128_S2048x128_2048_0
abbrev rowR2 : Rect S8192x128 := Rect.unit (s := S8192x128) ![4096, 0] S2048x128.size inb_S8192x128_S2048x128_4096_0
abbrev rowR3 : Rect S8192x128 := Rect.unit (s := S8192x128) ![6144, 0] S2048x128.size inb_S8192x128_S2048x128_6144_0
abbrev numR0 : Rect S1x1x8192 := Rect.unit (s := S1x1x8192) ![0, 0, 0] S1x1x2048.size inb_S1x1x8192_S1x1x2048_0_0_0
abbrev numR1 : Rect S1x1x8192 := Rect.unit (s := S1x1x8192) ![0, 0, 2048] S1x1x2048.size inb_S1x1x8192_S1x1x2048_0_0_2048
abbrev numR2 : Rect S1x1x8192 := Rect.unit (s := S1x1x8192) ![0, 0, 4096] S1x1x2048.size inb_S1x1x8192_S1x1x2048_0_0_4096
abbrev numR3 : Rect S1x1x8192 := Rect.unit (s := S1x1x8192) ![0, 0, 6144] S1x1x2048.size inb_S1x1x8192_S1x1x2048_0_0_6144

/-- The result of 2048 rows: from the table, the rows, their two lists of numbers, the scale and the bias. -/
def quarter (tab : Vec F S514x128 .bf16) (x : Vec F S2048x128 .f32) (p s : Vec F S1x1x2048 .i32) (g b : Vec F S1x128 .f32) : FVec F S2048x128 .f32 :=
  k5_pay5 (k5_pay3 tab x p s) (k5_pay4 g) b

theorem quarter_one (tab : Vec F S514x128 .bf16) (x : Vec F S2048x128 .f32) (p s : Vec F S1x1x2048 .i32) (g b : Vec F S1x128 .f32) :
    k5_pay8 (k5_pay6 (k5_pay2 tab) x p s) (k5_pay7 (k5_pay2 tab) x p s) g b = quarter tab x p s g b := rfl
theorem quarter_two (tab : Vec F S514x128 .bf16) (x : Vec F S2048x128 .f32) (p s : Vec F S1x1x2048 .i32) (g b : Vec F S1x128 .f32) :
    k5_pay11 (k5_pay9 (k5_pay2 tab) x p s) (k5_pay10 (k5_pay2 tab) x p s) g b = quarter tab x p s g b := rfl
theorem quarter_three (tab : Vec F S514x128 .bf16) (x : Vec F S2048x128 .f32) (p s : Vec F S1x1x2048 .i32) (g b : Vec F S1x128 .f32) :
    k5_pay1 (k5_pay12 (k5_pay2 tab) x p s) (k5_pay13 (k5_pay2 tab) x p s) (Scalar.ofBits .f32 0x43000000#32) g b = quarter tab x p s g b := rfl

/-- The block the body leaves: its four quarters, from the blocks of the six operands. -/
def block (x : Vec F S8192x128 .f32) (p s : Vec F S1x1x8192 .i32) (tab : Vec F S514x128 .bf16) (g b : Vec F S1x128 .f32) : Vec F S8192x128 .f32 :=
  View.canon [⟨rowR3, quarter (View.ld tab tabR) (View.ld x rowR3) (View.ld p numR3) (View.ld s numR3) (View.ld g vecR) (View.ld b vecR)⟩,
    ⟨rowR2, quarter (View.ld tab tabR) (View.ld x rowR2) (View.ld p numR2) (View.ld s numR2) (View.ld g vecR) (View.ld b vecR)⟩,
    ⟨rowR1, quarter (View.ld tab tabR) (View.ld x rowR1) (View.ld p numR1) (View.ld s numR1) (View.ld g vecR) (View.ld b vecR)⟩,
    ⟨rowR0, quarter (View.ld tab tabR) (View.ld x rowR0) (View.ld p numR0) (View.ld s numR0) (View.ld g vecR) (View.ld b vecR)⟩]

/-- The four quarters cover the block. -/
theorem block_cover (p0 p1 p2 p3 : Vec F S2048x128 .f32) (y : S8192x128.Idx) :
    ∃ pc ∈ ([⟨rowR3, p0⟩, ⟨rowR2, p1⟩, ⟨rowR1, p2⟩, ⟨rowR0, p3⟩] : List (View.Piece (Elt F) S8192x128 .f32)), y ∈ pc.1.set :=
  View.cover_of_tiled [⟨rowR3, p0⟩, ⟨rowR2, p1⟩, ⟨rowR1, p2⟩, ⟨rowR0, p3⟩] S2048x128.size (by rfl) y

set_option maxHeartbeats 4000000 in
/-- The body, from the six operands' blocks in its staging buffers: they stay, and the result's buffer holds `block`. -/
theorem wp_rows (c : Dev nD) (i : grid5.Coords) (arg1 : Memref sig .tc .vmem S8192x128 .f32) (harg1 : arg1.IsWhole)
    (arg2 : Memref sig .tc .vmem S1x1x8192 .i32) (harg2 : arg2.IsWhole) (arg3 : Memref sig .tc .vmem S1x1x8192 .i32) (harg3 : arg3.IsWhole)
    (arg4 : Memref sig .tc .vmem S514x128 .bf16) (harg4 : arg4.IsWhole) (arg5 : Memref sig .tc .vmem S1x128 .f32) (harg5 : arg5.IsWhole)
    (arg6 : Memref sig .tc .vmem S1x128 .f32) (harg6 : arg6.IsWhole) (arg7 : Memref sig .tc .vmem S8192x128 .f32) (harg7 : arg7.IsWhole)
    (x : Vec F S8192x128 .f32) (p s : Vec F S1x1x8192 .i32) (tab : Vec F S514x128 .bf16) (g b : Vec F S1x128 .f32)
    (found : Vec F S8192x128 .f32 → Vec F S8192x128 .f32) (A B : sProp 𝕄) :
    iprop(A ∗ B ∗ (∃ _d : Vec F S8192x128 .f32, owns (c : Thread nD τ) arg1 fullShare x) ∗ (∃ _d : Vec F S1x1x8192 .i32, owns (c : Thread nD τ) arg2 fullShare p)
        ∗ (∃ _d : Vec F S1x1x8192 .i32, owns (c : Thread nD τ) arg3 fullShare s) ∗ (∃ _d : Vec F S514x128 .bf16, owns (c : Thread nD τ) arg4 fullShare tab)
        ∗ (∃ _d : Vec F S1x128 .f32, owns (c : Thread nD τ) arg5 fullShare g) ∗ (∃ _d : Vec F S1x128 .f32, owns (c : Thread nD τ) arg6 fullShare b)
        ∗ (∃ d, owns (c : Thread nD τ) arg7 fullShare (found d)))
      ⊢ wp frame (wpE (defs₀ (F := F)) Variants.none c none) Set.univ
          (cc5__tc_ln_body i arg1 harg1 arg2 harg2 arg3 harg3 arg4 harg4 arg5 harg5 arg6 harg6 arg7 harg7)
          fun _ => iprop(A ∗ B ∗ owns (c : Thread nD τ) arg1 fullShare x ∗ owns (c : Thread nD τ) arg2 fullShare p
            ∗ owns (c : Thread nD τ) arg3 fullShare s ∗ owns (c : Thread nD τ) arg4 fullShare tab ∗ owns (c : Thread nD τ) arg5 fullShare g
            ∗ owns (c : Thread nD τ) arg6 fullShare b ∗ owns (c : Thread nD τ) arg7 fullShare (block x p s tab g b)) := by
  simp only [cc5__tc_ln_body_eq_skeleton]; unfold cc5__tc_ln_body_skel
  simp only [k5_part1_eq_skeleton, k5_part2_eq_skeleton, k5_part3_eq_skeleton, k5_part4_eq_skeleton]
  unfold owns
  iintro ⟨HA, HB, ⟨%e0, %f0, %hf0, H0⟩, ⟨%e1, %f1, %hf1, H1⟩, ⟨%e2, %f2, %hf2, H2⟩, ⟨%e3, %f3, %hf3, H3⟩, ⟨%e4, %f4, %hf4, H4⟩, ⟨%e5, %f5, %hf5, H5⟩, ⟨%d6, %f6, -, H6⟩⟩
  subst hf0 hf1 hf2 hf3 hf4 hf5
  sl_exec
  sl_step
  isplitl [HA]; · iexact HA
  isplitl [HB]; · iexact HB
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (block_cover _ _ _ _)

end Cert.KernelIdeal.Rows

end
-- ==== Proof.Blocks.lean ====
module

public import proofs.«01_k».proof.Proof.Rows
public import proofs.«01_k».proof.Proof.Gen.KernelIdeal.Launch
public import Idealize.ShloMosaic.Lib.Pipeline.RegionArraysS

/-! The five calls of the TensorCore's part as pipelines: what each window's buffer holds at each of the five points, and
    the body's triple there. -/

@[expose] public section

set_option maxRecDepth 16384

noncomputable section

namespace Cert.KernelIdeal.Rows

open Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => M5 F

/-- The proof data of a call on core `c`. -/
abbrev CallDat (F : FTy → Type) (cfg : Pipeline.Cfg sig Λ₀) (c : Dev nD) := Dat τ (Elt F) (HIx 5) ℕ UU ℕ cfg c

/-- The scoped buffers no window of the call stages in. -/
abbrev idle (cfg : Pipeline.Cfg sig Λ₀) (c : Dev nD) : sProp 𝕄 := Pipeline.scopedRest cfg.spec c

variable (V : Valuation τ sig (Elt F))

/-- Window `w`'s block at point `t`, of arrays held at `V`. -/
def blockAt (cfg : Pipeline.Cfg sig Λ₀) (_c : Dev nD) (w : Fin cfg.W) (t : Fin cfg.N) : ((cfg.win w).xblock (cfg.grid.coords t)).Idx → Elt F (cfg.win w).elt :=
  ((cfg.win w).blk t).view.read (Elt F) (V (Proc.devRef .tc (Pipeline.arrRef cfg.spec w)))

/-- An operand's buffer holds its block at every point, if the arrays enter at `V` and the body leaves the block. -/
theorem before_block {cfg : Pipeline.Cfg sig Λ₀} {c : Dev nD} (dat : CallDat F cfg c) (w : Fin cfg.W) (hw : (cfg.win w).isOut = false)
    (hlive : ∀ i, cfg.idle w i = false)
    (hclip : ∀ t t' : Fin cfg.N, (cfg.win w).clip (cfg.grid.coords t) = (cfg.win w).clip (cfg.grid.coords t'))
    (hkeep : ∀ t, (cfg.win w).cut (cfg.grid.coords t) (dat.after w t) = dat.blockOf w t) (t : Fin cfg.N) (d) :
    dat.before w t d = dat.fetched w t d :=
  dat.before_in_eq_fetched w hw hlive (fun t t' _ => hclip t t') hkeep t d

/-- The first call's proof data: its operands' blocks stay, the result's block is `block` of them. -/
def dat5 (c : Dev nD) : CallDat F cfg5 c where
  A w := V (Proc.devRef .tc (Pipeline.arrRef spec5 w))
  after w t := match w with
    | ⟨0, _⟩ => blockAt V cfg5 c 0 t
    | ⟨1, _⟩ => blockAt V cfg5 c 1 t
    | ⟨2, _⟩ => blockAt V cfg5 c 2 t
    | ⟨3, _⟩ => blockAt V cfg5 c 3 t
    | ⟨4, _⟩ => blockAt V cfg5 c 4 t
    | ⟨5, _⟩ => blockAt V cfg5 c 5 t
    | ⟨6, _⟩ => block (blockAt V cfg5 c 0 t) (blockAt V cfg5 c 1 t) (blockAt V cfg5 c 2 t) (blockAt V cfg5 c 3 t) (blockAt V cfg5 c 4 t) (blockAt V cfg5 c 5 t)
  Φ _ := idle cfg5 c
  q _ := fullShare
  owed _ := 0

/-- What the first call's body leaves in each buffer. -/
theorem after5 (c : Dev nD) (t : Fin cfg5.N) :
    ((dat5 V c).after 0 t = blockAt V cfg5 c 0 t ∧ (dat5 V c).after 1 t = blockAt V cfg5 c 1 t ∧ (dat5 V c).after 2 t = blockAt V cfg5 c 2 t)
      ∧ ((dat5 V c).after 3 t = blockAt V cfg5 c 3 t ∧ (dat5 V c).after 4 t = blockAt V cfg5 c 4 t ∧ (dat5 V c).after 5 t = blockAt V cfg5 c 5 t)
      ∧ (dat5 V c).after 6 t = block (blockAt V cfg5 c 0 t) (blockAt V cfg5 c 1 t) (blockAt V cfg5 c 2 t) (blockAt V cfg5 c 3 t) (blockAt V cfg5 c 4 t) (blockAt V cfg5 c 5 t) := by
  dsimp only [dat5]; exact ⟨⟨rfl, rfl, rfl⟩, ⟨rfl, rfl, rfl⟩, rfl⟩

/-- The body the first call runs. -/
theorem row5 (t : Fin cfg5.N) : defs₀ (F := F) .tc cfg5.body (cfg5.bodyArgs t (cfg5.slots t)) = bodyAt5 t := rfl

/-- The first call's body, at every point. -/
theorem body5 (c : Dev nD) : BodyObligation (dat5 V c) (defs₀ (F := F)) Variants.none none Set.univ := fun t => by
  obtain ⟨⟨a0, a1, a2⟩, ⟨a3, a4, a5⟩, a6⟩ := after5 V c t
  have e0 (d) : (dat5 V c).before 0 t d = blockAt V cfg5 c 0 t :=
    before_block _ 0 rfl (fun _ => rfl) (fun _ _ => rfl) (fun t => by rw [(after5 V c t).1.1]; rfl) t d
  have e1 (d) : (dat5 V c).before 1 t d = blockAt V cfg5 c 1 t :=
    before_block _ 1 rfl (fun _ => rfl) (fun _ _ => rfl) (fun t => by rw [(after5 V c t).1.2.1]; rfl) t d
  have e2 (d) : (dat5 V c).before 2 t d = blockAt V cfg5 c 2 t :=
    before_block _ 2 rfl (fun _ => rfl) (fun _ _ => rfl) (fun t => by rw [(after5 V c t).1.2.2]; rfl) t d
  have e3 (d) : (dat5 V c).before 3 t d = blockAt V cfg5 c 3 t :=
    before_block _ 3 rfl (fun _ => rfl) (fun _ _ => rfl) (fun t => by rw [(after5 V c t).2.1.1]; rfl) t d
  have e4 (d) : (dat5 V c).before 4 t d = blockAt V cfg5 c 4 t :=
    before_block _ 4 rfl (fun _ => rfl) (fun _ _ => rfl) (fun t => by rw [(after5 V c t).2.1.2.1]; rfl) t d
  have e5 (d) : (dat5 V c).before 5 t d = blockAt V cfg5 c 5 t :=
    before_block _ 5 rfl (fun _ => rfl) (fun _ _ => rfl) (fun t => by rw [(after5 V c t).2.1.2.2]; rfl) t d
  rw [bigSep_W5, bigSep_W5]
  have h := wp_rows (F := F) c (grid5.coords t) (st5_0 t) (hstage5_0 ((cfg5.slots t 0).cast nbuf5_0)) (st5_1 t) (hstage5_1 ((cfg5.slots t 1).cast nbuf5_1))
    (st5_2 t) (hstage5_2 ((cfg5.slots t 2).cast nbuf5_2)) (st5_3 t) (hstage5_3 ((cfg5.slots t 3).cast nbuf5_3)) (st5_4 t) (hstage5_4 ((cfg5.slots t 4).cast nbuf5_4))
    (st5_5 t) (hstage5_5 ((cfg5.slots t 5).cast nbuf5_5)) (st5_6 t) (hstage5_6 ((cfg5.slots t 6).cast nbuf5_6))
    (blockAt V cfg5 c 0 t) (blockAt V cfg5 c 1 t) (blockAt V cfg5 c 2 t) (blockAt V cfg5 c 3 t) (blockAt V cfg5 c 4 t) (blockAt V cfg5 c 5 t)
    ((dat5 V c).before 6 t) ((dat5 V c).Φ t.castSucc) ((dat5 V c).owesAt none t.castSucc)
  refine triple_restated h (by rw [row5]) ?_ ?_
  · simp only [e0, e1, e2, e3, e4, e5]; exact .rfl
  · rw [a0, a1, a2, a3, a4, a5, a6]; exact fun _ => .rfl

/-- The second call's proof data: its operands' blocks stay, the result's block is `block` of them. -/
def dat6 (c : Dev nD) : CallDat F cfg6 c where
  A w := V (Proc.devRef .tc (Pipeline.arrRef spec6 w))
  after w t := match w with
    | ⟨0, _⟩ => blockAt V cfg6 c 0 t
    | ⟨1, _⟩ => blockAt V cfg6 c 1 t
    | ⟨2, _⟩ => blockAt V cfg6 c 2 t
    | ⟨3, _⟩ => blockAt V cfg6 c 3 t
    | ⟨4, _⟩ => blockAt V cfg6 c 4 t
    | ⟨5, _⟩ => blockAt V cfg6 c 5 t
    | ⟨6, _⟩ => block (blockAt V cfg6 c 0 t) (blockAt V cfg6 c 1 t) (blockAt V cfg6 c 2 t) (blockAt V cfg6 c 3 t) (blockAt V cfg6 c 4 t) (blockAt V cfg6 c 5 t)
  Φ _ := idle cfg6 c
  q _ := fullShare
  owed _ := 0

/-- What the second call's body leaves in each buffer. -/
theorem after6 (c : Dev nD) (t : Fin cfg6.N) :
    ((dat6 V c).after 0 t = blockAt V cfg6 c 0 t ∧ (dat6 V c).after 1 t = blockAt V cfg6 c 1 t ∧ (dat6 V c).after 2 t = blockAt V cfg6 c 2 t)
      ∧ ((dat6 V c).after 3 t = blockAt V cfg6 c 3 t ∧ (dat6 V c).after 4 t = blockAt V cfg6 c 4 t ∧ (dat6 V c).after 5 t = blockAt V cfg6 c 5 t)
      ∧ (dat6 V c).after 6 t = block (blockAt V cfg6 c 0 t) (blockAt V cfg6 c 1 t) (blockAt V cfg6 c 2 t) (blockAt V cfg6 c 3 t) (blockAt V cfg6 c 4 t) (blockAt V cfg6 c 5 t) := by
  dsimp only [dat6]; exact ⟨⟨rfl, rfl, rfl⟩, ⟨rfl, rfl, rfl⟩, rfl⟩

/-- The body the second call runs. -/
theorem row6 (t : Fin cfg6.N) : defs₀ (F := F) .tc cfg6.body (cfg6.bodyArgs t (cfg6.slots t)) = bodyAt6 t := rfl

/-- The second call's body, at every point. -/
theorem body6 (c : Dev nD) : BodyObligation (dat6 V c) (defs₀ (F := F)) Variants.none none Set.univ := fun t => by
  obtain ⟨⟨a0, a1, a2⟩, ⟨a3, a4, a5⟩, a6⟩ := after6 V c t
  have e0 (d) : (dat6 V c).before 0 t d = blockAt V cfg6 c 0 t :=
    before_block _ 0 rfl (fun _ => rfl) (fun _ _ => rfl) (fun t => by rw [(after6 V c t).1.1]; rfl) t d
  have e1 (d) : (dat6 V c).before 1 t d = blockAt V cfg6 c 1 t :=
    before_block _ 1 rfl (fun _ => rfl) (fun _ _ => rfl) (fun t => by rw [(after6 V c t).1.2.1]; rfl) t d
  have e2 (d) : (dat6 V c).before 2 t d = blockAt V cfg6 c 2 t :=
    before_block _ 2 rfl (fun _ => rfl) (fun _ _ => rfl) (fun t => by rw [(after6 V c t).1.2.2]; rfl) t d
  have e3 (d) : (dat6 V c).before 3 t d = blockAt V cfg6 c 3 t :=
    before_block _ 3 rfl (fun _ => rfl) (fun _ _ => rfl) (fun t => by rw [(after6 V c t).2.1.1]; rfl) t d
  have e4 (d) : (dat6 V c).before 4 t d = blockAt V cfg6 c 4 t :=
    before_block _ 4 rfl (fun _ => rfl) (fun _ _ => rfl) (fun t => by rw [(after6 V c t).2.1.2.1]; rfl) t d
  have e5 (d) : (dat6 V c).before 5 t d = blockAt V cfg6 c 5 t :=
    before_block _ 5 rfl (fun _ => rfl) (fun _ _ => rfl) (fun t => by rw [(after6 V c t).2.1.2.2]; rfl) t d
  rw [bigSep_W6, bigSep_W6]
  have h := wp_rows (F := F) c (grid6.coords t) (st6_0 t) (hstage6_0 ((cfg6.slots t 0).cast nbuf6_0)) (st6_1 t) (hstage6_1 ((cfg6.slots t 1).cast nbuf6_1))
    (st6_2 t) (hstage6_2 ((cfg6.slots t 2).cast nbuf6_2)) (st6_3 t) (hstage6_3 ((cfg6.slots t 3).cast nbuf6_3)) (st6_4 t) (hstage6_4 ((cfg6.slots t 4).cast nbuf6_4))
    (st6_5 t) (hstage6_5 ((cfg6.slots t 5).cast nbuf6_5)) (st6_6 t) (hstage6_6 ((cfg6.slots t 6).cast nbuf6_6))
    (blockAt V cfg6 c 0 t) (blockAt V cfg6 c 1 t) (blockAt V cfg6 c 2 t) (blockAt V cfg6 c 3 t) (blockAt V cfg6 c 4 t) (blockAt V cfg6 c 5 t)
    ((dat6 V c).before 6 t) ((dat6 V c).Φ t.castSucc) ((dat6 V c).owesAt none t.castSucc)
  refine triple_restated h (by rw [row6]; rfl) ?_ ?_
  · simp only [e0, e1, e2, e3, e4, e5]; exact .rfl
  · rw [a0, a1, a2, a3, a4, a5, a6]; exact fun _ => .rfl

/-- The third call's proof data: its operands' blocks stay, the result's block is `block` of them. -/
def dat7 (c : Dev nD) : CallDat F cfg7 c where
  A w := V (Proc.devRef .tc (Pipeline.arrRef spec7 w))
  after w t := match w with
    | ⟨0, _⟩ => blockAt V cfg7 c 0 t
    | ⟨1, _⟩ => blockAt V cfg7 c 1 t
    | ⟨2, _⟩ => blockAt V cfg7 c 2 t
    | ⟨3, _⟩ => blockAt V cfg7 c 3 t
    | ⟨4, _⟩ => blockAt V cfg7 c 4 t
    | ⟨5, _⟩ => blockAt V cfg7 c 5 t
    | ⟨6, _⟩ => block (blockAt V cfg7 c 0 t) (blockAt V cfg7 c 1 t) (blockAt V cfg7 c 2 t) (blockAt V cfg7 c 3 t) (blockAt V cfg7 c 4 t) (blockAt V cfg7 c 5 t)
  Φ _ := idle cfg7 c
  q _ := fullShare
  owed _ := 0

/-- What the third call's body leaves in each buffer. -/
theorem after7 (c : Dev nD) (t : Fin cfg7.N) :
    ((dat7 V c).after 0 t = blockAt V cfg7 c 0 t ∧ (dat7 V c).after 1 t = blockAt V cfg7 c 1 t ∧ (dat7 V c).after 2 t = blockAt V cfg7 c 2 t)
      ∧ ((dat7 V c).after 3 t = blockAt V cfg7 c 3 t ∧ (dat7 V c).after 4 t = blockAt V cfg7 c 4 t ∧ (dat7 V c).after 5 t = blockAt V cfg7 c 5 t)
      ∧ (dat7 V c).after 6 t = block (blockAt V cfg7 c 0 t) (blockAt V cfg7 c 1 t) (blockAt V cfg7 c 2 t) (blockAt V cfg7 c 3 t) (blockAt V cfg7 c 4 t) (blockAt V cfg7 c 5 t) := by
  dsimp only [dat7]; exact ⟨⟨rfl, rfl, rfl⟩, ⟨rfl, rfl, rfl⟩, rfl⟩

/-- The body the third call runs. -/
theorem row7 (t : Fin cfg7.N) : defs₀ (F := F) .tc cfg7.body (cfg7.bodyArgs t (cfg7.slots t)) = bodyAt7 t := rfl

/-- The third call's body, at every point. -/
theorem body7 (c : Dev nD) : BodyObligation (dat7 V c) (defs₀ (F := F)) Variants.none none Set.univ := fun t => by
  obtain ⟨⟨a0, a1, a2⟩, ⟨a3, a4, a5⟩, a6⟩ := after7 V c t
  have e0 (d) : (dat7 V c).before 0 t d = blockAt V cfg7 c 0 t :=
    before_block _ 0 rfl (fun _ => rfl) (fun _ _ => rfl) (fun t => by rw [(after7 V c t).1.1]; rfl) t d
  have e1 (d) : (dat7 V c).before 1 t d = blockAt V cfg7 c 1 t :=
    before_block _ 1 rfl (fun _ => rfl) (fun _ _ => rfl) (fun t => by rw [(after7 V c t).1.2.1]; rfl) t d
  have e2 (d) : (dat7 V c).before 2 t d = blockAt V cfg7 c 2 t :=
    before_block _ 2 rfl (fun _ => rfl) (fun _ _ => rfl) (fun t => by rw [(after7 V c t).1.2.2]; rfl) t d
  have e3 (d) : (dat7 V c).before 3 t d = blockAt V cfg7 c 3 t :=
    before_block _ 3 rfl (fun _ => rfl) (fun _ _ => rfl) (fun t => by rw [(after7 V c t).2.1.1]; rfl) t d
  have e4 (d) : (dat7 V c).before 4 t d = blockAt V cfg7 c 4 t :=
    before_block _ 4 rfl (fun _ => rfl) (fun _ _ => rfl) (fun t => by rw [(after7 V c t).2.1.2.1]; rfl) t d
  have e5 (d) : (dat7 V c).before 5 t d = blockAt V cfg7 c 5 t :=
    before_block _ 5 rfl (fun _ => rfl) (fun _ _ => rfl) (fun t => by rw [(after7 V c t).2.1.2.2]; rfl) t d
  rw [bigSep_W7, bigSep_W7]
  have h := wp_rows (F := F) c (grid7.coords t) (st7_0 t) (hstage7_0 ((cfg7.slots t 0).cast nbuf7_0)) (st7_1 t) (hstage7_1 ((cfg7.slots t 1).cast nbuf7_1))
    (st7_2 t) (hstage7_2 ((cfg7.slots t 2).cast nbuf7_2)) (st7_3 t) (hstage7_3 ((cfg7.slots t 3).cast nbuf7_3)) (st7_4 t) (hstage7_4 ((cfg7.slots t 4).cast nbuf7_4))
    (st7_5 t) (hstage7_5 ((cfg7.slots t 5).cast nbuf7_5)) (st7_6 t) (hstage7_6 ((cfg7.slots t 6).cast nbuf7_6))
    (blockAt V cfg7 c 0 t) (blockAt V cfg7 c 1 t) (blockAt V cfg7 c 2 t) (blockAt V cfg7 c 3 t) (blockAt V cfg7 c 4 t) (blockAt V cfg7 c 5 t)
    ((dat7 V c).before 6 t) ((dat7 V c).Φ t.castSucc) ((dat7 V c).owesAt none t.castSucc)
  refine triple_restated h (by rw [row7]; rfl) ?_ ?_
  · simp only [e0, e1, e2, e3, e4, e5]; exact .rfl
  · rw [a0, a1, a2, a3, a4, a5, a6]; exact fun _ => .rfl

/-- The fourth call's proof data: its operands' blocks stay, the result's block is `block` of them. -/
def dat8 (c : Dev nD) : CallDat F cfg8 c where
  A w := V (Proc.devRef .tc (Pipeline.arrRef spec8 w))
  after w t := match w with
    | ⟨0, _⟩ => blockAt V cfg8 c 0 t
    | ⟨1, _⟩ => blockAt V cfg8 c 1 t
    | ⟨2, _⟩ => blockAt V cfg8 c 2 t
    | ⟨3, _⟩ => blockAt V cfg8 c 3 t
    | ⟨4, _⟩ => blockAt V cfg8 c 4 t
    | ⟨5, _⟩ => blockAt V cfg8 c 5 t
    | ⟨6, _⟩ => block (blockAt V cfg8 c 0 t) (blockAt V cfg8 c 1 t) (blockAt V cfg8 c 2 t) (blockAt V cfg8 c 3 t) (blockAt V cfg8 c 4 t) (blockAt V cfg8 c 5 t)
  Φ _ := idle cfg8 c
  q _ := fullShare
  owed _ := 0

/-- What the fourth call's body leaves in each buffer. -/
theorem after8 (c : Dev nD) (t : Fin cfg8.N) :
    ((dat8 V c).after 0 t = blockAt V cfg8 c 0 t ∧ (dat8 V c).after 1 t = blockAt V cfg8 c 1 t ∧ (dat8 V c).after 2 t = blockAt V cfg8 c 2 t)
      ∧ ((dat8 V c).after 3 t = blockAt V cfg8 c 3 t ∧ (dat8 V c).after 4 t = blockAt V cfg8 c 4 t ∧ (dat8 V c).after 5 t = blockAt V cfg8 c 5 t)
      ∧ (dat8 V c).after 6 t = block (blockAt V cfg8 c 0 t) (blockAt V cfg8 c 1 t) (blockAt V cfg8 c 2 t) (blockAt V cfg8 c 3 t) (blockAt V cfg8 c 4 t) (blockAt V cfg8 c 5 t) := by
  dsimp only [dat8]; exact ⟨⟨rfl, rfl, rfl⟩, ⟨rfl, rfl, rfl⟩, rfl⟩

/-- The body the fourth call runs. -/
theorem row8 (t : Fin cfg8.N) : defs₀ (F := F) .tc cfg8.body (cfg8.bodyArgs t (cfg8.slots t)) = bodyAt8 t := rfl

/-- The fourth call's body, at every point. -/
theorem body8 (c : Dev nD) : BodyObligation (dat8 V c) (defs₀ (F := F)) Variants.none none Set.univ := fun t => by
  obtain ⟨⟨a0, a1, a2⟩, ⟨a3, a4, a5⟩, a6⟩ := after8 V c t
  have e0 (d) : (dat8 V c).before 0 t d = blockAt V cfg8 c 0 t :=
    before_block _ 0 rfl (fun _ => rfl) (fun _ _ => rfl) (fun t => by rw [(after8 V c t).1.1]; rfl) t d
  have e1 (d) : (dat8 V c).before 1 t d = blockAt V cfg8 c 1 t :=
    before_block _ 1 rfl (fun _ => rfl) (fun _ _ => rfl) (fun t => by rw [(after8 V c t).1.2.1]; rfl) t d
  have e2 (d) : (dat8 V c).before 2 t d = blockAt V cfg8 c 2 t :=
    before_block _ 2 rfl (fun _ => rfl) (fun _ _ => rfl) (fun t => by rw [(after8 V c t).1.2.2]; rfl) t d
  have e3 (d) : (dat8 V c).before 3 t d = blockAt V cfg8 c 3 t :=
    before_block _ 3 rfl (fun _ => rfl) (fun _ _ => rfl) (fun t => by rw [(after8 V c t).2.1.1]; rfl) t d
  have e4 (d) : (dat8 V c).before 4 t d = blockAt V cfg8 c 4 t :=
    before_block _ 4 rfl (fun _ => rfl) (fun _ _ => rfl) (fun t => by rw [(after8 V c t).2.1.2.1]; rfl) t d
  have e5 (d) : (dat8 V c).before 5 t d = blockAt V cfg8 c 5 t :=
    before_block _ 5 rfl (fun _ => rfl) (fun _ _ => rfl) (fun t => by rw [(after8 V c t).2.1.2.2]; rfl) t d
  rw [bigSep_W8, bigSep_W8]
  have h := wp_rows (F := F) c (grid8.coords t) (st8_0 t) (hstage8_0 ((cfg8.slots t 0).cast nbuf8_0)) (st8_1 t) (hstage8_1 ((cfg8.slots t 1).cast nbuf8_1))
    (st8_2 t) (hstage8_2 ((cfg8.slots t 2).cast nbuf8_2)) (st8_3 t) (hstage8_3 ((cfg8.slots t 3).cast nbuf8_3)) (st8_4 t) (hstage8_4 ((cfg8.slots t 4).cast nbuf8_4))
    (st8_5 t) (hstage8_5 ((cfg8.slots t 5).cast nbuf8_5)) (st8_6 t) (hstage8_6 ((cfg8.slots t 6).cast nbuf8_6))
    (blockAt V cfg8 c 0 t) (blockAt V cfg8 c 1 t) (blockAt V cfg8 c 2 t) (blockAt V cfg8 c 3 t) (blockAt V cfg8 c 4 t) (blockAt V cfg8 c 5 t)
    ((dat8 V c).before 6 t) ((dat8 V c).Φ t.castSucc) ((dat8 V c).owesAt none t.castSucc)
  refine triple_restated h (by rw [row8]; rfl) ?_ ?_
  · simp only [e0, e1, e2, e3, e4, e5]; exact .rfl
  · rw [a0, a1, a2, a3, a4, a5, a6]; exact fun _ => .rfl

/-- The fifth call's proof data: its operands' blocks stay, the result's block is `block` of them. -/
def dat9 (c : Dev nD) : CallDat F cfg9 c where
  A w := V (Proc.devRef .tc (Pipeline.arrRef spec9 w))
  after w t := match w with
    | ⟨0, _⟩ => blockAt V cfg9 c 0 t
    | ⟨1, _⟩ => blockAt V cfg9 c 1 t
    | ⟨2, _⟩ => blockAt V cfg9 c 2 t
    | ⟨3, _⟩ => blockAt V cfg9 c 3 t
    | ⟨4, _⟩ => blockAt V cfg9 c 4 t
    | ⟨5, _⟩ => blockAt V cfg9 c 5 t
    | ⟨6, _⟩ => block (blockAt V cfg9 c 0 t) (blockAt V cfg9 c 1 t) (blockAt V cfg9 c 2 t) (blockAt V cfg9 c 3 t) (blockAt V cfg9 c 4 t) (blockAt V cfg9 c 5 t)
  Φ _ := idle cfg9 c
  q _ := fullShare
  owed _ := 0

/-- What the fifth call's body leaves in each buffer. -/
theorem after9 (c : Dev nD) (t : Fin cfg9.N) :
    ((dat9 V c).after 0 t = blockAt V cfg9 c 0 t ∧ (dat9 V c).after 1 t = blockAt V cfg9 c 1 t ∧ (dat9 V c).after 2 t = blockAt V cfg9 c 2 t)
      ∧ ((dat9 V c).after 3 t = blockAt V cfg9 c 3 t ∧ (dat9 V c).after 4 t = blockAt V cfg9 c 4 t ∧ (dat9 V c).after 5 t = blockAt V cfg9 c 5 t)
      ∧ (dat9 V c).after 6 t = block (blockAt V cfg9 c 0 t) (blockAt V cfg9 c 1 t) (blockAt V cfg9 c 2 t) (blockAt V cfg9 c 3 t) (blockAt V cfg9 c 4 t) (blockAt V cfg9 c 5 t) := by
  dsimp only [dat9]; exact ⟨⟨rfl, rfl, rfl⟩, ⟨rfl, rfl, rfl⟩, rfl⟩

/-- The body the fifth call runs. -/
theorem row9 (t : Fin cfg9.N) : defs₀ (F := F) .tc cfg9.body (cfg9.bodyArgs t (cfg9.slots t)) = bodyAt9 t := rfl

/-- The fifth call's body, at every point. -/
theorem body9 (c : Dev nD) : BodyObligation (dat9 V c) (defs₀ (F := F)) Variants.none none Set.univ := fun t => by
  obtain ⟨⟨a0, a1, a2⟩, ⟨a3, a4, a5⟩, a6⟩ := after9 V c t
  have e0 (d) : (dat9 V c).before 0 t d = blockAt V cfg9 c 0 t :=
    before_block _ 0 rfl (fun _ => rfl) (fun _ _ => rfl) (fun t => by rw [(after9 V c t).1.1]; rfl) t d
  have e1 (d) : (dat9 V c).before 1 t d = blockAt V cfg9 c 1 t :=
    before_block _ 1 rfl (fun _ => rfl) (fun _ _ => rfl) (fun t => by rw [(after9 V c t).1.2.1]; rfl) t d
  have e2 (d) : (dat9 V c).before 2 t d = blockAt V cfg9 c 2 t :=
    before_block _ 2 rfl (fun _ => rfl) (fun _ _ => rfl) (fun t => by rw [(after9 V c t).1.2.2]; rfl) t d
  have e3 (d) : (dat9 V c).before 3 t d = blockAt V cfg9 c 3 t :=
    before_block _ 3 rfl (fun _ => rfl) (fun _ _ => rfl) (fun t => by rw [(after9 V c t).2.1.1]; rfl) t d
  have e4 (d) : (dat9 V c).before 4 t d = blockAt V cfg9 c 4 t :=
    before_block _ 4 rfl (fun _ => rfl) (fun _ _ => rfl) (fun t => by rw [(after9 V c t).2.1.2.1]; rfl) t d
  have e5 (d) : (dat9 V c).before 5 t d = blockAt V cfg9 c 5 t :=
    before_block _ 5 rfl (fun _ => rfl) (fun _ _ => rfl) (fun t => by rw [(after9 V c t).2.1.2.2]; rfl) t d
  rw [bigSep_W9, bigSep_W9]
  have h := wp_rows (F := F) c (grid9.coords t) (st9_0 t) (hstage9_0 ((cfg9.slots t 0).cast nbuf9_0)) (st9_1 t) (hstage9_1 ((cfg9.slots t 1).cast nbuf9_1))
    (st9_2 t) (hstage9_2 ((cfg9.slots t 2).cast nbuf9_2)) (st9_3 t) (hstage9_3 ((cfg9.slots t 3).cast nbuf9_3)) (st9_4 t) (hstage9_4 ((cfg9.slots t 4).cast nbuf9_4))
    (st9_5 t) (hstage9_5 ((cfg9.slots t 5).cast nbuf9_5)) (st9_6 t) (hstage9_6 ((cfg9.slots t 6).cast nbuf9_6))
    (blockAt V cfg9 c 0 t) (blockAt V cfg9 c 1 t) (blockAt V cfg9 c 2 t) (blockAt V cfg9 c 3 t) (blockAt V cfg9 c 4 t) (blockAt V cfg9 c 5 t)
    ((dat9 V c).before 6 t) ((dat9 V c).Φ t.castSucc) ((dat9 V c).owesAt none t.castSucc)
  refine triple_restated h (by rw [row9]; rfl) ?_ ?_
  · simp only [e0, e1, e2, e3, e4, e5]; exact .rfl
  · rw [a0, a1, a2, a3, a4, a5, a6]; exact fun _ => .rfl

end Cert.KernelIdeal.Rows

end
-- ==== Proof.TileStep.lean ====
module

public import proofs.«01_k».proof.Proof.Base

/-! A tile's buffers, slot by slot and window by window, and what each of its operations does with them: a list brought
    in, the rows it names gathered, the rows sent out, and the waits for the three. -/

@[expose] public section

noncomputable section

namespace Cert.KernelIdeal.Tile

open Cert.KernelIdeal.Gen
open Idealize.ShloMosaic
open Idealize.ShloMosaic.SparseCore (S V T gatherPayload rows)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => M5 F

/-- The arrays and semaphores a tile's program is given. -/
structure Bufs where
  tbl : Memref sig .scVector .hbm S100000x128 .f32
  ids : Memref sig .scVector .hbm S1600x128 .i32
  out : Memref sig .scVector .hbm S40960x128 .f32
  lists : Memref sig .scVector .vmem S2x1x128 .i32
  inSem : DmaSems sig S2
  rowsBuf : Memref sig .scVector .vmem S2x128x128 .f32
  outSem : DmaSems sig S2
  gSem : DmaSems sig S_

/-- The tile's thread. -/
abbrev tid (d : Dev nD) (i : grid0.Coords) : Thread nD τ := V d ((i 0).castLE hcore0) ((i 1).castLE hsub0)

theorem inbL (p : Nat) : ∀ a, (![p % 2, 0, 0] : Fin 3 → Nat) a + S1x1x128.size a ≤ S2x1x128.size a := by
  have := Nat.mod_lt p (show 0 < 2 by decide)
  intro a; fin_cases a <;> simp [S1x1x128, S2x1x128] <;> omega
theorem inbR (p : Nat) : ∀ a, (![p % 2, 0, 0] : Fin 3 → Nat) a + S1x128x128.size a ≤ S2x128x128.size a := by
  have := Nat.mod_lt p (show 0 < 2 by decide)
  intro a; fin_cases a <;> simp [S1x128x128, S2x128x128] <;> omega
theorem inbS (p : Nat) : ∀ a, (![p % 2] : Fin 1 → Nat) a + S1.size a ≤ S2.size a := by
  have := Nat.mod_lt p (show 0 < 2 by decide)
  intro a; fin_cases a; simp [S1, S2]; omega
theorem inbI (r : Nat) : ∀ a, (![r % 1600, 0] : Fin 2 → Nat) a + S1x128.size a ≤ S1600x128.size a := by
  have := Nat.mod_lt r (show 0 < 1600 by decide)
  intro a; fin_cases a <;> simp [S1x128, S1600x128] <;> omega
theorem inbO (w : Nat) : ∀ a, (![128 * (w % 320), 0] : Fin 2 → Nat) a + S128x128.size a ≤ S40960x128.size a := by
  have := Nat.mod_lt w (show 0 < 320 by decide)
  intro a; fin_cases a <;> simp [S128x128, S40960x128] <;> omega

section Views
variable (B : Bufs)

/-- Slot `p` of the list buffer, as the copy in names it, -/
abbrev inS (p : Nat) : Memref sig .scVector .vmem S1x128 .i32 :=
  (B.lists.slice (Rect.unit (s := S2x1x128) ![p % 2, 0, 0] S1x1x128.size (inbL p)) (fun _ => rfl)).squeeze S1x128 squeezes_S1x1x128_S1x128
/-- and as the gather does. -/
abbrev listS (p : Nat) : Memref sig .scVector .vmem S128 .i32 :=
  ((inS B p).slice (Rect.unit (s := S1x128) ![0, 0] S1x128.size inb_S1x128_S1x128_0_0) (fun _ => rfl)).squeeze S128 squeezes_S1x128_S128
/-- Slot `p` of the row buffer. -/
abbrev rowS (p : Nat) : Memref sig .scVector .vmem S128x128 .f32 :=
  (B.rowsBuf.slice (Rect.unit (s := S2x128x128) ![p % 2, 0, 0] S1x128x128.size (inbR p)) (fun _ => rfl)).squeeze S128x128 squeezes_S1x128x128_S128x128
/-- Row `r` of the index array. -/
abbrev idRow (r : Nat) : Memref sig .scVector .hbm S1x128 .i32 :=
  B.ids.slice (Rect.unit (s := S1600x128) ![r % 1600, 0] S1x128.size (inbI r)) (fun _ => rfl)
/-- Window `w` of the output. -/
abbrev outWin (w : Nat) : Memref sig .scVector .hbm S128x128 .f32 :=
  B.out.slice (Rect.unit (s := S40960x128) ![128 * (w % 320), 0] S128x128.size (inbO w)) (fun _ => rfl)
/-- The whole table, as the gather names it. -/
abbrev tblAll : Memref sig .scVector .hbm S100000x128 .f32 :=
  B.tbl.slice (Rect.unit (s := S100000x128) ![0, 0] S100000x128.size inb_S100000x128_S100000x128_0_0) (fun _ => rfl)
/-- The semaphore of a list slot, and of a row slot. -/
abbrev sIn (p : Nat) : DmaSem sig :=
  ((B.inSem.slice (Rect.unit (s := S2) ![p % 2] S1.size (inbS p))).squeeze S_ squeezes_S1_S_).sem
abbrev sOut (p : Nat) : DmaSem sig :=
  ((B.outSem.slice (Rect.unit (s := S2) ![p % 2] S1.size (inbS p))).squeeze S_ squeezes_S1_S_).sem

/-- A list as the gather reads it out of a slot's `1 × 128` words. -/
def asList {X : Type} (g : S1x128.Idx → X) : S128.Idx → X :=
  fun x => g ((Rect.unit (s := S1x128) ![0, 0] S1x128.size inb_S1x128_S1x128_0_0).emb (Shape.reshapeEquiv squeezes_S1x128_S128.numel_eq x))

theorem listS_read (p : Nat) (f) : (listS B p).view.read (Elt F) f = asList ((inS B p).view.read (Elt F) f) := rfl

theorem listS_set (p : Nat) : (listS B p).view.set = (inS B p).view.set := by
  show (((inS B p).view.slice _).reshape _ _).set = _
  rw [View.set_reshape, View.set_slice, show (Rect.unit (s := S1x128) ![0, 0] S1x128.size inb_S1x128_S1x128_0_0).set = Finset.univ from by decide +kernel]
  rfl

end Views

/-! ## The steps -/

variable (d : Dev nD) (i : grid0.Coords) (B : Bufs)

/-- Half of a share, by the parity of a slot. -/
def half (q : PosShare TreeShare) (p : Nat) : PosShare TreeShare := if p % 2 = 0 then q.left else q.right

/-- What the tile owes and has waited for: nothing but what it was entered with and its own transfers. -/
def Owes (O : CellTallies nD τ sig (HIx 5)) (W : Waits sig (HIx 5)) : sProp 𝕄 :=
  iprop(∃ W', ⌜∀ p ∈ W', p ∈ W ∨ p.2 = none⌝ ∗ owes (tid d i) O W')

variable (q qt : PosShare TreeShare) (idsF : Buf (Elt F) (B.ids.view.loc (tid d i))) (tblF : Buf (Elt F) (B.tbl.view.loc (tid d i)))
  (G : Buf (Elt F) (B.out.view.loc (tid d i))) (O : CellTallies nD τ sig (HIx 5)) (W : Waits sig (HIx 5))

/-- A list slot that holds nothing in particular, its semaphore, and its half of the index array's share; -/
def InFree (p : Nat) : sProp 𝕄 :=
  iprop((∃ f, (inS B p).view.loc (tid d i) ↦[(inS B p).view.set]{fullShare} f) ∗ semVal (tid d i, SemLoc.dma (sIn B p)) 0
    ∗ (B.ids.view.loc (tid d i) ↦{half q p} idsF))

/-- a list slot that holds row `r` of the index array; -/
def InFull (p r : Nat) : sProp 𝕄 :=
  iprop((∃ f, ⌜(inS B p).view.read (Elt F) f = (idRow B r).view.read (Elt F) idsF⌝ ∗ ((inS B p).view.loc (tid d i) ↦[(inS B p).view.set]{fullShare} f))
    ∗ (B.ids.view.loc (tid d i) ↦{half q p} idsF))

/-- one that the row is on its way to. -/
def InFlight (p r : Nat) : sProp 𝕄 :=
  Transfers.Flight countersEmb (tid d i) (.dma (sIn B p)) (default : HIx 5) (inS B p).view.dmaCredit (InFull d i B q idsF p r)

/-- A row slot that holds nothing in particular, -/
def RowAny (p : Nat) : sProp 𝕄 := iprop(∃ f, (rowS B p).view.loc (tid d i) ↦[(rowS B p).view.set]{fullShare} f)

/-- a row slot that holds `g`, -/
def RowIs (p : Nat) (g : S128x128.Idx → Elt F .f32) : sProp 𝕄 :=
  iprop(∃ f, ⌜(rowS B p).view.read (Elt F) f = g⌝ ∗ ((rowS B p).view.loc (tid d i) ↦[(rowS B p).view.set]{fullShare} f))

/-- a free one with its semaphore, -/
def OutFree (p : Nat) : sProp 𝕄 := iprop(RowAny d i B p ∗ semVal (tid d i, SemLoc.dma (sOut B p)) 0)

/-- window `w` of the output at contents `f`, -/
def Win (f : Buf (Elt F) (B.out.view.loc (tid d i))) (w : Nat) : sProp 𝕄 := (outWin B w).view.loc (tid d i) ↦[(outWin B w).view.set]{fullShare} f

/-- and a row slot on its way to window `w`. -/
def OutFlight (p w : Nat) : sProp 𝕄 :=
  Transfers.Flight countersEmb (tid d i) (.dma (sOut B p)) (default : HIx 5) (outWin B w).view.dmaCredit iprop(Win d i B G w ∗ RowAny d i B p)

variable {d i B q qt idsF tblF G O W}

local notation "wpT" => wp frame (wpE (defs₀ (F := F)) 𝒱₀ (tid d i) none) Set.univ

/-- A value returned. -/
theorem wp_pure' {α : Type} (x : α) (Q : α → sProp 𝕄) :
    Q x ⊢ wpT (pure x : Prog (TpuEff nD τ sig (Elt F) Λ₀ (tid d i).2) α) Q := by
  rw [wp_pure]; iintro H; imodintro; iexact H

/-- A check that holds. -/
theorem wp_check {P : Prop} {dec : Decidable P} (h : P) (Q : PLift P → sProp 𝕄) :
    Q ⟨h⟩ ⊢ wpT (Prog.lift (TpuEff.assume P dec) : Prog (TpuEff nD τ sig (Elt F) Λ₀ (tid d i).2) (PLift P)) Q := by
  iintro H
  iapply (wp_assume 𝒱₀ (tid d i) none Set.univ (k := .ret) h)
  rw [wp_ret]; imodintro; iexact H

/-- The copy in of row `r` to a free slot. -/
theorem wp_listIn {p r : Nat} (hr : r < 1600) {o5 : Fin 2 → Nat} {o4 : Fin 3 → Nat} {o6 : Fin 1 → Nat}
    (e5 : o5 = ![r, 0]) (e4 : o4 = ![p % 2, 0, 0]) (e6 : o6 = ![p % 2]) {h5 h4 h6 w1 w2 w3} {Q : PUnit → sProp 𝕄} :
    InFree d i B q idsF p ⊢ iprop((InFlight d i B q idsF p r -∗ Q ⟨⟩)
      -∗ wpT (Prog.lift (.enqueueDma (B.ids.slice (Rect.unit (s := S1600x128) o5 S1x128.size h5) (fun _ => rfl))
          (.here ((B.lists.slice (Rect.unit (s := S2x1x128) o4 S1x1x128.size h4) (fun _ => rfl)).squeeze S1x128 squeezes_S1x1x128_S1x128))
          (.dma ((B.inSem.slice (Rect.unit (s := S2) o6 S1.size h6)).squeeze S_ squeezes_S1_S_).sem) w1 w2 w3)) Q) := by
  subst e4 e6
  obtain rfl : o5 = ![r % 1600, 0] := by rw [e5, Nat.mod_eq_of_lt hr]
  unfold InFree
  iintro ⟨⟨%f, Hd⟩, Hs, Hi⟩ HQ
  iapply (Transfers.wp_dmaFromWhole countersEmb 𝒱₀ (tid d i) none (src := idRow B r) (dst := inS B p) (sm := .dma (sIn B p)) (default : HIx 5)
    (inS B p).view.dmaCredit rfl (View.dmaCredit_pos _ (by decide)) (Finset.Subset.refl _)) $$ [Hd Hs Hi]
  · isplitl [Hi]; · iexact Hi
    isplitl [Hd]; · iexact Hd
    iexact Hs
  iintro Hf
  rw [wp_ret]; imodintro
  iapply HQ
  unfold InFlight
  iapply (Transfers.Flight_mono countersEmb (tid d i) (D' := InFull d i B q idsF p r) ?_) $$ Hf
  unfold InFull
  iintro ⟨Hd, Hi⟩
  isplitl [Hd]
  · iexists (inS B p).view.write (Elt F) f ((idRow B r).view.read (Elt F) idsF) Finset.univ
    isplitr
    · ipureintro; exact View.read_write_univ _ _
    · iexact Hd
  · iexact Hi

/-- The wait for it. -/
theorem wp_listWait {p r : Nat} {o8 : Fin 2 → Nat} {o7 : Fin 3 → Nat} {o9 : Fin 1 → Nat} (e7 : o7 = ![p % 2, 0, 0]) (e9 : o9 = ![p % 2])
    {h8 h7 h9 w1 w2} {Q : PUnit → sProp 𝕄} :
    iprop(InFlight d i B q idsF p r ∗ Owes d i O W ∗ Transfers.MayWaits (tid d i) (default : HIx 5) O)
      ⊢ iprop((iprop(InFull d i B q idsF p r ∗ semVal (tid d i, SemLoc.dma (sIn B p)) 0 ∗ Owes d i O W) -∗ Q ⟨⟩)
      -∗ wpT (Prog.lift (.waitDma2 ((B.inSem.slice (Rect.unit (s := S2) o9 S1.size h9)).squeeze S_ squeezes_S1_S_).sem
          (B.ids.slice (Rect.unit (s := S1600x128) o8 S1x128.size h8) (fun _ => rfl))
          ((B.lists.slice (Rect.unit (s := S2x1x128) o7 S1x1x128.size h7) (fun _ => rfl)).squeeze S1x128 squeezes_S1x1x128_S1x128) w1 w2)) Q) := by
  subst e7 e9
  unfold InFlight Owes
  iintro ⟨Hf, ⟨%W', %hW, HO⟩, Hm⟩ HQ
  iapply (Transfers.wp_waitLocalO countersEmb 𝒱₀ (tid d i) none (default : HIx 5) (dstw := inS B p) rfl) $$ [Hf HO Hm]
  · isplitl [Hf]; · iexact Hf
    isplitl [HO]; · iexact HO
    iapply (Transfers.MayWaits.elim (SemLoc.dma (sIn B p))) $$ Hm
  iintro ⟨HD, Hs, HO⟩
  rw [wp_ret]; imodintro
  iapply HQ
  isplitl [HD]; · iexact HD
  isplitl [Hs]; · iexact Hs
  iexists (insert (SemLoc.dma (sIn B p), (default : HIx 5)) W')
  isplitr
  · ipureintro
    intro x hx
    rcases Finset.mem_insert.mp hx with h | h
    · right; rw [h]; rfl
    · exact hW x h
  · iexact HO

/-- The gather of the rows a full slot lists, and the wait for it: the row slot holds them. -/
theorem wp_gather {p r : Nat} {o10 o10' o11 : Fin 3 → Nat} (e10 : o10 = ![p % 2, 0, 0]) (e10' : o10' = ![p % 2, 0, 0]) (e11 : o11 = ![p % 2, 0, 0])
    (hin : ∀ x, (asList ((idRow B r).view.read (Elt F) idsF) x).toNat < S100000x128.size gathers_S100000x128_S128x128.axis)
    (hcr : ∑ j, ((rowS B p).slice (S128x128.rowRect gathers_S100000x128_S128x128.axis' j) (S128x128.stride_rowRect gathers_S100000x128_S128x128.axis' j)).view.dmaCredit
      = (rowS B p).view.dmaCredit)
    {h10 h10' h11 w1 w2 w3 w4 w5} {Q : PUnit → sProp 𝕄} :
    iprop(InFull d i B q idsF p r ∗ RowAny d i B p ∗ (B.tbl.view.loc (tid d i) ↦{qt} tblF) ∗ semVal (tid d i, SemLoc.dma B.gSem.sem) 0
        ∗ Owes d i O W ∗ Transfers.MayWaits (tid d i) (default : HIx 5) O)
      ⊢ iprop((iprop((∃ f, (inS B p).view.loc (tid d i) ↦[(inS B p).view.set]{fullShare} f) ∗ (B.ids.view.loc (tid d i) ↦{half q p} idsF)
            ∗ RowIs d i B p (gatherPayload gathers_S100000x128_S128x128 ((tblAll B).view.read (Elt F) tblF)
                (rows (asList ((idRow B r).view.read (Elt F) idsF)) rfl hin))
            ∗ (B.tbl.view.loc (tid d i) ↦{qt} tblF) ∗ semVal (tid d i, SemLoc.dma B.gSem.sem) 0 ∗ Owes d i O W) -∗ Q ⟨⟩)
      -∗ wpT (SparseCore.enqueueIndirectGather rfl (B.tbl.slice (Rect.unit (s := S100000x128) ![0, 0] S100000x128.size inb_S100000x128_S100000x128_0_0) (fun _ => rfl))
            ((B.rowsBuf.slice (Rect.unit (s := S2x128x128) o10 S1x128x128.size h10) (fun _ => rfl)).squeeze S128x128 squeezes_S1x128x128_S128x128)
            gathers_S100000x128_S128x128
            ((((B.lists.slice (Rect.unit (s := S2x1x128) o11 S1x1x128.size h11) (fun _ => rfl)).squeeze S1x128 squeezes_S1x1x128_S1x128).slice
              (Rect.unit (s := S1x128) ![0, 0] S1x128.size inb_S1x128_S1x128_0_0) (fun _ => rfl)).squeeze S128 squeezes_S1x128_S128)
            rfl B.gSem.sem w1 w2 w3)
          (fun _ => wpT (SparseCore.waitIndirectGather B.gSem.sem
              (B.tbl.slice (Rect.unit (s := S100000x128) ![0, 0] S100000x128.size inb_S100000x128_S100000x128_0_0) (fun _ => rfl))
              ((B.rowsBuf.slice (Rect.unit (s := S2x128x128) o10' S1x128x128.size h10') (fun _ => rfl)).squeeze S128x128 squeezes_S1x128x128_S128x128) w4 w5) Q)) := by
  subst e10 e10' e11
  unfold InFull RowAny
  iintro ⟨⟨⟨%fl, %hfl, Hl⟩, Hi⟩, ⟨%fr, Hr⟩, Ht, Hs, HO, Hm⟩ HQ
  ihave ⟨Ht, Htr⟩ := (pointsTo_split_subset (q := qt) (f := tblF) (S := Finset.univ) (Finset.subset_univ (tblAll B).view.set)).1 $$ Ht
  have hl : (listS B p).view.read (Elt F) fl = asList ((idRow B r).view.read (Elt F) idsF) := by rw [listS_read, hfl]
  have hin' : ∀ x, ((listS B p).view.read (Elt F) fl x).toNat < S100000x128.size gathers_S100000x128_S128x128.axis := by rw [hl]; exact hin
  have hrows : rows ((listS B p).view.read (Elt F) fl) rfl hin' = rows (asList ((idRow B r).view.read (Elt F) idsF)) rfl hin := by
    funext k; apply Fin.ext; show ((listS B p).view.read (Elt F) fl _).toNat = _; rw [hl]; rfl
  rw [← listS_set]
  rw [← wp_bind]
  iapply (SparseCore.wp_indirectGatherLocal countersEmb 𝒱₀ (tid d i) none (src := tblAll B) (dst := rowS B p) (offs := listS B p)
    (hg := gathers_S100000x128_S128x128) (default : HIx 5) (rowS B p).view.dmaCredit hcr (by decide) hin') $$ [Ht Hl Hr Hs]
  · isplitl [Ht]; · iexact Ht
    isplitl [Hr]; · iexact Hr
    isplitl [Hl]; · iexact Hl
    iexact Hs
  iintro Hf
  unfold Owes
  icases HO with ⟨%W', %hW, HO⟩
  iapply (Transfers.wp_waitLocalO countersEmb 𝒱₀ (tid d i) none (default : HIx 5) (dstw := rowS B p) (sem := B.gSem.sem) rfl) $$ [Hf HO Hm]
  · isplitl [Hf]; · iexact Hf
    isplitl [HO]; · iexact HO
    iapply (Transfers.MayWaits.elim (SemLoc.dma B.gSem.sem)) $$ Hm
  iintro ⟨⟨Hr, Ht, Hl⟩, Hs, HO⟩
  rw [wp_ret]; imodintro
  iapply HQ
  isplitl [Hl]; · iexists _; iexact Hl
  isplitl [Hi]; · iexact Hi
  isplitl [Hr]
  · unfold RowIs
    iexists (rowS B p).view.write (Elt F) fr (gatherPayload gathers_S100000x128_S128x128 ((tblAll B).view.read (Elt F) tblF)
      (rows ((listS B p).view.read (Elt F) fl) rfl hin')) Finset.univ
    isplitr
    · ipureintro; exact (View.read_write_univ _ _).trans (congrArg (gatherPayload _ _) hrows)
    · iexact Hr
  isplitl [Ht Htr]
  · iapply (pointsTo_split_subset (q := qt) (f := tblF) (S := Finset.univ) (Finset.subset_univ (tblAll B).view.set)).2
    isplitl [Ht] <;> iassumption
  isplitl [Hs]; · iexact Hs
  iexists (insert (SemLoc.dma B.gSem.sem, (default : HIx 5)) W')
  isplitr
  · ipureintro
    intro x hx
    rcases Finset.mem_insert.mp hx with h | h
    · right; rw [h]; rfl
    · exact hW x h
  · iexact HO

/-- The copy out of a row slot to window `w`. -/
theorem wp_rowsOut {p w : Nat} (hw : w < 320) {g : S128x128.Idx → Elt F .f32} {f₀ : Buf (Elt F) (B.out.view.loc (tid d i))}
    (hG : (outWin B w).view.read (Elt F) G = g)
    {o12 : Fin 3 → Nat} {o13 : Fin 2 → Nat} {o14 : Fin 1 → Nat}
    (e12 : o12 = ![p % 2, 0, 0]) (e13 : o13 = ![128 * w, 0]) (e14 : o14 = ![p % 2]) {h12 h13 h14 w1 w2 w3} {Q : PUnit → sProp 𝕄} :
    iprop(RowIs d i B p g ∗ semVal (tid d i, SemLoc.dma (sOut B p)) 0 ∗ Win d i B f₀ w) ⊢ iprop((OutFlight d i B G p w -∗ Q ⟨⟩)
      -∗ wpT (Prog.lift (.enqueueDma
          ((B.rowsBuf.slice (Rect.unit (s := S2x128x128) o12 S1x128x128.size h12) (fun _ => rfl)).squeeze S128x128 squeezes_S1x128x128_S128x128)
          (.here (B.out.slice (Rect.unit (s := S40960x128) o13 S128x128.size h13) (fun _ => rfl)))
          (.dma ((B.outSem.slice (Rect.unit (s := S2) o14 S1.size h14)).squeeze S_ squeezes_S1_S_).sem) w1 w2 w3)) Q) := by
  subst e12 e14
  obtain rfl : o13 = ![128 * (w % 320), 0] := by rw [e13, Nat.mod_eq_of_lt hw]
  unfold RowIs Win
  iintro ⟨⟨%f, %hf, Hr⟩, Hs, Hw⟩ HQ
  iapply (Transfers.wp_dmaLocal countersEmb 𝒱₀ (tid d i) none (src := rowS B p) (dst := outWin B w) (sm := .dma (sOut B p)) (default : HIx 5)
    (outWin B w).view.dmaCredit rfl (View.dmaCredit_pos _ (by decide)) (Finset.Subset.refl _)) $$ [Hr Hs Hw]
  · isplitl [Hr]; · iexact Hr
    isplitl [Hw]; · iexact Hw
    iexact Hs
  iintro Hf
  rw [wp_ret]; imodintro
  iapply HQ
  unfold OutFlight
  iapply (Transfers.Flight_mono countersEmb (tid d i) (D' := iprop(Win d i B G w ∗ RowAny d i B p)) ?_) $$ Hf
  have e : ((outWin B w).view.loc (tid d i) ↦[(outWin B w).view.set]{fullShare}
        (outWin B w).view.write (Elt F) f₀ ((rowS B p).view.read (Elt F) f) Finset.univ : sProp 𝕄) = Win d i B G w := by
    unfold Win
    refine pointsTo_congr fun x hx => ?_
    obtain ⟨y, -, rfl⟩ := Finset.mem_map.mp hx
    rw [View.write_emb_of_mem _ _ (Finset.mem_univ y), hf, ← hG, View.read_apply, cast_cast, cast_eq]
  unfold RowAny
  iintro ⟨Hw, Hr⟩
  isplitl [Hw]
  · iapply (Entails.of_eq e) $$ Hw
  · iexists _; iexact Hr

/-- The wait for it. -/
theorem wp_rowsWait {p w : Nat} (hw : w < 320) {o15 : Fin 3 → Nat} {o16 : Fin 2 → Nat} {o17 : Fin 1 → Nat}
    (e16 : o16 = ![128 * w, 0]) (e17 : o17 = ![p % 2])
    {h15 h16 h17 w1 w2} {Q : PUnit → sProp 𝕄} :
    iprop(OutFlight d i B G p w ∗ Owes d i O W ∗ Transfers.MayWaits (tid d i) (default : HIx 5) O)
      ⊢ iprop((iprop(Win d i B G w ∗ OutFree d i B p ∗ Owes d i O W) -∗ Q ⟨⟩)
      -∗ wpT (Prog.lift (.waitDma2 ((B.outSem.slice (Rect.unit (s := S2) o17 S1.size h17)).squeeze S_ squeezes_S1_S_).sem
          ((B.rowsBuf.slice (Rect.unit (s := S2x128x128) o15 S1x128x128.size h15) (fun _ => rfl)).squeeze S128x128 squeezes_S1x128x128_S128x128)
          (B.out.slice (Rect.unit (s := S40960x128) o16 S128x128.size h16) (fun _ => rfl)) w1 w2)) Q) := by
  subst e17
  obtain rfl : o16 = ![128 * (w % 320), 0] := by rw [e16, Nat.mod_eq_of_lt hw]
  unfold OutFlight Owes
  iintro ⟨Hf, ⟨%W', %hW, HO⟩, Hm⟩ HQ
  iapply (Transfers.wp_waitLocalO countersEmb 𝒱₀ (tid d i) none (default : HIx 5) (dstw := outWin B w) rfl) $$ [Hf HO Hm]
  · isplitl [Hf]; · iexact Hf
    isplitl [HO]; · iexact HO
    iapply (Transfers.MayWaits.elim (SemLoc.dma (sOut B p))) $$ Hm
  iintro ⟨⟨Hw, Hr⟩, Hs, HO⟩
  rw [wp_ret]; imodintro
  iapply HQ
  isplitl [Hw]; · iexact Hw
  isplitl [Hr Hs]
  · unfold OutFree
    isplitl [Hr] <;> iassumption
  iexists (insert (SemLoc.dma (sOut B p), (default : HIx 5)) W')
  isplitr
  · ipureintro
    intro x hx
    rcases Finset.mem_insert.mp hx with h | h
    · right; rw [h]; rfl
    · exact hW x h
  · iexact HO

end Cert.KernelIdeal.Tile
-- ==== Proof.TileRun.lean ====
module

public import proofs.«01_k».proof.Proof.TileStep

/-! A tile's run: from its ten windows of the output at any contents to the ten windows holding the rows the index array
    names. -/

@[expose] public section

noncomputable section

namespace Cert.KernelIdeal.Tile

open Cert.KernelIdeal.Gen
open Idealize.ShloMosaic
open Idealize.ShloMosaic.SparseCore (S V T gatherPayload rows)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => M5 F

variable (d : Dev nD) (i : grid0.Coords) (B : Bufs)
variable (q qt : PosShare TreeShare) (idsF : Buf (Elt F) (B.ids.view.loc (tid d i))) (tblF : Buf (Elt F) (B.tbl.view.loc (tid d i)))
  (f₀ G : Buf (Elt F) (B.out.view.loc (tid d i))) (O : CellTallies nD τ sig (HIx 5)) (W : Waits sig (HIx 5))

local notation "wpT" => wp frame (wpE (defs₀ (F := F)) 𝒱₀ (tid d i) none) Set.univ

/-! ## A slot is named by its parity -/

theorem inS_congr {p p' : Nat} (h : p % 2 = p' % 2) : inS B p = inS B p' := by
  have X : ∀ (o o' : Fin 3 → Nat) (hb : ∀ j, o j + S1x1x128.size j ≤ S2x1x128.size j)
      (hb' : ∀ j, o' j + S1x1x128.size j ≤ S2x1x128.size j), o = o' →
      (B.lists.slice (Rect.unit (s := S2x1x128) o S1x1x128.size hb) (fun _ => rfl)).squeeze S1x128 squeezes_S1x1x128_S1x128
        = (B.lists.slice (Rect.unit (s := S2x1x128) o' S1x1x128.size hb') (fun _ => rfl)).squeeze S1x128 squeezes_S1x1x128_S1x128 := by
    intro o o' _ _ e; subst e; rfl
  exact X _ _ _ _ (by rw [h])
theorem sIn_congr {p p' : Nat} (h : p % 2 = p' % 2) : sIn B p = sIn B p' := by
  have X : ∀ (o o' : Fin 1 → Nat) (hb : ∀ j, o j + S1.size j ≤ S2.size j) (hb' : ∀ j, o' j + S1.size j ≤ S2.size j), o = o' →
      ((B.inSem.slice (Rect.unit (s := S2) o S1.size hb)).squeeze S_ squeezes_S1_S_).sem
        = ((B.inSem.slice (Rect.unit (s := S2) o' S1.size hb')).squeeze S_ squeezes_S1_S_).sem := by
    intro o o' _ _ e; subst e; rfl
  exact X _ _ _ _ (by rw [h])
theorem rowS_congr {p p' : Nat} (h : p % 2 = p' % 2) : rowS B p = rowS B p' := by
  have X : ∀ (o o' : Fin 3 → Nat) (hb : ∀ j, o j + S1x128x128.size j ≤ S2x128x128.size j)
      (hb' : ∀ j, o' j + S1x128x128.size j ≤ S2x128x128.size j), o = o' →
      (B.rowsBuf.slice (Rect.unit (s := S2x128x128) o S1x128x128.size hb) (fun _ => rfl)).squeeze S128x128 squeezes_S1x128x128_S128x128
        = (B.rowsBuf.slice (Rect.unit (s := S2x128x128) o' S1x128x128.size hb') (fun _ => rfl)).squeeze S128x128 squeezes_S1x128x128_S128x128 := by
    intro o o' _ _ e; subst e; rfl
  exact X _ _ _ _ (by rw [h])
theorem sOut_congr {p p' : Nat} (h : p % 2 = p' % 2) : sOut B p = sOut B p' := by
  have X : ∀ (o o' : Fin 1 → Nat) (hb : ∀ j, o j + S1.size j ≤ S2.size j) (hb' : ∀ j, o' j + S1.size j ≤ S2.size j), o = o' →
      ((B.outSem.slice (Rect.unit (s := S2) o S1.size hb)).squeeze S_ squeezes_S1_S_).sem
        = ((B.outSem.slice (Rect.unit (s := S2) o' S1.size hb')).squeeze S_ squeezes_S1_S_).sem := by
    intro o o' _ _ e; subst e; rfl
  exact X _ _ _ _ (by rw [h])
theorem half_congr {p p' : Nat} (h : p % 2 = p' % 2) : half q p = half q p' := by unfold half; rw [h]

theorem InFree_congr {p p' : Nat} (h : p % 2 = p' % 2) : InFree d i B q idsF p = InFree d i B q idsF p' := by
  let X (m : Memref sig .scVector .vmem S1x128 .i32) (s : DmaSem sig) (q' : PosShare TreeShare) : sProp 𝕄 :=
    iprop((∃ f, m.view.loc (tid d i) ↦[m.view.set]{fullShare} f) ∗ semVal (tid d i, SemLoc.dma s) 0 ∗ (B.ids.view.loc (tid d i) ↦{q'} idsF))
  show X (inS B p) (sIn B p) (half q p) = X (inS B p') (sIn B p') (half q p')
  rw [inS_congr B h, sIn_congr B h, half_congr q h]

theorem OutFree_congr {p p' : Nat} (h : p % 2 = p' % 2) : (OutFree d i B p : sProp 𝕄) = OutFree d i B p' := by
  let X (m : Memref sig .scVector .vmem S128x128 .f32) (s : DmaSem sig) : sProp 𝕄 :=
    iprop((∃ f, m.view.loc (tid d i) ↦[m.view.set]{fullShare} f) ∗ semVal (tid d i, SemLoc.dma s) 0)
  show X (rowS B p) (sOut B p) = X (rowS B p') (sOut B p')
  rw [rowS_congr B h, sOut_congr B h]

/-! ## The loop's invariant -/

/-- The first index row and the first output window of the tile: call `k`'s lists start at row `320 k`. -/
def row0 (k : Fin 5) (i : grid0.Coords) : Nat := 320 * k.val + 10 * wid i
def win0 (i : grid0.Coords) : Nat := 10 * wid i

theorem row0_lt (k : Fin 5) : row0 k i + 9 < 1600 := by have := wid_lt i; unfold row0; omega
theorem win0_lt : win0 i + 9 < 320 := by have := wid_lt i; unfold win0; omega

variable (k : Fin 5)

/-- The slot of this trip's list: the list on its way, while there is one. -/
def inCur (t : Nat) : sProp 𝕄 :=
  if t < 10 then InFlight d i B q idsF t (row0 k i + t) else InFree d i B q idsF t

/-- The other row slot: free at first, later on its way to the window before. -/
def outPrev (t : Nat) : sProp 𝕄 :=
  if t = 0 then OutFree d i B (t + 1) else OutFlight d i B G (t - 1) (win0 i + (t - 1))

/-- The windows written, and those to come. -/
def done (n : Nat) : sProp 𝕄 := bigSep (Finset.range n) fun w => Win d i B G (win0 i + w)
def todo (n : Nat) : sProp 𝕄 := bigSep (Finset.Ico n 10) fun w => Win d i B f₀ (win0 i + w)

/-- What holds before trip `t`. -/
def Inv (t : Nat) (acc : BitVec 32 × BitVec 32 × BitVec 32 × BitVec 32 × BitVec 32) : sProp 𝕄 :=
  iprop(⌜acc = carried t⌝ ∗ Owes d i O W ∗ (B.tbl.view.loc (tid d i) ↦{qt} tblF) ∗ semVal (tid d i, SemLoc.dma B.gSem.sem) 0
    ∗ inCur d i B q idsF k t ∗ InFree d i B q idsF (t + 1) ∗ outPrev d i B G t ∗ OutFree d i B t
    ∗ done d i B G (t - 1) ∗ todo d i B f₀ t ∗ Transfers.MayWaits (tid d i) (default : HIx 5) O)

theorem todo_step {t : Nat} (ht : t < 10) : (todo d i B f₀ t : sProp 𝕄) = iprop(Win d i B f₀ (win0 i + t) ∗ todo d i B f₀ (t + 1)) := by
  unfold todo
  rw [← Finset.insert_Ico_succ_left_eq_Ico ht]
  exact SparseCore.bigSep_insert' (by simp)

theorem done_step (n : Nat) : (done d i B G (n + 1) : sProp 𝕄) = iprop(Win d i B G (win0 i + n) ∗ done d i B G n) := by
  unfold done
  rw [Finset.range_add_one]
  exact SparseCore.bigSep_insert' (by simp)

/-- What a tile sends to the window of trip `t`: the table's rows named by the row of the index array it brought in. -/
def sent (hin : ∀ t < 10, ∀ x, (asList ((idRow B (row0 k i + t)).view.read (Elt F) idsF) x).toNat < S100000x128.size gathers_S100000x128_S128x128.axis)
    (t : Nat) (ht : t < 10) : S128x128.Idx → Elt F .f32 :=
  gatherPayload gathers_S100000x128_S128x128 ((tblAll B).view.read (Elt F) tblF) (rows (asList ((idRow B (row0 k i + t)).view.read (Elt F) idsF)) rfl (hin t ht))

/-- What the first part of a trip leaves for the rest. -/
def leaves (o : BitVec 32) (t : Fin k0_t1_loop.trips) (v4 arg6 arg7 arg8 arg9 arg10 : BitVec 32) (hw3 : k0_chk3 arg7) (hw2 : k0_chk2 arg8)
    (hw1 : tripOk o i t arg6 arg7 arg8 arg9 arg10) :
    Σ' (hw3 : k0_chk3 arg7) (hw2 : k0_chk2 arg8) (hw1 : tripOk o i t arg6 arg7 arg8 arg9 arg10) (arg5 : BitVec 32) (v65 : BitVec 1) (v66 : BitVec 1) (v67 : BitVec 32) (v72 : BitVec 32) (v77 : BitVec 32) (v83 : BitVec 32) (v84 : BitVec 32) (v94 : BitVec 32) (v95 : BitVec 1), BitVec 1 :=
  let n := Scf.iv 0#32 1#32 t
  ⟨hw3, hw2, hw1, n, Scalar.cmpi .eq n 0#32, Scalar.cmpi .eq n 9#32, Scalar.addi arg10 v4, Scalar.addi (prev arg10) v4, Scalar.addi (next arg10) v4,
    Scalar.addi (Scalar.addi arg10 v4) o, Scalar.addi (Scalar.addi (next arg10) v4) o,
    Scalar.select (Scalar.andi (Scalar.andi (Scalar.cmpi .ne (Scalar.addi (Scalar.addi arg10 v4) o) (Scalar.addi (Scalar.addi (next arg10) v4) o))
      (Scalar.xori (Scalar.cmpi .sge n 9#32) 1#1)) 1#1) (Scalar.addi arg6 1#32) arg6,
    Scalar.cmpi .ne (Scalar.addi arg10 v4) (Scalar.addi (next arg10) v4), Scalar.cmpi .sge n 9#32⟩

variable {d i B q idsF k}

/-- The first part of a trip: the next list is on its way, where there is one. -/
theorem wp_tripA (t : Fin k0_t1_loop.trips) {Q : (Σ' (hw3 : k0_chk3 (a7 t.val)) (hw2 : k0_chk2 (a8 t.val)) (hw1 : tripOk (base k) i t (a6 t.val) (a7 t.val) (a8 t.val) (a9 t.val) (a10 t.val)) (arg5 : BitVec 32) (v65 : BitVec 1) (v66 : BitVec 1) (v67 : BitVec 32) (v72 : BitVec 32) (v77 : BitVec 32) (v83 : BitVec 32) (v84 : BitVec 32) (v94 : BitVec 32) (v95 : BitVec 1), BitVec 1) → sProp 𝕄} :
    InFree d i B q idsF (t.val + 1) ⊢ iprop((inCur d i B q idsF k (t.val + 1)
        -∗ Q (leaves i (base k) t (ten i) (a6 t.val) (a7 t.val) (a8 t.val) (a9 t.val) (a10 t.val) (chk3_at t) (chk2_at t) (tripOk_at k i t)))
      -∗ wpT (tripA (base k) i B.tbl B.ids B.out B.lists B.inSem B.rowsBuf B.outSem B.gSem (ten i) 0#32 1#32 t (a6 t.val) (a7 t.val) (a8 t.val) (a9 t.val) (a10 t.val)) Q) := by
  have hr := row0_lt i k
  simp only [leaves, prev, next]
  iintro Hf HQ
  unfold tripA
  rw [wp_bind]
  iapply (wp_check (chk3_at t))
  rw [wp_bind]
  iapply (wp_check (chk2_at t))
  rw [wp_bind]
  iapply (wp_check (tripOk_at k i t))
  by_cases h9 : t.val < 9
  · have c1 : cond1 (base k) i t (a10 t.val) = 1#1 := by rw [cond1_at, if_pos h9]
    simp only [dif_pos c1]
    rw [wp_bind]
    iapply (wp_listIn (r := row0 k i + (t.val + 1)) (by omega) ((off5_at k i t h9).trans (by unfold row0; rfl)) (off4_at t h9) (off6_at t h9)) $$ Hf
    iintro Hf
    iapply (wp_pure' _ _)
    iapply HQ
    unfold inCur
    rw [if_pos (by omega)]
    iexact Hf
  · have c1 : ¬ cond1 (base k) i t (a10 t.val) = 1#1 := by rw [cond1_at, if_neg h9]; decide
    simp only [dif_neg c1]
    iapply (wp_pure' _ _)
    iapply HQ
    unfold inCur
    rw [if_neg (by omega)]
    iexact Hf

variable (d i B q idsF k)

set_option maxRecDepth 65536 in
/-- One trip. -/
theorem wp_trip (hin : ∀ t < 10, ∀ x, (asList ((idRow B (row0 k i + t)).view.read (Elt F) idsF) x).toNat < S100000x128.size gathers_S100000x128_S128x128.axis)
    (hcr : ∀ p, ∑ j, ((rowS B p).slice (S128x128.rowRect gathers_S100000x128_S128x128.axis' j) (S128x128.stride_rowRect gathers_S100000x128_S128x128.axis' j)).view.dmaCredit
      = (rowS B p).view.dmaCredit)
    (hG : ∀ t (ht : t < 10), (outWin B (win0 i + t)).view.read (Elt F) G = sent d i B idsF tblF k hin t ht)
    (t : Fin k0_t1_loop.trips) (acc) :
    Inv d i B q qt idsF tblF f₀ G O W k t.val acc ⊢ wpT (trip (base k) i B.tbl B.ids B.out B.lists B.inSem B.rowsBuf B.outSem B.gSem (ten i) t acc)
      (Inv d i B q qt idsF tblF f₀ G O W k (t.val + 1)) := by
  have ht : t.val < 10 := lt_of_lt_of_eq t.isLt trips_eq
  have hr := row0_lt i k
  have hw := win0_lt i
  have hout : OutFlight d i B G t.val (win0 i + t.val) = outPrev d i B G (t.val + 1) := (if_neg (by omega)).symm
  have hcur : inCur d i B q idsF k t.val = InFlight d i B q idsF t.val (row0 k i + t.val) := if_pos ht
  unfold Inv
  rw [hcur, todo_step d i B f₀ ht]
  iintro ⟨%hacc, HO, Ht, Hg, Hcur, Hnext, Hprev, Hout, Hdone, ⟨Hw, Htodo⟩, #Hm⟩
  subst hacc
  rw [show carried t.val = (a6 t.val, a7 t.val, a8 t.val, a9 t.val, a10 t.val) from rfl]
  unfold trip
  rw [wp_bind]
  iapply (wp_tripA t) $$ Hnext
  iintro Hnext
  unfold leaves tripB
  simp only [dif_pos (cond2_at k i t), dif_pos (cond5_at i t), ite_self]
  have last : ∀ {x : BitVec 32 × BitVec 32 × BitVec 32 × BitVec 32 × BitVec 32}, x = carried (t.val + 1) →
      iprop(Owes d i O W ∗ (B.tbl.view.loc (tid d i) ↦{qt} tblF) ∗ semVal (tid d i, SemLoc.dma B.gSem.sem) 0
        ∗ inCur d i B q idsF k (t.val + 1) ∗ InFree d i B q idsF t.val ∗ outPrev d i B G (t.val + 1) ∗ OutFree d i B (t.val + 1)
        ∗ done d i B G t.val ∗ todo d i B f₀ (t.val + 1) ∗ Transfers.MayWaits (tid d i) (default : HIx 5) O)
      ⊢ wpT (pure x : Prog (TpuEff nD τ sig (Elt F) Λ₀ (tid d i).2) _) (Inv d i B q qt idsF tblF f₀ G O W k (t.val + 1)) := by
    intro x hx
    iintro H
    iapply (wp_pure' _ _)
    unfold Inv
    isplitr; · ipureintro; exact hx
    rw [InFree_congr d i B q idsF (show (t.val + 1 + 1) % 2 = t.val % 2 by omega), Nat.add_sub_cancel]
    iexact H
  simp only [wp_bind]
  iapply (wp_listWait (off7_at t) (off9_at t)) $$ [Hcur HO]
  · isplitl [Hcur]; · iexact Hcur
    isplitl [HO]; · iexact HO
    iexact Hm
  iintro ⟨Hfull, Hsem, HO⟩
  unfold OutFree
  icases Hout with ⟨Hrow, Hosem⟩
  iapply (wp_gather (off10_at t) (off10_at t) (off11_at t) (hin t.val ht) (hcr t.val)) $$ [Hfull Hrow Ht Hg HO]
  · isplitl [Hfull]; · iexact Hfull
    isplitl [Hrow]; · iexact Hrow
    isplitl [Ht]; · iexact Ht
    isplitl [Hg]; · iexact Hg
    isplitl [HO]; · iexact HO
    iexact Hm
  iintro ⟨Hl, Hi, Hrow, Ht, Hg, HO⟩
  iapply (wp_pure' _ _)
  iapply (wp_rowsOut (w := win0 i + t.val) (by omega) (hG t.val ht) (off12_at t) (off13_at i t) (off14_at t)) $$ [Hrow Hosem Hw]
  · isplitl [Hrow]; · iexact Hrow
    isplitl [Hosem]; · iexact Hosem
    iexact Hw
  iintro Hfl
  by_cases h0 : t.val = 0
  · have c7 : ¬ k0_cond7 i t (a10 t.val) = 1#1 := by rw [cond7_at, if_neg (by omega)]; decide
    have hprev : outPrev d i B G t.val = OutFree d i B (t.val + 1) := if_pos h0
    simp only [dif_neg c7]
    iapply (last (nx_at k i t))
    isplitl [HO]; · iexact HO
    isplitl [Ht]; · iexact Ht
    isplitl [Hg]; · iexact Hg
    isplitl [Hnext]; · iexact Hnext
    isplitl [Hl Hsem Hi]
    · unfold InFree
      isplitl [Hl]; · iexact Hl
      isplitl [Hsem]; · iexact Hsem
      iexact Hi
    isplitl [Hfl]; · iapply (Entails.of_eq hout) $$ Hfl
    isplitl [Hprev]; · iapply (Entails.of_eq hprev) $$ Hprev
    isplitl [Hdone]; · iapply (Entails.of_eq (by rw [h0])) $$ Hdone
    isplitl [Htodo]; · iexact Htodo
    iexact Hm
  · have c7 : k0_cond7 i t (a10 t.val) = 1#1 := by rw [cond7_at, if_pos (by omega)]
    have hprev : outPrev d i B G t.val = OutFlight d i B G (t.val - 1) (win0 i + (t.val - 1)) := if_neg h0
    have hdone : done d i B G t.val = iprop(Win d i B G (win0 i + (t.val - 1)) ∗ done d i B G (t.val - 1)) := by
      rw [← done_step d i B G (t.val - 1), Nat.sub_add_cancel (by omega)]
    simp only [dif_pos c7]
    simp only [wp_bind]
    ihave Hprev := (Entails.of_eq hprev) $$ Hprev
    iapply (wp_rowsWait (w := win0 i + (t.val - 1)) (by omega) (off16_at i t (by omega)) (off17_at t (by omega))) $$ [Hprev HO]
    · isplitl [Hprev]; · iexact Hprev
      isplitl [HO]; · iexact HO
      iexact Hm
    iintro ⟨Hw, Hout, HO⟩
    iapply (last (nx_at k i t))
    isplitl [HO]; · iexact HO
    isplitl [Ht]; · iexact Ht
    isplitl [Hg]; · iexact Hg
    isplitl [Hnext]; · iexact Hnext
    isplitl [Hl Hsem Hi]
    · unfold InFree
      isplitl [Hl]; · iexact Hl
      isplitl [Hsem]; · iexact Hsem
      iexact Hi
    isplitl [Hfl]; · iapply (Entails.of_eq hout) $$ Hfl
    isplitl [Hout]; · iapply (Entails.of_eq (OutFree_congr d i B (show (t.val - 1) % 2 = (t.val + 1) % 2 by omega))) $$ Hout
    isplitl [Hw Hdone]
    · iapply (Entails.of_eq hdone.symm)
      isplitl [Hw] <;> iassumption
    isplitl [Htodo]; · iexact Htodo
    iexact Hm

set_option maxRecDepth 65536 in
/-- A tile's whole run: from its ten windows at any contents to the ten windows at `G`, with all it was lent back as it was. -/
theorem wp_tileRun (hin : ∀ t < 10, ∀ x, (asList ((idRow B (row0 k i + t)).view.read (Elt F) idsF) x).toNat < S100000x128.size gathers_S100000x128_S128x128.axis)
    (hcr : ∀ p, ∑ j, ((rowS B p).slice (S128x128.rowRect gathers_S100000x128_S128x128.axis' j) (S128x128.stride_rowRect gathers_S100000x128_S128x128.axis' j)).view.dmaCredit
      = (rowS B p).view.dmaCredit)
    (hG : ∀ t (ht : t < 10), (outWin B (win0 i + t)).view.read (Elt F) G = sent d i B idsF tblF k hin t ht) (ho) {Q : PUnit → sProp 𝕄} :
    iprop(Owes d i O W ∗ (B.tbl.view.loc (tid d i) ↦{qt} tblF) ∗ semVal (tid d i, SemLoc.dma B.gSem.sem) 0
        ∗ InFree d i B q idsF 0 ∗ InFree d i B q idsF 1 ∗ OutFree d i B 0 ∗ OutFree d i B 1 ∗ todo d i B f₀ 0
        ∗ Transfers.MayWaits (tid d i) (default : HIx 5) O)
      ⊢ iprop((iprop(Owes d i O W ∗ (B.tbl.view.loc (tid d i) ↦{qt} tblF) ∗ semVal (tid d i, SemLoc.dma B.gSem.sem) 0
        ∗ InFree d i B q idsF 0 ∗ InFree d i B q idsF 1 ∗ OutFree d i B 0 ∗ OutFree d i B 1 ∗ done d i B G 10) -∗ Q ⟨⟩)
      -∗ wpT (tileRun (base k) i ho B.tbl B.ids B.out B.lists B.inSem B.rowsBuf B.outSem B.gSem) Q) := by
  have hr := row0_lt i k
  have hw := win0_lt i
  have hend : ∀ acc, Inv d i B q qt idsF tblF f₀ G O W k k0_t1_loop.trips acc
      ⊢ iprop(⌜acc = carried 10⌝ ∗ Owes d i O W ∗ (B.tbl.view.loc (tid d i) ↦{qt} tblF) ∗ semVal (tid d i, SemLoc.dma B.gSem.sem) 0
        ∗ InFree d i B q idsF 0 ∗ InFree d i B q idsF 1 ∗ OutFlight d i B G 9 (win0 i + 9) ∗ OutFree d i B 0 ∗ done d i B G 9) := by
    intro acc
    have h1 : inCur d i B q idsF k 10 = InFree d i B q idsF 0 := (if_neg (by omega)).trans (InFree_congr d i B q idsF (by omega))
    have h2 : outPrev d i B G 10 = OutFlight d i B G 9 (win0 i + 9) := if_neg (by omega)
    rw [trips_eq]
    unfold Inv
    rw [h1, h2, InFree_congr d i B q idsF (show (10 + 1) % 2 = 1 % 2 by omega), OutFree_congr d i B (show 10 % 2 = 0 % 2 by omega)]
    iintro ⟨%h, HO, Ht, Hg, Hi0, Hi1, Hf, Ho, Hd, -, -⟩
    isplitr; · ipureintro; exact h
    isplitl [HO]; · iexact HO
    isplitl [Ht]; · iexact Ht
    isplitl [Hg]; · iexact Hg
    isplitl [Hi0]; · iexact Hi0
    isplitl [Hi1]; · iexact Hi1
    isplitl [Hf]; · iexact Hf
    isplitl [Ho]; · iexact Ho
    iexact Hd
  iintro ⟨HO, Ht, Hg, Hi0, Hi1, Ho0, Ho1, Htodo, #Hm⟩ HQ
  unfold tileRun
  simp only [wp_bind]
  iapply (wp_pure' _ _)
  unfold loopPart
  simp only [wp_bind]
  iapply (wp_listIn (p := 0) (r := row0 k i + 0) (by omega) ((off2_at k i).trans (by unfold row0; rfl)) off1_at off3_at) $$ Hi0
  iintro Hi0
  iapply (Scf.wp_for (I := Inv d i B q qt idsF tblF f₀ G O W k) (hbody := wp_trip d i B q qt idsF tblF f₀ G O W k hin hcr hG))
  isplitr [HQ]
  · unfold Inv
    isplitr; · ipureintro; rfl
    isplitl [HO]; · iexact HO
    isplitl [Ht]; · iexact Ht
    isplitl [Hg]; · iexact Hg
    isplitl [Hi0]; · iapply (Entails.of_eq (show InFlight d i B q idsF 0 (row0 k i + 0) = inCur d i B q idsF k 0 from (if_pos (by omega)).symm)) $$ Hi0
    isplitl [Hi1]; · iexact Hi1
    isplitl [Ho1]; · iapply (Entails.of_eq (show OutFree d i B 1 = outPrev d i B G 0 from (if_pos rfl).symm)) $$ Ho1
    isplitl [Ho0]; · iexact Ho0
    isplitr; · iapply (Entails.of_eq (show iprop(emp) = done d i B G (0 - 1) from bigSep_empty.symm)); iempintro
    isplitl [Htodo]; · iexact Htodo
    iexact Hm
  iintro %acc HI
  ihave HI := hend acc $$ HI
  icases HI with ⟨%hacc, HO, Ht, Hg, Hi0, Hi1, Hf, Ho0, Hd⟩
  subst hacc
  rw [show carried 10 = (a6 10, a7 10, a8 10, a9 10, a10 10) from rfl]
  simp only [wp_bind]
  iapply (wp_check (chk5_at i))
  iapply (wp_check chk4_at)
  iapply (wp_pure' _ _)
  iapply (wp_rowsWait (p := 9) (w := win0 i + 9) (by omega) (off19_at i) off20_at) $$ [Hf HO]
  · isplitl [Hf]; · iexact Hf
    isplitl [HO]; · iexact HO
    iexact Hm
  iintro ⟨Hw, Ho1, HO⟩
  iapply (wp_pure' _ _)
  iapply HQ
  isplitl [HO]; · iexact HO
  isplitl [Ht]; · iexact Ht
  isplitl [Hg]; · iexact Hg
  isplitl [Hi0]; · iexact Hi0
  isplitl [Hi1]; · iexact Hi1
  isplitl [Ho0]; · iexact Ho0
  isplitl [Ho1]; · iapply (Entails.of_eq (OutFree_congr d i B (show 9 % 2 = 1 % 2 by omega))) $$ Ho1
  iapply (Entails.of_eq (done_step d i B G 9).symm)
  isplitl [Hw] <;> iassumption

end Cert.KernelIdeal.Tile
-- ==== Proof.TileWhole.lean ====
module

public import proofs.«01_k».proof.Proof.TileRun

/-! A tile's run over its whole scratch buffers, and the rows it gathers as a function of the table and the index array. -/

@[expose] public section

noncomputable section

namespace Cert.KernelIdeal.Tile

open Cert.KernelIdeal.Gen
open Idealize.ShloMosaic
open Idealize.ShloMosaic.SparseCore (S V T gatherPayload rows)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## The gathered rows -/

/-- Entry `c` of row `r` of the table, -/
def tblIx (r : Nat) (c : Fin 128) : S100000x128.Idx :=
  fun | 0 => ⟨r % 100000, Nat.mod_lt _ (by decide)⟩ | 1 => c | ⟨_ + 2, h⟩ => absurd h (Nat.not_lt.2 (Nat.le_add_left _ _))
/-- and word `c` of row `r` of the index array. -/
def idIx (r c : Nat) : S1600x128.Idx :=
  fun | 0 => ⟨r % 1600, Nat.mod_lt _ (by decide)⟩ | 1 => ⟨c % 128, Nat.mod_lt _ (by decide)⟩ | ⟨_ + 2, h⟩ => absurd h (Nat.not_lt.2 (Nat.le_add_left _ _))

/-- What call `k` gathers: row `j` is the table's row that word `j % 128` of row `320 k + j / 128` of the index array names. -/
def gath {α : Type} (Tb : S100000x128.Idx → α) (I : S1600x128.Idx → BitVec 32) (k : Fin 5) : S40960x128.Idx → α :=
  fun j => Tb (tblIx (I (idIx (320 * k.val + (j 0).val / 128) ((j 0).val % 128))).toNat (j 1))

/-- Word `n` of a list held as one row. -/
def oneIx (n : Fin 128) : S1x128.Idx :=
  fun | 0 => ⟨0, Nat.one_pos⟩ | 1 => n | ⟨_ + 2, h⟩ => absurd h (Nat.not_lt.2 (Nat.le_add_left _ _))

theorem asList_at {α : Type} (g : S1x128.Idx → α) (n : Fin 128) :
    asList g (S128.rowMajor.symm n) = g (oneIx n) := by
  have h : ∀ n : Fin 128, ∀ a : Fin 2, ((Rect.unit (s := S1x128) ![0, 0] S1x128.size inb_S1x128_S1x128_0_0).emb
      (Shape.reshapeEquiv squeezes_S1x128_S128.numel_eq (S128.rowMajor.symm n)) a).val = (![0, n.val] : Fin 2 → Nat) a := by decide +kernel
  unfold asList
  congr 1
  funext a
  apply Fin.ext
  refine (h n a).trans ?_
  match a with
  | 0 => rfl
  | 1 => rfl

variable {F : FTy → Type} [FloatOps F]

local notation "𝕄" => M5 F

section Values

variable {d : Dev nD} {i : grid0.Coords} {B : Bufs} {idsF : Buf (Elt F) (B.ids.view.loc (tid d i))} {tblF : Buf (Elt F) (B.tbl.view.loc (tid d i))}
  {Tb : S100000x128.Idx → Elt F .f32} {I : S1600x128.Idx → BitVec 32} {k : Fin 5}

theorem idRow_read (hI : B.ids.view.read (Elt F) idsF = I) (r : Nat) (x : S1x128.Idx) :
    (idRow B r).view.read (Elt F) idsF x = I (idIx r (x 1).val) := by
  rw [← hI]
  show B.ids.view.read (Elt F) idsF ((Rect.unit (s := S1600x128) ![r % 1600, 0] S1x128.size (inbI r)).emb x) = _
  congr 1
  funext a; apply Fin.ext
  match a with
  | 0 =>
    have h : (x 0).val < 1 := (x 0).isLt
    show r % 1600 + 1 * (x 0).val = r % 1600
    omega
  | 1 =>
    have h : (x 1).val < 128 := (x 1).isLt
    show 0 + 1 * (x 1).val = (x 1).val % 128
    omega

theorem tblAll_read (hT : B.tbl.view.read (Elt F) tblF = Tb) (x : S100000x128.Idx) :
    (tblAll B).view.read (Elt F) tblF x = Tb x := by
  rw [← hT]
  show B.tbl.view.read (Elt F) tblF ((Rect.unit (s := S100000x128) ![0, 0] S100000x128.size inb_S100000x128_S100000x128_0_0).emb x) = _
  congr 1
  funext a; apply Fin.ext
  match a with
  | 0 => show 0 + 1 * (x 0).val = (x 0).val; omega
  | 1 => show 0 + 1 * (x 1).val = (x 1).val; omega

/-- The words of a list are in range, where the index array's are. -/
theorem list_inb (hI : B.ids.view.read (Elt F) idsF = I) (hlt : ∀ j, (I j).toNat < 100000) (r : Nat) (x : S128.Idx) :
    (asList ((idRow B r).view.read (Elt F) idsF) x).toNat < S100000x128.size gathers_S100000x128_S128x128.axis := by
  unfold asList
  rw [idRow_read hI]
  exact hlt _

/-- A window of the output that holds the gathered rows reads as what the tile sends to it. -/
theorem window_read (hI : B.ids.view.read (Elt F) idsF = I) (hT : B.tbl.view.read (Elt F) tblF = Tb) (hlt : ∀ j, (I j).toNat < 100000)
    (f : Buf (Elt F) (B.out.view.loc (tid d i))) (t : Nat) (ht : t < 10) :
    (outWin B (win0 i + t)).view.read (Elt F) (B.out.view.write (Elt F) f (gath Tb I k) Finset.univ)
      = sent d i B idsF tblF k (fun t _ => list_inb hI hlt (row0 k i + t)) t ht := by
  have hw := win0_lt i
  have hr := row0_lt i k
  funext x
  show B.out.view.read (Elt F) (B.out.view.write (Elt F) f (gath Tb I k) Finset.univ)
    ((Rect.unit (s := S40960x128) ![128 * ((win0 i + t) % 320), 0] S128x128.size (inbO (win0 i + t))).emb x) = _
  rw [View.read_write_univ]
  unfold sent gatherPayload gath
  rw [tblAll_read hT]
  have h0 : (x 0).val < 128 := (x 0).isLt
  have e0 : ((Rect.unit (s := S40960x128) ![128 * ((win0 i + t) % 320), 0] S128x128.size (inbO (win0 i + t))).emb x 0).val
      = 128 * (win0 i + t) + (x 0).val := by
    show 128 * ((win0 i + t) % 320) + 1 * (x 0).val = _
    rw [Nat.mod_eq_of_lt (by omega)]; omega
  have e1 : ((Rect.unit (s := S40960x128) ![128 * ((win0 i + t) % 320), 0] S128x128.size (inbO (win0 i + t))).emb x 1) = x 1 := by
    apply Fin.ext
    show 0 + 1 * (x 1).val = _
    omega
  congr 1
  rw [e0, e1]
  have hrow : 320 * k.val + (128 * (win0 i + t) + (x 0).val) / 128 = row0 k i + t := by unfold row0; unfold win0; omega
  have hcol : (128 * (win0 i + t) + (x 0).val) % 128 = (x 0).val := by omega
  rw [hrow, hcol]
  have hsrc : ((rows (F := F) (asList ((idRow B (row0 k i + t)).view.read (Elt F) idsF)) rfl (list_inb hI hlt (row0 k i + t))
      (x (gathers_S100000x128_S128x128.axis'))).val) = (I (idIx (row0 k i + t) (x 0).val)).toNat := by
    have hn : ∀ n : Fin 128, (asList ((idRow B (row0 k i + t)).view.read (Elt F) idsF) (S128.rowMajor.symm n)).toNat
        = (I (idIx (row0 k i + t) n.val)).toNat := fun n => by rw [asList_at, idRow_read hI]; rfl
    exact hn (x 0)
  funext a; apply Fin.ext
  match a with
  | 0 =>
    refine Eq.trans ?_ ((congrArg Fin.val (Shape.Gathers.idx_axis gathers_S100000x128_S128x128 _ x)).trans hsrc).symm
    show (I _).toNat % 100000 = _
    rw [Nat.mod_eq_of_lt (hlt _)]
  | 1 => rfl

end Values

end Cert.KernelIdeal.Tile
-- ==== Proof.TileBufs.lean ====
module

public import proofs.«01_k».proof.Proof.TileWhole

/-! A tile's run stated over its two scratch buffers and its share of the index array as they come: each buffer is its
    two slots. -/

@[expose] public section

noncomputable section

namespace Cert.KernelIdeal.Tile

open Cert.KernelIdeal.Gen
open Idealize.ShloMosaic
open Idealize.ShloMosaic.SparseCore (S V T gatherPayload rows)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => M5 F

/-! ## A buffer of two slots -/

section Slots
variable {ℓ : Loc nD τ sig} {A C : Finset (Idx ℓ)}

theorem slots_split (hd : Disjoint A C) (hu : A ∪ C = Finset.univ) :
    (iprop(∃ f, ℓ ↦{fullShare} f) : sProp 𝕄) ⊢ iprop((∃ f, ℓ ↦[A]{fullShare} f) ∗ ∃ f, ℓ ↦[C]{fullShare} f) := by
  have hC : Finset.univ \ A = C := by rw [← hu, Finset.union_sdiff_left]; exact Finset.sdiff_eq_self_of_disjoint hd.symm
  iintro ⟨%f, H⟩
  ihave H := (pointsTo_split_subset (q := fullShare) (f := f) (Finset.subset_univ A)).1 $$ H
  icases H with ⟨HA, HC⟩
  isplitl [HA]; · iexists f; iexact HA
  iexists f
  iapply (Entails.of_eq (by rw [hC])) $$ HC

theorem slots_join (hd : Disjoint A C) (hu : A ∪ C = Finset.univ) :
    iprop((∃ f, ℓ ↦[A]{fullShare} f) ∗ ∃ f, ℓ ↦[C]{fullShare} f) ⊢ (iprop(∃ f, ℓ ↦{fullShare} f) : sProp 𝕄) := by
  have hC : Finset.univ \ A = C := by rw [← hu, Finset.union_sdiff_left]; exact Finset.sdiff_eq_self_of_disjoint hd.symm
  iintro ⟨⟨%f, HA⟩, %g, HC⟩
  ihave HA := (Entails.of_eq (pointsTo_congr (f := f) (g := fun x => if x ∈ A then f x else g x) (q := fullShare)
    fun x hx => (if_pos hx).symm)) $$ HA
  ihave HC := (Entails.of_eq (pointsTo_congr (f := g) (g := fun x => if x ∈ A then f x else g x) (q := fullShare)
    fun x hx => (if_neg fun h => Finset.disjoint_left.mp hd h hx).symm)) $$ HC
  ihave HC := (Entails.of_eq (show _ = (ℓ ↦[Finset.univ \ A]{fullShare} (fun x => if x ∈ A then f x else g x) : sProp 𝕄) by rw [hC])) $$ HC
  iexists (fun x => if x ∈ A then f x else g x)
  iapply (pointsTo_split_subset (q := fullShare) (f := fun x => if x ∈ A then f x else g x) (Finset.subset_univ A)).2 $$ [HA HC]
  isplitl [HA]; · iexact HA
  iexact HC

end Slots

theorem share_halves {ℓ : Loc nD τ sig} (q : PosShare TreeShare) (f : Buf (Elt F) ℓ) :
    (ℓ ↦{q} f : sProp 𝕄) = iprop((ℓ ↦{half q 0} f) ∗ ℓ ↦{half q 1} f) :=
  BI.Entails.antisymm (pointsTo_share (PosShare.mem_left_op_right q)).1 (pointsTo_share (PosShare.mem_left_op_right q)).2

/-- The two slots of the list buffer are apart and are all of it, -/
theorem inS_slots (B : Bufs) (hL : B.lists.view.set = Finset.univ) :
    Disjoint (inS B 0).view.set (inS B 1).view.set ∧ (inS B 0).view.set ∪ (inS B 1).view.set = Finset.univ := by
  have e : ∀ p, (inS B p).view.set = (Rect.unit (s := S2x1x128) ![p % 2, 0, 0] S1x1x128.size (inbL p)).set.map B.lists.view.emb := fun p => by
    show ((B.lists.view.slice _).reshape _ _).set = _
    rw [View.set_reshape, View.set_slice]
  rw [e, e]
  refine ⟨(Finset.disjoint_map _).mpr (by decide +kernel), ?_⟩
  rw [← Finset.map_union, ← hL, show (Rect.unit (s := S2x1x128) ![0 % 2, 0, 0] S1x1x128.size (inbL 0)).set ∪
    (Rect.unit (s := S2x1x128) ![1 % 2, 0, 0] S1x1x128.size (inbL 1)).set = Finset.univ from by decide +kernel]
  rfl

/-- and so of the row buffer. -/
theorem rowS_slots (B : Bufs) (hR : B.rowsBuf.view.set = Finset.univ) :
    Disjoint (rowS B 0).view.set (rowS B 1).view.set ∧ (rowS B 0).view.set ∪ (rowS B 1).view.set = Finset.univ := by
  have e : ∀ p, (rowS B p).view.set = (Rect.unit (s := S2x128x128) ![p % 2, 0, 0] S1x128x128.size (inbR p)).set.map B.rowsBuf.view.emb := fun p => by
    show ((B.rowsBuf.view.slice _).reshape _ _).set = _
    rw [View.set_reshape, View.set_slice]
  rw [e, e]
  constructor
  · refine (Finset.disjoint_map _).mpr (Finset.disjoint_left.mpr fun x h0 h1 => ?_)
    have a := (Rect.mem_set_unit.mp h0 0).2
    have b := (Rect.mem_set_unit.mp h1 0).1
    have a' : (x 0).val < 0 % 2 + 1 := a
    have b' : 1 % 2 ≤ (x 0).val := b
    omega
  · rw [← Finset.map_union, ← hR]
    refine congrArg (Finset.map _) (Finset.eq_univ_iff_forall.mpr fun x => ?_)
    have h0 : (x 0).val < 2 := (x 0).isLt
    have h1 : (x 1).val < 128 := (x 1).isLt
    have h2 : (x 2).val < 128 := (x 2).isLt
    rcases (show (x 0).val = 0 ∨ (x 0).val = 1 by omega) with h | h
    · refine Finset.mem_union_left _ (Rect.mem_set_unit.mpr fun a => ?_)
      match a with
      | 0 => show 0 % 2 ≤ (x 0).val ∧ (x 0).val < 0 % 2 + 1; omega
      | 1 => show 0 ≤ (x 1).val ∧ (x 1).val < 0 + 128; omega
      | 2 => show 0 ≤ (x 2).val ∧ (x 2).val < 0 + 128; omega
    · refine Finset.mem_union_right _ (Rect.mem_set_unit.mpr fun a => ?_)
      match a with
      | 0 => show 1 % 2 ≤ (x 0).val ∧ (x 0).val < 1 % 2 + 1; omega
      | 1 => show 0 ≤ (x 1).val ∧ (x 1).val < 0 + 128; omega
      | 2 => show 0 ≤ (x 2).val ∧ (x 2).val < 0 + 128; omega

/-! ## The run -/

variable [FloatOps F]
variable (d : Dev nD) (i : grid0.Coords) (B : Bufs)
variable (q qt : PosShare TreeShare) (idsF : Buf (Elt F) (B.ids.view.loc (tid d i))) (tblF : Buf (Elt F) (B.tbl.view.loc (tid d i)))
  (f₀ G : Buf (Elt F) (B.out.view.loc (tid d i))) (O : CellTallies nD τ sig (HIx 5)) (W : Waits sig (HIx 5)) (k : Fin 5)

/-- The buffers and semaphores a tile's run borrows: its scratch buffers at any contents, its semaphores at zero. -/
def Scratch : sProp 𝕄 :=
  iprop((∃ f, B.lists.view.loc (tid d i) ↦{fullShare} f) ∗ (∃ f, B.rowsBuf.view.loc (tid d i) ↦{fullShare} f)
    ∗ semVal (tid d i, SemLoc.dma (sIn B 0)) 0 ∗ semVal (tid d i, SemLoc.dma (sIn B 1)) 0
    ∗ semVal (tid d i, SemLoc.dma (sOut B 0)) 0 ∗ semVal (tid d i, SemLoc.dma (sOut B 1)) 0 ∗ semVal (tid d i, SemLoc.dma B.gSem.sem) 0)

/-- The run of a tile: its ten windows, at any contents, come to hold `G`. -/
theorem wp_tile (hL : B.lists.view.set = Finset.univ) (hR : B.rowsBuf.view.set = Finset.univ)
    (hin : ∀ t < 10, ∀ x, (asList ((idRow B (row0 k i + t)).view.read (Elt F) idsF) x).toNat < S100000x128.size gathers_S100000x128_S128x128.axis)
    (hcr : ∀ p, ∑ j, ((rowS B p).slice (S128x128.rowRect gathers_S100000x128_S128x128.axis' j) (S128x128.stride_rowRect gathers_S100000x128_S128x128.axis' j)).view.dmaCredit
      = (rowS B p).view.dmaCredit)
    (hG : ∀ t (ht : t < 10), (outWin B (win0 i + t)).view.read (Elt F) G = sent d i B idsF tblF k hin t ht) (ho) :
    iprop((B.ids.view.loc (tid d i) ↦{q} idsF) ∗ (B.tbl.view.loc (tid d i) ↦{qt} tblF) ∗ todo d i B f₀ 0
        ∗ Scratch d i B ∗ owes (tid d i) O W ∗ Transfers.MayWaits (tid d i) (default : HIx 5) O)
      ⊢ wp frame (wpE (defs₀ (F := F)) 𝒱₀ (tid d i) none) Set.univ
          (tileRun (base k) i ho B.tbl B.ids B.out B.lists B.inSem B.rowsBuf B.outSem B.gSem)
          fun _ => iprop(((B.ids.view.loc (tid d i) ↦{q} idsF) ∗ (B.tbl.view.loc (tid d i) ↦{qt} tblF) ∗ done d i B G 10)
            ∗ Scratch d i B ∗ Owes d i O W) := by
  obtain ⟨hdL, huL⟩ := inS_slots B hL
  obtain ⟨hdR, huR⟩ := rowS_slots B hR
  rw [share_halves q idsF]
  unfold Scratch
  iintro ⟨⟨Hi0, Hi1⟩, Ht, Htodo, ⟨HL, HR, Hs0, Hs1, Ho0, Ho1, Hg⟩, HO, Hm⟩
  ihave HL := (slots_split (F := F) hdL huL) $$ HL
  ihave HR := (slots_split (F := F) hdR huR) $$ HR
  icases HL with ⟨HL0, HL1⟩
  icases HR with ⟨HR0, HR1⟩
  iapply (wp_tileRun d i B q qt idsF tblF f₀ G O W k hin hcr hG ho) $$ [HO Ht Hg Hi0 Hs0 HL0 Hi1 Hs1 HL1 HR0 Ho0 HR1 Ho1 Htodo Hm]
  · unfold Owes InFree OutFree RowAny
    isplitl [HO]
    · iexists W
      isplitr; · ipureintro; exact fun p hp => .inl hp
      iexact HO
    isplitl [Ht]; · iexact Ht
    isplitl [Hg]; · iexact Hg
    isplitl [HL0 Hs0 Hi0]
    · isplitl [HL0]; · iexact HL0
      isplitl [Hs0]; · iexact Hs0
      iexact Hi0
    isplitl [HL1 Hs1 Hi1]
    · isplitl [HL1]; · iexact HL1
      isplitl [Hs1]; · iexact Hs1
      iexact Hi1
    isplitl [HR0 Ho0]
    · isplitl [HR0]; · iexact HR0
      iexact Ho0
    isplitl [HR1 Ho1]
    · isplitl [HR1]; · iexact HR1
      iexact Ho1
    isplitl [Htodo]; · iexact Htodo
    iexact Hm
  unfold InFree OutFree RowAny
  iintro ⟨HO, Ht, Hg, ⟨HL0, Hs0, Hi0⟩, ⟨HL1, Hs1, Hi1⟩, ⟨HR0, Ho0⟩, ⟨HR1, Ho1⟩, Hdone⟩
  isplitl [Hi0 Hi1 Ht Hdone]
  · isplitl [Hi0 Hi1]
    · isplitl [Hi0]; · iexact Hi0
      iexact Hi1
    isplitl [Ht]; · iexact Ht
    iexact Hdone
  isplitr [HO]
  · isplitl [HL0 HL1]
    · iapply (slots_join (F := F) hdL huL) $$ [HL0 HL1]
      isplitl [HL0]; · iexact HL0
      iexact HL1
    isplitl [HR0 HR1]
    · iapply (slots_join (F := F) hdR huR) $$ [HR0 HR1]
      isplitl [HR0]; · iexact HR0
      iexact HR1
    isplitl [Hs0]; · iexact Hs0
    isplitl [Hs1]; · iexact Hs1
    isplitl [Ho0]; · iexact Ho0
    isplitl [Ho1]; · iexact Ho1
    iexact Hg
  iexact HO

end Cert.KernelIdeal.Tile
-- ==== Proof.Calls.lean ====
module

public import proofs.«01_k».proof.Proof.TileBufs

/-! The five SparseCore calls: what each tile is handed and hands back, and its task's run. -/

@[expose] public section

noncomputable section

namespace Cert.KernelIdeal

open Cert.KernelIdeal.Gen Cert.KernelIdeal.Tile
open Idealize.ShloMosaic
open Idealize.ShloMosaic.SparseCore (S V T)
open Idealize.ShloMosaic.SparseCore.Cfg (HIx Pay ownBufs ownSems0 ownCells ownRefs mem_ownCells)
open Idealize.ShloMosaic.Transfers (shareTokN shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => M5 F

/-! ## The calls' buffers -/

/-- Call `q`'s array of gathered rows, list buffer, row buffer and semaphores. -/
def outM : Fin 5 → Memref sig .scVector .hbm S40960x128 .f32
  | 0 => Memref.whole main_v8_scv | 1 => Memref.whole main_v9_scv | 2 => Memref.whole main_v10_scv
  | 3 => Memref.whole main_v11_scv | 4 => Memref.whole main_v12_scv
def listM : Fin 5 → Memref sig .scVector .vmem S2x1x128 .i32
  | 0 => Memref.whole cc0_scoped0 | 1 => Memref.whole cc1_scoped0 | 2 => Memref.whole cc2_scoped0
  | 3 => Memref.whole cc3_scoped0 | 4 => Memref.whole cc4_scoped0
def rowM : Fin 5 → Memref sig .scVector .vmem S2x128x128 .f32
  | 0 => Memref.whole cc0_scoped2 | 1 => Memref.whole cc1_scoped2 | 2 => Memref.whole cc2_scoped2
  | 3 => Memref.whole cc3_scoped2 | 4 => Memref.whole cc4_scoped2
def inSems : Fin 5 → DmaSems sig S2
  | 0 => cc0_scoped1 | 1 => cc1_scoped1 | 2 => cc2_scoped1 | 3 => cc3_scoped1 | 4 => cc4_scoped1
def outSems : Fin 5 → DmaSems sig S2
  | 0 => cc0_scoped3 | 1 => cc1_scoped3 | 2 => cc2_scoped3 | 3 => cc3_scoped3 | 4 => cc4_scoped3
def gSems : Fin 5 → DmaSems sig S_
  | 0 => cc0_scoped4 | 1 => cc1_scoped4 | 2 => cc2_scoped4 | 3 => cc3_scoped4 | 4 => cc4_scoped4

/-- All of call `q`'s. -/
abbrev BB (q : Fin 5) : Bufs where
  tbl := Memref.whole main_arg3_scv
  ids := Memref.whole main_v7_scv
  out := outM q
  lists := listM q
  inSem := inSems q
  rowsBuf := rowM q
  outSem := outSems q
  gSem := gSems q

theorem lists_whole (q : Fin 5) : (listM q).view.set = Finset.univ := by fin_cases q <;> exact View.set_whole _
theorem rows_whole (q : Fin 5) : (rowM q).view.set = Finset.univ := by fin_cases q <;> exact View.set_whole _

theorem rows_credit (q : Fin 5) (p : Nat) :
    ∑ j, ((rowS (BB q) p).slice (S128x128.rowRect gathers_S100000x128_S128x128.axis' j) (S128x128.stride_rowRect gathers_S100000x128_S128x128.axis' j)).view.dmaCredit
      = (rowS (BB q) p).view.dmaCredit := by
  rcases Nat.mod_two_eq_zero_or_one p with h | h
  · rw [rowS_congr (BB q) (show p % 2 = 0 % 2 from h)]; revert q; decide +kernel
  · rw [rowS_congr (BB q) (show p % 2 = 1 % 2 from h)]; revert q; decide +kernel

/-! ## A tile's own memory -/

section Own
variable (d : Dev nD) (i : grid0.Coords)

/-- A tile's own buffers are any two of them, at some contents, and the others. -/
theorem ownBufs_two (a b : Ref sig .scVector) (hab : b ≠ a)
    (ha : ((tid d i).2.devRef a).owner = .proc (tid d i).2) (hb : ((tid d i).2.devRef b).owner = .proc (tid d i).2) :
    (ownBufs (tid d i) : sProp 𝕄)
      = iprop((∃ f, (tid d i).loc a ↦{fullShare} f) ∗ (∃ f, (tid d i).loc b ↦{fullShare} f)
          ∗ bigSep (((ownRefs (τ := τ) (tid d i).2).erase ((tid d i).2.devRef a)).erase ((tid d i).2.devRef b))
              fun r => iprop(∃ f, ((d, r) : Loc nD τ sig) ↦{fullShare} f)) := by
  unfold SparseCore.Cfg.ownBufs
  rw [SparseCore.bigSep_erase' (SparseCore.Cfg.mem_ownRefs_of_owner ha),
    SparseCore.bigSep_erase' (Finset.mem_erase.mpr ⟨fun e => hab (Proc.devRef_injective _ e), SparseCore.Cfg.mem_ownRefs_of_owner hb⟩)]

/-- So they are call `q`'s two, and the others. -/
theorem ownBufs_call (q : Fin 5) : ∃ R : sProp 𝕄, (ownBufs (tid d i) : sProp 𝕄)
    = iprop((∃ f, (BB q).lists.view.loc (tid d i) ↦{fullShare} f) ∗ (∃ f, (BB q).rowsBuf.view.loc (tid d i) ↦{fullShare} f) ∗ R) :=
  match q with
  | 0 => ⟨_, ownBufs_two d i cc0_scoped0 cc0_scoped2 (by decide) rfl rfl⟩
  | 1 => ⟨_, ownBufs_two d i cc1_scoped0 cc1_scoped2 (by decide) rfl rfl⟩
  | 2 => ⟨_, ownBufs_two d i cc2_scoped0 cc2_scoped2 (by decide) rfl rfl⟩
  | 3 => ⟨_, ownBufs_two d i cc3_scoped0 cc3_scoped2 (by decide) rfl rfl⟩
  | 4 => ⟨_, ownBufs_two d i cc4_scoped0 cc4_scoped2 (by decide) rfl rfl⟩

/-- Call `q`'s five semaphores. -/
def semList (q : Fin 5) : Fin 5 → DmaSem sig
  | 0 => sIn (BB q) 0 | 1 => sIn (BB q) 1 | 2 => sOut (BB q) 0 | 3 => sOut (BB q) 1 | 4 => (BB q).gSem.sem

theorem semList_inj (q : Fin 5) : Function.Injective (semList q) := by revert q; decide +kernel
theorem semList_scoped (q j : Fin 5) : (SemLoc.dma (semList q j) : SemLoc sig).isScoped .scVector = true := by revert q j; decide +kernel

/-- A tile's own semaphores at zero are call `q`'s five, and the others. -/
theorem ownSems0_call (q : Fin 5) : ∃ R : sProp 𝕄, (ownSems0 (tid d i) : sProp 𝕄)
    = iprop((bigSep Finset.univ fun j : Fin 5 => semVal (tid d i, SemLoc.dma (semList q j)) 0) ∗ R) := by
  let e : Fin 5 ↪ GSem nD τ sig := ⟨fun j => (tid d i, SemLoc.dma (semList q j)),
    fun j j' h => semList_inj q (SemLoc.dma.inj (Prod.mk.inj h).2)⟩
  have hsub : Finset.univ.map e ⊆ ownCells (tid d i) := fun g hg => by
    obtain ⟨j, -, rfl⟩ := Finset.mem_map.mp hg
    exact mem_ownCells.mpr ⟨rfl, semList_scoped q j⟩
  refine ⟨bigSep (ownCells (tid d i) \ Finset.univ.map e) fun g => semVal g 0, ?_⟩
  unfold SparseCore.Cfg.ownSems0
  rw [bigSep_sdiff_split hsub, bigSep_map]
  rfl

theorem sems_five (q : Fin 5) : (bigSep Finset.univ fun j : Fin 5 => (semVal (tid d i, SemLoc.dma (semList q j)) 0 : sProp 𝕄))
    = iprop(semVal (tid d i, SemLoc.dma (sIn (BB q) 0)) 0 ∗ semVal (tid d i, SemLoc.dma (sIn (BB q) 1)) 0
      ∗ semVal (tid d i, SemLoc.dma (sOut (BB q) 0)) 0 ∗ semVal (tid d i, SemLoc.dma (sOut (BB q) 1)) 0
      ∗ semVal (tid d i, SemLoc.dma (BB q).gSem.sem) 0) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]
  rfl

/-- A tile's own memory is call `q`'s scratch and the rest. -/
theorem own_scratch (q : Fin 5) : ∃ R : sProp 𝕄, iprop(ownBufs (tid d i) ∗ ownSems0 (tid d i)) ⊣⊢ iprop(Scratch d i (BB q) ∗ R) := by
  obtain ⟨R₁, h₁⟩ := ownBufs_call (F := F) d i q
  obtain ⟨R₂, h₂⟩ := ownSems0_call (F := F) d i q
  refine ⟨iprop(R₁ ∗ R₂), ?_⟩
  rw [h₁, h₂, sems_five]
  unfold Scratch
  constructor
  · iintro ⟨⟨HL, HR, H1⟩, ⟨Ha, Hb, Hc, Hd, He⟩, H2⟩
    isplitr [H1 H2]
    · isplitl [HL]; · iexact HL
      isplitl [HR]; · iexact HR
      isplitl [Ha]; · iexact Ha
      isplitl [Hb]; · iexact Hb
      isplitl [Hc]; · iexact Hc
      isplitl [Hd]; · iexact Hd
      iexact He
    · isplitl [H1]; · iexact H1
      iexact H2
  · iintro ⟨⟨HL, HR, Ha, Hb, Hc, Hd, He⟩, H1, H2⟩
    isplitl [HL HR H1]
    · isplitl [HL]; · iexact HL
      isplitl [HR]; · iexact HR
      iexact H1
    isplitr [H2]
    · isplitl [Ha]; · iexact Ha
      isplitl [Hb]; · iexact Hb
      isplitl [Hc]; · iexact Hc
      isplitl [Hd]; · iexact Hd
      iexact He
    iexact H2

end Own

/-! ## What the calls carry -/

variable [FloatOps F]
variable (m : (ℓ : Loc nD τ sig) → Buf (Elt F) ℓ) (I : Dev nD → S1600x128.Idx → BitVec 32)

theorem nCore_eq (q : Fin 5) : (K (F := F)).nCore q = 2 := by fin_cases q <;> rfl
theorem nSub_eq (q : Fin 5) : (K (F := F)).nSub q = 16 := by fin_cases q <;> rfl

/-- The coordinates of call `q`'s tile `i` of SparseCore `c`. -/
def crd (q : Fin 5) (c : Fin ((K (F := F)).nCore q)) (i : Fin ((K (F := F)).nSub q)) : grid0.Coords :=
  at2 (Fin.cast (nCore_eq q) c) (Fin.cast (nSub_eq q) i)

/-- A tile's shares of the index array and of the table, -/
def readShares (d : Dev nD) (i : grid0.Coords) : sProp 𝕄 :=
  iprop(((tid d i).loc main_v7_scv ↦{shareTokN fullShare (wid i)} (I d : Buf (Elt F) ((tid d i).loc main_v7_scv)))
    ∗ ((tid d i).loc main_arg3_scv ↦{shareTokN fullShare (wid i)} m ((tid d i).loc main_arg3_scv)))

/-- the contents its windows come to hold, -/
def gotF (q : Fin 5) (d : Dev nD) (i : grid0.Coords) : Buf (Elt F) ((BB q).out.view.loc (tid d i)) :=
  (BB q).out.view.write (Elt F) (m ((BB q).out.view.loc (tid d i))) (gath (m ((tid d i).loc main_arg3_scv)) (I d) q) Finset.univ

/-- what it is handed, -/
def tileIn (q : Fin 5) (d : Dev nD) (i : grid0.Coords) : sProp 𝕄 :=
  iprop(readShares m I d i ∗ todo d i (BB q) (m ((BB q).out.view.loc (tid d i))) 0)
/-- and what it hands back. -/
def tileOut (q : Fin 5) (d : Dev nD) (i : grid0.Coords) : sProp 𝕄 :=
  iprop(readShares m I d i ∗ done d i (BB q) (gotF m I q d i) 10)

/-- The calls' payloads: a SparseCore's are its tiles'. -/
def P : (K (F := F)).Pay (nD := nD) (Val := Elt F) (Name := ℕ) (U := UU) where
  st q d c := bigSep Finset.univ fun i => tileIn m I q d (crd q c i)
  dn q d c := bigSep Finset.univ fun i => tileOut m I q d (crd q c i)
  go q d c i := tileIn m I q d (crd q c i)
  td q d c i := tileOut m I q d (crd q c i)
  x _ _ := iprop(emp)

instance tileIn_storable (q : Fin 5) (d : Dev nD) (i : grid0.Coords) : BI.Storable (upEmb : UEmb _ 𝕄) (tileIn m I q d i) := by
  unfold tileIn readShares todo Win; infer_instance
instance tileOut_storable (q : Fin 5) (d : Dev nD) (i : grid0.Coords) : BI.Storable (upEmb : UEmb _ 𝕄) (tileOut m I q d i) := by
  unfold tileOut readShares done Win; infer_instance

instance P_storable : (P m I).IsStorable where
  st q d c := by unfold P; infer_instance
  dn q d c := by unfold P; infer_instance
  go q d c i := tileIn_storable m I q d _
  td q d c i := tileOut_storable m I q d _

theorem vecSplit (q : Fin 5) : (K (F := F)).VecSplit' (P m I) q := by
  intro d c
  show (bigSep Finset.univ fun i => tileIn m I q d (crd q c i)) ⊢ |={Set.univ}=> iprop((bigSep Finset.univ fun i => tileIn m I q d (crd q c i))
    ∗ ((bigSep Finset.univ fun i => tileOut m I q d (crd q c i)) -∗ bigSep Finset.univ fun i => tileOut m I q d (crd q c i)))
  iintro H; imodintro
  isplitl [H]; · iexact H
  iintro H; iexact H

/-! ## The tasks -/

/-- Every word of the index arrays names a row of the table. -/
def IdsOK : Prop := ∀ d j, (I d j).toNat < 100000

theorem tile_task (hI : IdsOK I) (q : Fin 5) (d : Dev nD) (i : grid0.Coords) (O : CellTallies nD τ sig (HIx 5)) (W : Waits sig (HIx 5))
    (hO : ∀ g, O g none = 0) (ho) :
    iprop(levAts (K (F := F)).L (K (F := F)).lev ∗ tileIn m I q d i ∗ scopedBufs (tid d i) ∗ scopedSems0 (tid d i) ∗ owes (tid d i) O W)
      ⊢ wp frame (wpE (defs₀ (F := F)) 𝒱₀ (tid d i) none) Set.univ
          (tileRun (base q) i ho (BB q).tbl (BB q).ids (BB q).out (BB q).lists (BB q).inSem (BB q).rowsBuf (BB q).outSem (BB q).gSem)
          fun _ => iprop(tileOut m I q d i ∗ scopedBufs (tid d i) ∗ scopedSems0 (tid d i)
            ∗ ∃ W', ⌜∀ p ∈ W', p ∈ W ∨ p.2 = none ∨ p.2 = some q⌝ ∗ owes (tid d i) O W') := by
  obtain ⟨R, hR⟩ := own_scratch (F := F) d i q
  have hIr : (BB q).ids.view.read (Elt F) (I d : Buf (Elt F) ((BB q).ids.view.loc (tid d i))) = I d := View.read_whole _ _
  have hTr : (BB q).tbl.view.read (Elt F) (m ((BB q).tbl.view.loc (tid d i))) = m ((tid d i).loc main_arg3_scv) := View.read_whole _ _
  have hrun := wp_tile d i (BB q) (shareTokN fullShare (wid i)) (shareTokN fullShare (wid i)) (I d) (m ((BB q).tbl.view.loc (tid d i)))
    (m ((BB q).out.view.loc (tid d i))) (gotF m I q d i) O W q (lists_whole q) (rows_whole q)
    (fun t _ => list_inb (d := d) (i := i) hIr (hI d) (row0 q i + t)) (rows_credit q) (fun t ht => window_read (d := d) (i := i) hIr hTr (hI d) _ t ht) ho
  rw [(K (F := F)).scopedBufs_V launchFacts d _ _, SparseCore.Cfg.scopedSems0_V (Val := Elt F) d _ _]
  unfold tileIn tileOut readShares
  iintro ⟨#Hlv, ⟨⟨Hi, Ht⟩, Htodo⟩, Hb, Hs, HO⟩
  ihave Hmw := (show levAts (K (F := F)).L (K (F := F)).lev ⊢ Transfers.MayWaits (tid d i) (default : HIx 5) O from
    (K (F := F)).mayWaits_none (thr := tid d i) hO) $$ Hlv
  ihave Hbs := hR.1 $$ [Hb Hs]
  · isplitl [Hb]; · iexact Hb
    iexact Hs
  icases Hbs with ⟨Hsc, HR⟩
  iapply (wp_wand frame (wpE (defs₀ (F := F)) 𝒱₀ (tid d i) none) Set.univ) $$ [Hi Ht Htodo Hsc HO Hmw]
  · iapply hrun
    isplitl [Hi]; · iexact Hi
    isplitl [Ht]; · iexact Ht
    isplitl [Htodo]; · iexact Htodo
    isplitl [Hsc]; · iexact Hsc
    isplitl [HO]; · iexact HO
    iexact Hmw
  iintro %_ ⟨⟨Hi, Ht, Hd⟩, Hsc, HO⟩
  ihave Hbs := hR.2 $$ [Hsc HR]
  · isplitl [Hsc]; · iexact Hsc
    iexact HR
  icases Hbs with ⟨Hb, Hs⟩
  isplitl [Hi Ht Hd]
  · isplitl [Hi Ht]
    · isplitl [Hi]; · iexact Hi
      iexact Ht
    iexact Hd
  isplitl [Hb]; · iexact Hb
  isplitl [Hs]; · iexact Hs
  unfold Tile.Owes
  icases HO with ⟨%W', %hW', HO⟩
  iexists W'
  isplitr
  · ipureintro; exact fun p hp => (hW' p hp).imp_right Or.inl
  iexact HO

theorem onTile_at {n n' : Nat} (hn : n ≤ τ.nSC) (hn' : n' ≤ τ.nSub)
    (body : (c : Fin n) → (s : Fin n') → Prog (TpuEff nD τ sig (Elt F) Λ₀ (.scVector (c.castLE hn) (s.castLE hn'))) PUnit) (c : Fin n) (s : Fin n') :
    SparseCore.onTile hn hn' body ⟨⟩ (c.castLE hn) (s.castLE hn') = body c s := by
  unfold SparseCore.onTile
  exact dif_pos ⟨c.isLt, s.isLt⟩

/-- A task's body run from the body table's own row. -/
theorem wp_row (d : Dev nD) (c : Fin τ.nSC) (s : Fin τ.nSub) (l : Λ₀.Label) (x : Λ₀.Args l) {p : Prog (TpuEff nD τ sig (Elt F) Λ₀ (.scVector c s)) (Λ₀.Result l)}
    (h : defs₀ (F := F) (.scVector c s) l x = p) {A Q : sProp 𝕄}
    (hp : A ⊢ wp frame (wpE (defs₀ (F := F)) 𝒱₀ (V d c s) none) Set.univ p fun _ => Q) :
    A ⊢ wp frame (wpE (DP (F := F)) 𝒱 (V d c s) (some v₀)) Set.univ (DP (F := F) (.scVector c s) (Pipeline.kernel l) x) fun _ => Q := by
  subst h
  exact hp.trans (Pipeline.wp_liftProg (DP (F := F)) (Pipeline.defs_kernel pcfgs defs₀) 𝒱₀ (V d c s) Set.univ none _ _)

/-- The rows of the body table for the five calls. -/
theorem row_eq0 (c : Fin 2) (s : Fin 16) : defs₀ (F := F) (.scVector (c.castLE hcore0) (s.castLE hsub0)) 0 ()
    = tileRun (base 0) (at2 c s) (k0_off2_inb _) (BB 0).tbl (BB 0).ids (BB 0).out (BB 0).lists (BB 0).inSem (BB 0).rowsBuf (BB 0).outSem (BB 0).gSem :=
  (onTile_at hcore0 hsub0 (fun c s => cc0__sc_gather_body (at2 c s) (Memref.whole main_arg3_scv) (Memref.isWhole_whole _) (Memref.whole main_v7_scv) (Memref.isWhole_whole _)
    (Memref.whole main_v8_scv) (Memref.isWhole_whole _) (Memref.whole cc0_scoped0) (Memref.isWhole_whole _) cc0_scoped1 (Memref.whole cc0_scoped2) (Memref.isWhole_whole _)
    cc0_scoped3 cc0_scoped4) c s).trans (cc0_eq (at2 c s) _ _ _ _ _ _ _ _ _ _ _ _ _)
theorem row_eq1 (c : Fin 2) (s : Fin 16) : defs₀ (F := F) (.scVector (c.castLE hcore1) (s.castLE hsub1)) 1 ()
    = tileRun (base 1) (at2 c s) (k1_off2_inb _) (BB 1).tbl (BB 1).ids (BB 1).out (BB 1).lists (BB 1).inSem (BB 1).rowsBuf (BB 1).outSem (BB 1).gSem :=
  (onTile_at hcore1 hsub1 (fun c s => cc1__sc_gather_body (at2 c s) (Memref.whole main_arg3_scv) (Memref.isWhole_whole _) (Memref.whole main_v7_scv) (Memref.isWhole_whole _)
    (Memref.whole main_v9_scv) (Memref.isWhole_whole _) (Memref.whole cc1_scoped0) (Memref.isWhole_whole _) cc1_scoped1 (Memref.whole cc1_scoped2) (Memref.isWhole_whole _)
    cc1_scoped3 cc1_scoped4) c s).trans (cc1_eq (at2 c s) _ _ _ _ _ _ _ _ _ _ _ _ _)
theorem row_eq2 (c : Fin 2) (s : Fin 16) : defs₀ (F := F) (.scVector (c.castLE hcore2) (s.castLE hsub2)) 2 ()
    = tileRun (base 2) (at2 c s) (k2_off2_inb _) (BB 2).tbl (BB 2).ids (BB 2).out (BB 2).lists (BB 2).inSem (BB 2).rowsBuf (BB 2).outSem (BB 2).gSem :=
  (onTile_at hcore2 hsub2 (fun c s => cc2__sc_gather_body (at2 c s) (Memref.whole main_arg3_scv) (Memref.isWhole_whole _) (Memref.whole main_v7_scv) (Memref.isWhole_whole _)
    (Memref.whole main_v10_scv) (Memref.isWhole_whole _) (Memref.whole cc2_scoped0) (Memref.isWhole_whole _) cc2_scoped1 (Memref.whole cc2_scoped2) (Memref.isWhole_whole _)
    cc2_scoped3 cc2_scoped4) c s).trans (cc2_eq (at2 c s) _ _ _ _ _ _ _ _ _ _ _ _ _)
theorem row_eq3 (c : Fin 2) (s : Fin 16) : defs₀ (F := F) (.scVector (c.castLE hcore3) (s.castLE hsub3)) 3 ()
    = tileRun (base 3) (at2 c s) (k3_off2_inb _) (BB 3).tbl (BB 3).ids (BB 3).out (BB 3).lists (BB 3).inSem (BB 3).rowsBuf (BB 3).outSem (BB 3).gSem :=
  (onTile_at hcore3 hsub3 (fun c s => cc3__sc_gather_body (at2 c s) (Memref.whole main_arg3_scv) (Memref.isWhole_whole _) (Memref.whole main_v7_scv) (Memref.isWhole_whole _)
    (Memref.whole main_v11_scv) (Memref.isWhole_whole _) (Memref.whole cc3_scoped0) (Memref.isWhole_whole _) cc3_scoped1 (Memref.whole cc3_scoped2) (Memref.isWhole_whole _)
    cc3_scoped3 cc3_scoped4) c s).trans (cc3_eq (at2 c s) _ _ _ _ _ _ _ _ _ _ _ _ _)
theorem row_eq4 (c : Fin 2) (s : Fin 16) : defs₀ (F := F) (.scVector (c.castLE hcore4) (s.castLE hsub4)) 4 ()
    = tileRun (base 4) (at2 c s) (k4_off2_inb _) (BB 4).tbl (BB 4).ids (BB 4).out (BB 4).lists (BB 4).inSem (BB 4).rowsBuf (BB 4).outSem (BB 4).gSem :=
  (onTile_at hcore4 hsub4 (fun c s => cc4__sc_gather_body (at2 c s) (Memref.whole main_arg3_scv) (Memref.isWhole_whole _) (Memref.whole main_v7_scv) (Memref.isWhole_whole _)
    (Memref.whole main_v12_scv) (Memref.isWhole_whole _) (Memref.whole cc4_scoped0) (Memref.isWhole_whole _) cc4_scoped1 (Memref.whole cc4_scoped2) (Memref.isWhole_whole _)
    cc4_scoped3 cc4_scoped4) c s).trans (cc4_eq (at2 c s) _ _ _ _ _ _ _ _ _ _ _ _ _)

set_option maxRecDepth 16384 in
set_option maxHeartbeats 2000000 in
/-- The body of call `q`'s task is the tile's run. -/
theorem wp_task (q : Fin 5) (d : Dev nD) (c : Fin ((K (F := F)).nCore q)) (i : Fin ((K (F := F)).nSub q)) {A Q : sProp 𝕄}
    (hp : ∀ ho, A ⊢ wp frame (wpE (defs₀ (F := F)) 𝒱₀ (tid d (crd q c i)) none) Set.univ
      (tileRun (base q) (crd q c i) ho (BB q).tbl (BB q).ids (BB q).out (BB q).lists (BB q).inSem (BB q).rowsBuf (BB q).outSem (BB q).gSem) fun _ => Q) :
    A ⊢ wp frame (wpE (DP (F := F)) 𝒱 (V d ((K (F := F)).core q c) ((K (F := F)).sub q i)) (some v₀)) Set.univ
      (DP (F := F) (.scVector ((K (F := F)).core q c) ((K (F := F)).sub q i)) ((K (F := F)).body q) ((K (F := F)).args q)) fun _ => Q :=
  match q with
  | 0 => wp_row (F := F) d (Fin.castLE hcore0 c) (Fin.castLE hsub0 i) 0 () (row_eq0 c i) (hp (k0_off2_inb (at2 c i)))
  | 1 => wp_row (F := F) d (Fin.castLE hcore1 c) (Fin.castLE hsub1 i) 1 () (row_eq1 c i) (hp (k1_off2_inb (at2 c i)))
  | 2 => wp_row (F := F) d (Fin.castLE hcore2 c) (Fin.castLE hsub2 i) 2 () (row_eq2 c i) (hp (k2_off2_inb (at2 c i)))
  | 3 => wp_row (F := F) d (Fin.castLE hcore3 c) (Fin.castLE hsub3 i) 3 () (row_eq3 c i) (hp (k3_off2_inb (at2 c i)))
  | 4 => wp_row (F := F) d (Fin.castLE hcore4 c) (Fin.castLE hsub4 i) 4 () (row_eq4 c i) (hp (k4_off2_inb (at2 c i)))

theorem tileObl (hI : IdsOK I) (q : Fin 5) : (K (F := F)).TileObl (DP (F := F)) 𝒱 (P m I) v₀ q := by
  intro d c i O W hO _ _
  simp only [show (P m I).ox = fun _ _ => 0 from rfl, add_zero]
  refine wp_task q d c i fun ho => BI.BIBase.Entails.trans ?_ (tile_task m I hI q d (crd q c i) O W hO ho)
  iintro ⟨Hl, -, H⟩
  isplitl [Hl]; · iexact Hl
  iexact H

end Cert.KernelIdeal
-- ==== Proof.Windows.lean ====
module

public import proofs.«01_k».proof.Proof.Calls

/-! The arrays of a call, whole on the TensorCore, as what its tiles are handed and hand back. -/

@[expose] public section

noncomputable section

namespace Cert.KernelIdeal

open Cert.KernelIdeal.Gen Cert.KernelIdeal.Tile
open Idealize.ShloMosaic
open Idealize.ShloMosaic.SparseCore (S V T)
open Idealize.ShloMosaic.SparseCore.Cfg (HIx Pay)
open Idealize.ShloMosaic.Transfers (shareTokN shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => M5 F

theorem assoc_eq (A B C : sProp 𝕄) : iprop((A ∗ B) ∗ C) = iprop(A ∗ B ∗ C) :=
  equiv_iff.mp ⟨BI.sep_assoc, BI.sep_assoc'⟩

/-- Something of every tile. -/
abbrev tiles (Φ : grid0.Coords → sProp 𝕄) : sProp 𝕄 :=
  bigSep Finset.univ fun c : Fin 2 => bigSep Finset.univ fun i : Fin 16 => Φ (at2 c i)

theorem tiles_sep (Φ Ψ : grid0.Coords → sProp 𝕄) : tiles (fun i => iprop(Φ i ∗ Ψ i)) = iprop(tiles Φ ∗ tiles Ψ) := by
  unfold tiles
  simp only [bigSep_sep']

/-- One per number is one per tile. -/
theorem tiles_wid (Φ : ℕ → sProp 𝕄) : (bigSep Finset.univ fun n : Fin 32 => Φ n.val) = tiles fun i => Φ (wid i) := by
  rw [bigSep_univ_equiv (finProdFinEquiv : Fin 2 × Fin 16 ≃ Fin (2 * 16)) (fun n : Fin 32 => Φ n.val), bigSep_univ_prod]
  refine bigSep_congr fun c _ => bigSep_congr fun i _ => congrArg Φ ?_
  show i.val + 16 * c.val = c.val * 16 + i.val
  omega

/-- A buffer in 320 blocks is the tiles' ten each. -/
theorem windows (ℓ : Loc nD τ sig) (blk : Idx ℓ → ℕ) (X : ℕ → Finset (Idx ℓ)) (hX : ∀ w < 320, ∀ x, x ∈ X w ↔ blk x = w)
    (hb : ∀ x, blk x < 320) (f : Buf (Elt F) ℓ) (fs : grid0.Coords → Buf (Elt F) ℓ) (hf : ∀ i, fs i = f) :
    (ℓ ↦{fullShare} f : sProp 𝕄) = tiles fun i => bigSep (Finset.range 10) fun t => ℓ ↦[X (win0 i + t)]{fullShare} fs i := by
  obtain rfl : fs = fun _ => f := funext hf
  have hw : ∀ c i, win0 (at2 c i) = 10 * (c.val * 16 + i.val) := fun _ _ => rfl
  have key : ∀ c i, ∀ t ∈ Finset.range 10, ∀ x, x ∈ X (win0 (at2 c i) + t) ↔ blk x = 10 * (c.val * 16 + i.val) + t := by
    intro c i t ht x
    have := c.isLt; have := i.isLt; have := Finset.mem_range.mp ht
    rw [hw]; exact hX _ (by omega) x
  unfold tiles
  have h1 : ∀ c : Fin 2, ∀ i : Fin 16, (bigSep (Finset.range 10) fun t => (ℓ ↦[X (win0 (at2 c i) + t)]{fullShare} f : sProp 𝕄))
      = ℓ ↦[(Finset.range 10).biUnion fun t => X (win0 (at2 c i) + t)]{fullShare} f := fun c i =>
    (pointsTo_biUnion (Finset.range 10) (fun t => X (win0 (at2 c i) + t)) (fun a ha b hb' hab => Finset.disjoint_left.mpr fun x hx hy => hab (by
      have := (key c i a ha x).mp hx; have := (key c i b hb' x).mp hy; omega))).symm
  have m1 : ∀ c i x, x ∈ ((Finset.range 10).biUnion fun t => X (win0 (at2 c i) + t)) ↔ blk x / 10 = c.val * 16 + i.val := fun c i x => by
    rw [Finset.mem_biUnion]
    constructor
    · rintro ⟨t, ht, hx⟩
      have := (key c i t ht x).mp hx; have := Finset.mem_range.mp ht; omega
    · intro h
      exact ⟨blk x % 10, Finset.mem_range.mpr (by omega), (key c i _ (Finset.mem_range.mpr (by omega)) x).mpr (by omega)⟩
  have h2 : ∀ c : Fin 2, (bigSep Finset.univ fun i : Fin 16 => bigSep (Finset.range 10) fun t => (ℓ ↦[X (win0 (at2 c i) + t)]{fullShare} f : sProp 𝕄))
      = ℓ ↦[Finset.univ.biUnion fun i : Fin 16 => (Finset.range 10).biUnion fun t => X (win0 (at2 c i) + t)]{fullShare} f := fun c => by
    simp only [h1]
    exact (pointsTo_biUnion Finset.univ _ (fun a _ b _ hab => Finset.disjoint_left.mpr fun x hx hy => hab (Fin.ext (by
      have := (m1 c a x).mp hx; have := (m1 c b x).mp hy; omega)))).symm
  have m2 : ∀ c x, x ∈ (Finset.univ.biUnion fun i : Fin 16 => (Finset.range 10).biUnion fun t => X (win0 (at2 c i) + t)) ↔ blk x / 160 = c.val := fun c x => by
    rw [Finset.mem_biUnion]
    constructor
    · rintro ⟨i, -, hx⟩
      have := (m1 c i x).mp hx; have := i.isLt; omega
    · intro h
      refine ⟨⟨blk x / 10 % 16, by omega⟩, Finset.mem_univ _, (m1 c _ x).mpr ?_⟩
      show blk x / 10 = c.val * 16 + blk x / 10 % 16
      omega
  simp only [h2]
  rw [← pointsTo_biUnion Finset.univ _ (fun a _ b _ hab => Finset.disjoint_left.mpr fun x hx hy => hab (Fin.ext (by
      have := (m2 a x).mp hx; have := (m2 b x).mp hy; omega))),
    show (Finset.univ.biUnion fun c : Fin 2 => Finset.univ.biUnion fun i : Fin 16 => (Finset.range 10).biUnion fun t => X (win0 (at2 c i) + t)) = Finset.univ from
      Finset.eq_univ_iff_forall.mpr fun x => by
        have := hb x
        exact Finset.mem_biUnion.mpr ⟨⟨blk x / 160, by omega⟩, Finset.mem_univ _, (m2 _ x).mpr rfl⟩]

/-- Window `w` of the gathered rows is the rows of block `w`. -/
theorem mem_window (w : ℕ) (hw : w < 320) (x : S40960x128.Idx) :
    x ∈ (Rect.unit (s := S40960x128) ![128 * (w % 320), 0] S128x128.size (inbO w)).set ↔ (x 0).val / 128 = w := by
  rw [Rect.mem_set_unit]
  have h1 : (x 1).val < 128 := (x 1).isLt
  constructor
  · intro h
    have a : 128 * (w % 320) ≤ (x 0).val ∧ (x 0).val < 128 * (w % 320) + 128 := h 0
    omega
  · intro h a
    match a with
    | 0 => show 128 * (w % 320) ≤ (x 0).val ∧ (x 0).val < 128 * (w % 320) + 128; omega
    | 1 => show 0 ≤ (x 1).val ∧ (x 1).val < 0 + 128; omega

theorem win_lt (x : S40960x128.Idx) : (x 0).val / 128 < 320 := by
  have h : (x 0).val < 40960 := (x 0).isLt
  omega

theorem mem_whole (r : Ref sig .scVector) {x : r.ty.shape.Idx} (A : Rect r.ty.shape) : x ∈ ((View.whole r).slice A).set ↔ x ∈ A.set := by
  rw [View.set_slice]; exact Iff.of_eq (congrArg (x ∈ ·) Finset.map_refl)

section Arrays
variable [FloatOps F]
variable (m : (ℓ : Loc nD τ sig) → Buf (Elt F) ℓ) (I : Dev nD → S1600x128.Idx → BitVec 32)

/-- Call `q`'s array of gathered rows, as the launch finds it -/
def outAt (q : Fin 5) (d : Dev nD) : sProp 𝕄 := match q with
  | 0 => (SparseCore.T d).loc main_v8 ↦{fullShare} m ((SparseCore.T d).loc main_v8)
  | 1 => (SparseCore.T d).loc main_v9 ↦{fullShare} m ((SparseCore.T d).loc main_v9)
  | 2 => (SparseCore.T d).loc main_v10 ↦{fullShare} m ((SparseCore.T d).loc main_v10)
  | 3 => (SparseCore.T d).loc main_v11 ↦{fullShare} m ((SparseCore.T d).loc main_v11)
  | 4 => (SparseCore.T d).loc main_v12 ↦{fullShare} m ((SparseCore.T d).loc main_v12)

/-- The rows call `q` gathers, -/
abbrev got (q : Fin 5) (d : Dev nD) : S40960x128.Idx → Elt F .f32 := gath (m ((SparseCore.T d).loc main_arg3)) (I d) q

/-- and the array holding them. -/
def outGot (q : Fin 5) (d : Dev nD) : sProp 𝕄 := match q with
  | 0 => (SparseCore.T d).loc main_v8 ↦{fullShare} (got m I 0 d : Buf (Elt F) ((SparseCore.T d).loc main_v8))
  | 1 => (SparseCore.T d).loc main_v9 ↦{fullShare} (got m I 1 d : Buf (Elt F) ((SparseCore.T d).loc main_v9))
  | 2 => (SparseCore.T d).loc main_v10 ↦{fullShare} (got m I 2 d : Buf (Elt F) ((SparseCore.T d).loc main_v10))
  | 3 => (SparseCore.T d).loc main_v11 ↦{fullShare} (got m I 3 d : Buf (Elt F) ((SparseCore.T d).loc main_v11))
  | 4 => (SparseCore.T d).loc main_v12 ↦{fullShare} (got m I 4 d : Buf (Elt F) ((SparseCore.T d).loc main_v12))

theorem outAt_windows (q : Fin 5) (d : Dev nD) : outAt m q d = tiles fun i => todo d i (BB q) (m ((BB q).out.view.loc (tid d i))) 0 := by
  unfold todo
  rw [← Finset.range_eq_Ico]
  exact match q with
  | 0 => windows ((SparseCore.T d).loc main_v8) _ (fun w => (outWin (BB 0) w).view.set) (fun w hw x => (mem_whole main_v8_scv _).trans (mem_window w hw x)) win_lt _ _ fun _ => rfl
  | 1 => windows ((SparseCore.T d).loc main_v9) _ (fun w => (outWin (BB 1) w).view.set) (fun w hw x => (mem_whole main_v9_scv _).trans (mem_window w hw x)) win_lt _ _ fun _ => rfl
  | 2 => windows ((SparseCore.T d).loc main_v10) _ (fun w => (outWin (BB 2) w).view.set) (fun w hw x => (mem_whole main_v10_scv _).trans (mem_window w hw x)) win_lt _ _ fun _ => rfl
  | 3 => windows ((SparseCore.T d).loc main_v11) _ (fun w => (outWin (BB 3) w).view.set) (fun w hw x => (mem_whole main_v11_scv _).trans (mem_window w hw x)) win_lt _ _ fun _ => rfl
  | 4 => windows ((SparseCore.T d).loc main_v12) _ (fun w => (outWin (BB 4) w).view.set) (fun w hw x => (mem_whole main_v12_scv _).trans (mem_window w hw x)) win_lt _ _ fun _ => rfl

theorem outGot_windows (q : Fin 5) (d : Dev nD) : outGot m I q d = tiles fun i => done d i (BB q) (gotF m I q d i) 10 :=
  match q with
  | 0 => windows ((SparseCore.T d).loc main_v8) _ (fun w => (outWin (BB 0) w).view.set) (fun w hw x => (mem_whole main_v8_scv _).trans (mem_window w hw x)) win_lt _ _ fun _ => View.write_whole_univ _ _ _
  | 1 => windows ((SparseCore.T d).loc main_v9) _ (fun w => (outWin (BB 1) w).view.set) (fun w hw x => (mem_whole main_v9_scv _).trans (mem_window w hw x)) win_lt _ _ fun _ => View.write_whole_univ _ _ _
  | 2 => windows ((SparseCore.T d).loc main_v10) _ (fun w => (outWin (BB 2) w).view.set) (fun w hw x => (mem_whole main_v10_scv _).trans (mem_window w hw x)) win_lt _ _ fun _ => View.write_whole_univ _ _ _
  | 3 => windows ((SparseCore.T d).loc main_v11) _ (fun w => (outWin (BB 3) w).view.set) (fun w hw x => (mem_whole main_v11_scv _).trans (mem_window w hw x)) win_lt _ _ fun _ => View.write_whole_univ _ _ _
  | 4 => windows ((SparseCore.T d).loc main_v12) _ (fun w => (outWin (BB 4) w).view.set) (fun w hw x => (mem_whole main_v12_scv _).trans (mem_window w hw x)) win_lt _ _ fun _ => View.write_whole_univ _ _ _

/-- The index array and the table at hand. -/
def reads (d : Dev nD) (q : PosShare TreeShare) : sProp 𝕄 :=
  iprop(((SparseCore.T d).loc main_v7 ↦{q} (I d : Buf (Elt F) ((SparseCore.T d).loc main_v7))) ∗ ((SparseCore.T d).loc main_arg3 ↦{q} m ((SparseCore.T d).loc main_arg3)))

/-- They are the tiles' shares and what is left of them. -/
theorem reads_tiles (d : Dev nD) : reads m I d fullShare = iprop(reads m I d (shareDrop fullShare 32) ∗ tiles fun i => readShares m I d i) := by
  have h7 := Transfers.pointsTo_toks (nD := nD) (τ := τ) (sig := sig) (Ix := HIx 5) (Val := Elt F) (Name := ℕ) (U := UU) (Lvl := ℕ) (ℓ := (SparseCore.T d).loc main_v7) (S := Finset.univ) (f := (I d : Buf (Elt F) ((SparseCore.T d).loc main_v7))) fullShare 32
  have h3 := Transfers.pointsTo_toks (nD := nD) (τ := τ) (sig := sig) (Ix := HIx 5) (Val := Elt F) (Name := ℕ) (U := UU) (Lvl := ℕ) (ℓ := (SparseCore.T d).loc main_arg3) (S := Finset.univ) (f := m ((SparseCore.T d).loc main_arg3)) fullShare 32
  unfold reads readShares
  rw [tiles_sep, BI.Entails.antisymm h7.1 h7.2, BI.Entails.antisymm h3.1 h3.2,
    tiles_wid fun n => (SparseCore.T d).loc main_v7 ↦{shareTokN fullShare n} (I d : Buf (Elt F) ((SparseCore.T d).loc main_v7)),
    tiles_wid fun n => (SparseCore.T d).loc main_arg3 ↦{shareTokN fullShare n} m ((SparseCore.T d).loc main_arg3)]
  refine BI.Entails.antisymm (show (_ : sProp 𝕄) ⊢ _ from ?_) (show (_ : sProp 𝕄) ⊢ _ from ?_)
  · iintro ⟨⟨Ha, Hb⟩, Hc, Hd⟩
    isplitl [Ha Hc]
    · isplitl [Ha]; · iexact Ha
      iexact Hc
    isplitl [Hb]; · iexact Hb
    iexact Hd
  · iintro ⟨⟨Ha, Hb⟩, Hc, Hd⟩
    isplitl [Ha Hc]
    · isplitl [Ha]; · iexact Ha
      iexact Hc
    isplitl [Hb]; · iexact Hb
    iexact Hd

/-- One per task of the call is one per tile. -/
theorem tasks_tiles (q : Fin 5) (Φ : grid0.Coords → sProp 𝕄) :
    (bigSep Finset.univ fun c : Fin ((K (F := F)).nCore q) => bigSep Finset.univ fun i : Fin ((K (F := F)).nSub q) => Φ (crd q c i)) = tiles Φ := by
  unfold tiles
  rw [bigSep_univ_equiv (finCongr (nCore_eq (F := F) q)) (fun c : Fin 2 => bigSep Finset.univ fun i : Fin 16 => Φ (at2 c i))]
  refine bigSep_congr fun c _ => ?_
  rw [bigSep_univ_equiv (finCongr (nSub_eq (F := F) q)) (fun i : Fin 16 => Φ (at2 (finCongr (nCore_eq (F := F) q) c) i))]
  rfl

/-- What call `q` takes, -/
theorem call_in (q : Fin 5) (d : Dev nD) :
    iprop(reads m I d fullShare ∗ outAt m q d)
      = iprop(reads m I d (shareDrop fullShare 32) ∗ bigSep Finset.univ fun c : Fin ((K (F := F)).nCore q) => (P m I).st q d c) := by
  rw [show (bigSep Finset.univ fun c : Fin ((K (F := F)).nCore q) => (P m I).st q d c) = tiles fun i => tileIn m I q d i from tasks_tiles q _,
    reads_tiles, outAt_windows]
  unfold tileIn
  rw [tiles_sep]
  exact assoc_eq _ _ _

/-- and what it gives back. -/
theorem call_out (q : Fin 5) (d : Dev nD) :
    iprop(reads m I d (shareDrop fullShare 32) ∗ bigSep Finset.univ fun c : Fin ((K (F := F)).nCore q) => (P m I).dn q d c)
      = iprop(reads m I d fullShare ∗ outGot m I q d) := by
  rw [show (bigSep Finset.univ fun c : Fin ((K (F := F)).nCore q) => (P m I).dn q d c) = tiles fun i => tileOut m I q d i from tasks_tiles q _,
    reads_tiles, outGot_windows]
  unfold tileOut
  rw [tiles_sep]
  exact (assoc_eq _ _ _).symm

end Arrays

end Cert.KernelIdeal
-- ==== Proof.Chain.lean ====
module

public import proofs.«01_k».proof.Proof.Blocks
public import proofs.«01_k».proof.Proof.Windows

/-! What the program's arrays hold from one step of @main to the next, and its second half — the five calls on the
    TensorCore with the copies between them — as one run of segments. -/

@[expose] public section

set_option maxRecDepth 16384

noncomputable section

namespace Cert.KernelIdeal.Rows

open Cert.KernelIdeal.Gen Cert.KernelIdeal.Tile
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => M5 F

/-! ## The operations between the calls -/

/-- The operations before the first call. -/
abbrev preOps : List (HloOp τ sig (Elt F)) :=
  [ StableHlo.reshape main_arg0 main_v0 (rfl : (.i32 : EltTy) = .i32) shapeCasts_S1024x200_S204800,
    StableHlo.reshape main_arg2 main_v1 (rfl : (.i32 : EltTy) = .i32) shapeCasts_S1024x200_S25x1x8192,
    StableHlo.reshape main_arg1 main_v2 (rfl : (.i32 : EltTy) = .i32) shapeCasts_S1024x200_S25x1x8192,
    StableHlo.binary main_arg4 main_arg5 main_v3 ((fun a b => concatenate S514x128 0 [⟨S512x128, a⟩, ⟨S2x128, b⟩] concatenates_S512x128_S2x128_S514x128_d0) : (⟨S512x128, .f32⟩ : BufTy).Contents (Elt F) → (⟨S2x128, .f32⟩ : BufTy).Contents (Elt F) → (⟨S514x128, .f32⟩ : BufTy).Contents (Elt F)),
    StableHlo.unary main_v3 main_v4 ((truncf .bf16 · bitsLt_bf16_f32) : (⟨S514x128, .f32⟩ : BufTy).Contents (Elt F) → (⟨S514x128, .bf16⟩ : BufTy).Contents (Elt F)),
    StableHlo.reshape main_arg6 main_v5 (rfl : (.f32 : EltTy) = .f32) shapeCasts_S128_S1x128,
    StableHlo.reshape main_arg7 main_v6 (rfl : (.f32 : EltTy) = .f32) shapeCasts_S128_S1x128,
    StableHlo.reshape main_v0 main_v7 (rfl : (.i32 : EltTy) = .i32) shapeCasts_S204800_S1600x128 ]

/-- The copy before the second of the TensorCore's calls. -/
abbrev copy1 : List (HloOp τ sig (Elt F)) := [ StableHlo.unary main_v13 main_v14 id ]
/-- The copy before the third of the TensorCore's calls. -/
abbrev copy2 : List (HloOp τ sig (Elt F)) := [ StableHlo.unary main_v14 main_v15 id ]
/-- The copy before the fourth of the TensorCore's calls. -/
abbrev copy3 : List (HloOp τ sig (Elt F)) := [ StableHlo.unary main_v15 main_v16 id ]
/-- The copy before the fifth of the TensorCore's calls. -/
abbrev copy4 : List (HloOp τ sig (Elt F)) := [ StableHlo.unary main_v16 main_v17 id ]
/-- The last reshape. -/
abbrev lastOps : List (HloOp τ sig (Elt F)) := [ StableHlo.reshape main_v17 main_v18 (rfl : (.f32 : EltTy) = .f32) shapeCasts_S204800x128_S1024x200x128 ]

/-! ## What the arrays hold -/

variable (m : (ℓ : Loc nD τ sig) → Buf (Elt F) ℓ)

/-- After the first operations -/
def V1 (c : Dev nD) : Valuation τ sig (Elt F) := StableHlo.after preOps fun b => m (c, b)
/-- the looked-up positions stand in rows of 128. -/
def ids (c : Dev nD) : S1600x128.Idx → BitVec 32 := V1 m c (Proc.devRef .tc main_v7)
/-- After the five gathers -/
def V2 (c : Dev nD) : Valuation τ sig (Elt F) :=
  Function.update (Function.update (Function.update (Function.update (Function.update (V1 m c)
    (Proc.devRef .tc main_v8) (got m (ids m) 0 c)) (Proc.devRef .tc main_v9) (got m (ids m) 1 c))
    (Proc.devRef .tc main_v10) (got m (ids m) 2 c)) (Proc.devRef .tc main_v11) (got m (ids m) 3 c))
    (Proc.devRef .tc main_v12) (got m (ids m) 4 c)
/-- After call 1 of the TensorCore's -/
def V3 (c : Dev nD) : Valuation τ sig (Elt F) := Pipeline.afterRegion (dat5 (V2 m c) c) (V2 m c)
/-- and the copy -/
def V4 (c : Dev nD) : Valuation τ sig (Elt F) := StableHlo.after copy1 (V3 m c)
/-- After call 2 of the TensorCore's -/
def V5 (c : Dev nD) : Valuation τ sig (Elt F) := Pipeline.afterRegion (dat6 (V4 m c) c) (V4 m c)
/-- and the copy -/
def V6 (c : Dev nD) : Valuation τ sig (Elt F) := StableHlo.after copy2 (V5 m c)
/-- After call 3 of the TensorCore's -/
def V7 (c : Dev nD) : Valuation τ sig (Elt F) := Pipeline.afterRegion (dat7 (V6 m c) c) (V6 m c)
/-- and the copy -/
def V8 (c : Dev nD) : Valuation τ sig (Elt F) := StableHlo.after copy3 (V7 m c)
/-- After call 4 of the TensorCore's -/
def V9 (c : Dev nD) : Valuation τ sig (Elt F) := Pipeline.afterRegion (dat8 (V8 m c) c) (V8 m c)
/-- and the copy -/
def V10 (c : Dev nD) : Valuation τ sig (Elt F) := StableHlo.after copy4 (V9 m c)
/-- After call 5 of the TensorCore's -/
def V11 (c : Dev nD) : Valuation τ sig (Elt F) := Pipeline.afterRegion (dat9 (V10 m c) c) (V10 m c)
/-- and the reshape -/
def V12 (c : Dev nD) : Valuation τ sig (Elt F) := StableHlo.after lastOps (V11 m c)

/-! ## The calls as segments -/

abbrev adm : (p : Fin 5) → (pcfgs (F := F) p).Adm := fun p => (cfgs p).toPCfg_adm

/-- Every call's proof data, at the contents it is entered with. -/
def pdats : (p : Fin 5) → (c : Dev nD) → Dat τ (Elt F) (HIx 5) ℕ UU ℕ (Pipeline.pin (pcfgs (F := F)) adm p) c
  | ⟨0, _⟩ => fun c => dat5 (V2 m c) c
  | ⟨1, _⟩ => fun c => dat6 (V4 m c) c
  | ⟨2, _⟩ => fun c => dat7 (V6 m c) c
  | ⟨3, _⟩ => fun c => dat8 (V8 m c) c
  | ⟨4, _⟩ => fun c => dat9 (V10 m c) c

/-- What the core owes its neighbours: nothing. -/
abbrev none₀ : Dev nD → CellTallies nD τ sig (HIx 5) := fun _ => 0

/-- What rides beside the arrays. -/
abbrev ride (c : Dev nD) : sProp 𝕄 := iprop((∃ Wd, owes (c : Thread nD τ) (none₀ c) Wd) ∗ emp ∗ emp)

/-- The arrays at `V`, and what rides. -/
abbrev St (V : Dev nD → Valuation τ sig (Elt F)) (c : Dev nD) : sProp 𝕄 :=
  iprop(StableHlo.held (c.tc : Thread nD τ) (Pipeline.ucRefs τ sig) (V c) ∗ ride c)

theorem cut (p : Fin 5) : Pipeline.LevelCut (pcfgs (F := F)) adm (none : HIx 5) (K (F := F)).L (K (F := F)).lev p none₀ fun _ => (0 : ℕ) where
  hι _ _ _ := Finset.mem_univ _
  hιb _ _ _ := le_rfl
  hD _ _ _ h := absurd h (lt_irrefl _)

/-- An unscoped reference is among the arrays held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem arrs_unscoped : (p : Fin 5) → ∀ w, (Pipeline.arrRef (pcfgs (F := F) p).spec w).isScoped = false
  | ⟨0, _⟩ => launch5.win.arr_unscoped
  | ⟨1, _⟩ => launch6.win.arr_unscoped
  | ⟨2, _⟩ => launch7.win.arr_unscoped
  | ⟨3, _⟩ => launch8.win.arr_unscoped
  | ⟨4, _⟩ => launch9.win.arr_unscoped

theorem arrs_sub (p : Fin 5) : Pipeline.arrRefs (pcfgs (F := F) p).spec ⊆ Pipeline.ucRefs τ sig := fun b hb => by
  obtain ⟨r, hr, rfl⟩ := Finset.mem_map.mp hb
  obtain ⟨w, -, rfl⟩ := Finset.mem_image.mp hr
  exact mem_uc _ (Bool.eq_false_iff.mp (arrs_unscoped p w))

theorem idle_in (cfg : Pipeline.Cfg sig Λ₀) (c : Dev nD) : iprop(idle cfg c ∗ emp) ⊢ (idle cfg c : sProp 𝕄) := sep_elim_left
theorem idle_out (cfg : Pipeline.Cfg sig Λ₀) (c : Dev nD) : (idle cfg c : sProp 𝕄) ⊢ iprop(idle cfg c ∗ emp) := by
  iintro H
  isplitl [H]; · iexact H
  iempintro

set_option backward.isDefEq.respectTransparency.types false in
/-- Call 1 -/
def reg0 : Pipeline.RegionSeg (pcfgs (F := F)) adm (pdats m) (none : HIx 5) defs₀ Variants.none (K (F := F)).L (K (F := F)).lev 0 :=
  Pipeline.RegionSeg.ofHeldIn (pcfgs (F := F)) adm (pdats m) none defs₀ Variants.none (K (F := F)).L (K (F := F)).lev 0 none₀ (Pipeline.ucRefs τ sig)
    (fun _ => iprop(emp)) (fun _ => iprop(emp)) launch5.toP rfl (fun c => (body5 (V2 m c) c).loose) (fun _ _ => rfl) (fun _ => rfl)
    (fun c => (pdats m 0 c).share_full fun _ => rfl) (fun c => idle_in cfg5 c) (fun c => idle_out cfg5 c) (fun _ => 0) (cut 0) (fun _ => iprop(emp)) (V2 m)
    (fun _ _ => rfl)
set_option backward.isDefEq.respectTransparency.types false in
theorem reg0_in (c : Dev nD) : St (V2 m) c ⊢ (reg0 m).pre c := BI.BIBase.Entails.trans (Entails.of_eq rfl) (Pipeline.RegionSeg.ofHeldIn_pre (pcs := pcfgs (F := F)) (D := none₀) (W := V2 m) (X := fun _ => iprop(emp)) (R := fun _ => iprop(emp)) (arrs_sub 0) c)
set_option backward.isDefEq.respectTransparency.types false in
theorem reg0_out (c : Dev nD) : (reg0 m).post c ⊢ St (V3 m) c := Pipeline.RegionSeg.ofHeldIn_post (arrs_sub 0) c

set_option backward.isDefEq.respectTransparency.types false in
/-- Call 2 -/
def reg1 : Pipeline.RegionSeg (pcfgs (F := F)) adm (pdats m) (none : HIx 5) defs₀ Variants.none (K (F := F)).L (K (F := F)).lev 1 :=
  Pipeline.RegionSeg.ofHeldIn (pcfgs (F := F)) adm (pdats m) none defs₀ Variants.none (K (F := F)).L (K (F := F)).lev 1 none₀ (Pipeline.ucRefs τ sig)
    (fun _ => iprop(emp)) (fun _ => iprop(emp)) launch6.toP rfl (fun c => (body6 (V4 m c) c).loose) (fun _ _ => rfl) (fun _ => rfl)
    (fun c => (pdats m 1 c).share_full fun _ => rfl) (fun c => idle_in cfg6 c) (fun c => idle_out cfg6 c) (fun _ => 0) (cut 1) (fun _ => iprop(emp)) (V4 m)
    (fun _ _ => rfl)
set_option backward.isDefEq.respectTransparency.types false in
theorem reg1_in (c : Dev nD) : St (V4 m) c ⊢ (reg1 m).pre c := BI.BIBase.Entails.trans (Entails.of_eq rfl) (Pipeline.RegionSeg.ofHeldIn_pre (pcs := pcfgs (F := F)) (D := none₀) (W := V4 m) (X := fun _ => iprop(emp)) (R := fun _ => iprop(emp)) (arrs_sub 1) c)
set_option backward.isDefEq.respectTransparency.types false in
theorem reg1_out (c : Dev nD) : (reg1 m).post c ⊢ St (V5 m) c := Pipeline.RegionSeg.ofHeldIn_post (arrs_sub 1) c

set_option backward.isDefEq.respectTransparency.types false in
/-- Call 3 -/
def reg2 : Pipeline.RegionSeg (pcfgs (F := F)) adm (pdats m) (none : HIx 5) defs₀ Variants.none (K (F := F)).L (K (F := F)).lev 2 :=
  Pipeline.RegionSeg.ofHeldIn (pcfgs (F := F)) adm (pdats m) none defs₀ Variants.none (K (F := F)).L (K (F := F)).lev 2 none₀ (Pipeline.ucRefs τ sig)
    (fun _ => iprop(emp)) (fun _ => iprop(emp)) launch7.toP rfl (fun c => (body7 (V6 m c) c).loose) (fun _ _ => rfl) (fun _ => rfl)
    (fun c => (pdats m 2 c).share_full fun _ => rfl) (fun c => idle_in cfg7 c) (fun c => idle_out cfg7 c) (fun _ => 0) (cut 2) (fun _ => iprop(emp)) (V6 m)
    (fun _ _ => rfl)
set_option backward.isDefEq.respectTransparency.types false in
theorem reg2_in (c : Dev nD) : St (V6 m) c ⊢ (reg2 m).pre c := BI.BIBase.Entails.trans (Entails.of_eq rfl) (Pipeline.RegionSeg.ofHeldIn_pre (pcs := pcfgs (F := F)) (D := none₀) (W := V6 m) (X := fun _ => iprop(emp)) (R := fun _ => iprop(emp)) (arrs_sub 2) c)
set_option backward.isDefEq.respectTransparency.types false in
theorem reg2_out (c : Dev nD) : (reg2 m).post c ⊢ St (V7 m) c := Pipeline.RegionSeg.ofHeldIn_post (arrs_sub 2) c

set_option backward.isDefEq.respectTransparency.types false in
/-- Call 4 -/
def reg3 : Pipeline.RegionSeg (pcfgs (F := F)) adm (pdats m) (none : HIx 5) defs₀ Variants.none (K (F := F)).L (K (F := F)).lev 3 :=
  Pipeline.RegionSeg.ofHeldIn (pcfgs (F := F)) adm (pdats m) none defs₀ Variants.none (K (F := F)).L (K (F := F)).lev 3 none₀ (Pipeline.ucRefs τ sig)
    (fun _ => iprop(emp)) (fun _ => iprop(emp)) launch8.toP rfl (fun c => (body8 (V8 m c) c).loose) (fun _ _ => rfl) (fun _ => rfl)
    (fun c => (pdats m 3 c).share_full fun _ => rfl) (fun c => idle_in cfg8 c) (fun c => idle_out cfg8 c) (fun _ => 0) (cut 3) (fun _ => iprop(emp)) (V8 m)
    (fun _ _ => rfl)
set_option backward.isDefEq.respectTransparency.types false in
theorem reg3_in (c : Dev nD) : St (V8 m) c ⊢ (reg3 m).pre c := BI.BIBase.Entails.trans (Entails.of_eq rfl) (Pipeline.RegionSeg.ofHeldIn_pre (pcs := pcfgs (F := F)) (D := none₀) (W := V8 m) (X := fun _ => iprop(emp)) (R := fun _ => iprop(emp)) (arrs_sub 3) c)
set_option backward.isDefEq.respectTransparency.types false in
theorem reg3_out (c : Dev nD) : (reg3 m).post c ⊢ St (V9 m) c := Pipeline.RegionSeg.ofHeldIn_post (arrs_sub 3) c

set_option backward.isDefEq.respectTransparency.types false in
/-- Call 5 -/
def reg4 : Pipeline.RegionSeg (pcfgs (F := F)) adm (pdats m) (none : HIx 5) defs₀ Variants.none (K (F := F)).L (K (F := F)).lev 4 :=
  Pipeline.RegionSeg.ofHeldIn (pcfgs (F := F)) adm (pdats m) none defs₀ Variants.none (K (F := F)).L (K (F := F)).lev 4 none₀ (Pipeline.ucRefs τ sig)
    (fun _ => iprop(emp)) (fun _ => iprop(emp)) launch9.toP rfl (fun c => (body9 (V10 m c) c).loose) (fun _ _ => rfl) (fun _ => rfl)
    (fun c => (pdats m 4 c).share_full fun _ => rfl) (fun c => idle_in cfg9 c) (fun c => idle_out cfg9 c) (fun _ => 0) (cut 4) (fun _ => iprop(emp)) (V10 m)
    (fun _ _ => rfl)
set_option backward.isDefEq.respectTransparency.types false in
theorem reg4_in (c : Dev nD) : St (V10 m) c ⊢ (reg4 m).pre c := BI.BIBase.Entails.trans (Entails.of_eq rfl) (Pipeline.RegionSeg.ofHeldIn_pre (pcs := pcfgs (F := F)) (D := none₀) (W := V10 m) (X := fun _ => iprop(emp)) (R := fun _ => iprop(emp)) (arrs_sub 4) c)
set_option backward.isDefEq.respectTransparency.types false in
theorem reg4_out (c : Dev nD) : (reg4 m).post c ⊢ St (V11 m) c := Pipeline.RegionSeg.ofHeldIn_post (arrs_sub 4) c

/-- A stretch of operations, from the arrays at `V`. -/
abbrev hseg (ops : List (HloOp τ sig (Elt F))) (hsub : ops.Forall fun op => op.bufs ⊆ StableHlo.tcRefs τ sig)
    (hfresh : ops.Forall fun op => op.fresh = ∅) (V : Dev nD → Valuation τ sig (Elt F)) :
    Pipeline.HostSeg (Name := ℕ) (U := UU) (pcfgs (F := F)) defs₀ Variants.none (K (F := F)).L (K (F := F)).lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) V ride

theorem copy1_sub : (copy1 : List (HloOp τ sig (Elt F))).Forall fun op => op.bufs ⊆ StableHlo.tcRefs τ sig := StableHlo.unary_bufs_sub ..
theorem copy1_fresh : (copy1 : List (HloOp τ sig (Elt F))).Forall fun op => op.fresh = ∅ := by simp only [List.Forall]; rfl
theorem copy2_sub : (copy2 : List (HloOp τ sig (Elt F))).Forall fun op => op.bufs ⊆ StableHlo.tcRefs τ sig := StableHlo.unary_bufs_sub ..
theorem copy2_fresh : (copy2 : List (HloOp τ sig (Elt F))).Forall fun op => op.fresh = ∅ := by simp only [List.Forall]; rfl
theorem copy3_sub : (copy3 : List (HloOp τ sig (Elt F))).Forall fun op => op.bufs ⊆ StableHlo.tcRefs τ sig := StableHlo.unary_bufs_sub ..
theorem copy3_fresh : (copy3 : List (HloOp τ sig (Elt F))).Forall fun op => op.fresh = ∅ := by simp only [List.Forall]; rfl
theorem copy4_sub : (copy4 : List (HloOp τ sig (Elt F))).Forall fun op => op.bufs ⊆ StableHlo.tcRefs τ sig := StableHlo.unary_bufs_sub ..
theorem copy4_fresh : (copy4 : List (HloOp τ sig (Elt F))).Forall fun op => op.fresh = ∅ := by simp only [List.Forall]; rfl
theorem lastOps_sub : (lastOps : List (HloOp τ sig (Elt F))).Forall fun op => op.bufs ⊆ StableHlo.tcRefs τ sig := StableHlo.reshape_bufs_sub ..
theorem lastOps_fresh : (lastOps : List (HloOp τ sig (Elt F))).Forall fun op => op.fresh = ∅ := by simp only [List.Forall]; rfl

/-- @main's second half. -/
abbrev segs : List (Pipeline.Seg (pcfgs (F := F)) adm (pdats m) (none : HIx 5) defs₀ Variants.none (K (F := F)).L (K (F := F)).lev) :=
  [ .region (reg0 m), .host (hseg copy1 copy1_sub copy1_fresh (V3 m)),
    .region (reg1 m), .host (hseg copy2 copy2_sub copy2_fresh (V5 m)),
    .region (reg2 m), .host (hseg copy3 copy3_sub copy3_fresh (V7 m)),
    .region (reg3 m), .host (hseg copy4 copy4_sub copy4_fresh (V9 m)),
    .region (reg4 m), .host (hseg lastOps lastOps_sub lastOps_fresh (V11 m)) ]

/-- Its program -/
def tail : Prog (TpuEff nD τ sig (Elt F) (ΛP (F := F)) .tc) PUnit := do
  Prog.lift (.customCall (Pipeline.entry 0) ())
  hlo rfl (StableHlo.unary main_v13 main_v14 id) (fun _ => .ret ⟨⟩)
  Prog.lift (.customCall (Pipeline.entry 1) ())
  hlo rfl (StableHlo.unary main_v14 main_v15 id) (fun _ => .ret ⟨⟩)
  Prog.lift (.customCall (Pipeline.entry 2) ())
  hlo rfl (StableHlo.unary main_v15 main_v16 id) (fun _ => .ret ⟨⟩)
  Prog.lift (.customCall (Pipeline.entry 3) ())
  hlo rfl (StableHlo.unary main_v16 main_v17 id) (fun _ => .ret ⟨⟩)
  Prog.lift (.customCall (Pipeline.entry 4) ())
  hlo rfl (StableHlo.reshape main_v17 main_v18 (rfl : (.f32 : EltTy) = .f32) shapeCasts_S204800x128_S1024x200x128) (fun _ => .ret ⟨⟩)
  pure ⟨⟩

theorem tail_run : tail (F := F) = Pipeline.Seg.run (segs m) := by chain_rfl

/-- which ends @main. -/
theorem main_eq (d : Dev nD) : main (F := F) d
    = (StableHlo.seq preOps >>= fun _ => (K (F := F)).run d 0 >>= fun _ => (K (F := F)).run d 1 >>= fun _ => (K (F := F)).run d 2 >>= fun _ =>
        (K (F := F)).run d 3 >>= fun _ => (K (F := F)).run d 4 >>= fun _ => SparseCore.liftProg tail) := by chain_rfl

/-- The segments chain, from the arrays after the gathers to the arrays at the end. -/
theorem segs_chain : Pipeline.Seg.Chains (St (V2 m)) (segs m) (St (V12 m)) :=
  ⟨reg0_in m, reg0_out m, reg1_in m, reg1_out m, reg2_in m, reg2_out m, reg3_in m, reg3_out m, reg4_in m, reg4_out m,
   fun _ => Entails.of_eq rfl⟩

end Cert.KernelIdeal.Rows
-- ==== Proof.Launching.lean ====
module

public import proofs.«01_k».proof.Proof.Chain

/-! @main on a device's TensorCore: the operations before the calls, the five gathers on the SparseCores, and the chain of
    the TensorCore's own calls; then the launch of all the threads. -/

@[expose] public section

set_option maxRecDepth 16384

noncomputable section

namespace Cert.KernelIdeal.Rows

open Cert.KernelIdeal.Gen Cert.KernelIdeal.Tile
open Idealize.ShloMosaic Idealize.ShloMosaic.TcCoe Idealize.ShloMosaic.Tactic
open Idealize.ShloMosaic.SparseCore.Cfg (HIx)
open Idealize.ShloMosaic.Transfers (shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => M5 F

variable (m : (ℓ : Loc nD τ sig) → Buf (Elt F) ℓ) (ρ : Dev nD → PrngReg)

/-! ## The arrays of the gathers -/

/-- The gathers' arrays: the positions, the table, and the five results. -/
def gatherRefs : Finset (DevRef τ sig) :=
  {Proc.devRef .tc main_v7, Proc.devRef .tc main_arg3, Proc.devRef .tc main_v8, Proc.devRef .tc main_v9, Proc.devRef .tc main_v10,
    Proc.devRef .tc main_v11, Proc.devRef .tc main_v12}

theorem gatherRefs_sub : gatherRefs ⊆ Pipeline.ucRefs τ sig := by
  intro b hb
  simp only [gatherRefs, Finset.mem_insert, Finset.mem_singleton] at hb
  rcases hb with rfl | rfl | rfl | rfl | rfl | rfl | rfl <;> exact mem_uc _ (by decide)

omit [FloatOps F] in
theorem held_gather (d : Dev nD) (V : Valuation τ sig (Elt F)) : (StableHlo.held (d.tc : Thread nD τ) gatherRefs V : sProp 𝕄)
    = iprop(((SparseCore.T d).loc main_v7 ↦{fullShare} V (Proc.devRef .tc main_v7)) ∗ ((SparseCore.T d).loc main_arg3 ↦{fullShare} V (Proc.devRef .tc main_arg3))
      ∗ ((SparseCore.T d).loc main_v8 ↦{fullShare} V (Proc.devRef .tc main_v8)) ∗ ((SparseCore.T d).loc main_v9 ↦{fullShare} V (Proc.devRef .tc main_v9))
      ∗ ((SparseCore.T d).loc main_v10 ↦{fullShare} V (Proc.devRef .tc main_v10)) ∗ ((SparseCore.T d).loc main_v11 ↦{fullShare} V (Proc.devRef .tc main_v11))
      ∗ ((SparseCore.T d).loc main_v12 ↦{fullShare} V (Proc.devRef .tc main_v12))) := by
  unfold StableHlo.held gatherRefs
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem preOps_sub : (preOps : List (HloOp τ sig (Elt F))).Forall fun op => op.bufs ⊆ StableHlo.tcRefs τ sig :=
  ⟨StableHlo.reshape_bufs_sub .., StableHlo.reshape_bufs_sub .., StableHlo.reshape_bufs_sub .., StableHlo.binary_bufs_sub .., StableHlo.unary_bufs_sub ..,
    StableHlo.reshape_bufs_sub .., StableHlo.reshape_bufs_sub .., StableHlo.reshape_bufs_sub ..⟩
theorem preOps_fresh : (preOps : List (HloOp τ sig (Elt F))).Forall fun op => op.fresh = ∅ := ⟨rfl, rfl, rfl, rfl, rfl, rfl, rfl, rfl⟩
/-- The references the first operations write. -/
abbrev preOps_W : List (Ref sig .tc) := [main_v0, main_v1, main_v2, main_v3, main_v4, main_v5, main_v6, main_v7]
theorem preOps_writes : (preOps : List (HloOp τ sig (Elt F))).Forall fun op => op.writes ⊆ (preOps_W.map (Proc.devRef (τ := τ) .tc)).toFinset :=
  StableHlo.forall_writes_sub_of_map rfl
/-- Any other keeps its contents. -/
theorem V1_of (d : Dev nD) (r : Ref sig .tc) (h : r ∉ preOps_W) : V1 m d (Proc.devRef .tc r) = m (d, Proc.devRef .tc r) :=
  StableHlo.after_of_writes_sub preOps _ preOps_writes h

/-- The gathers leave every other reference as it was -/
theorem V2_of (d : Dev nD) (b : DevRef τ sig) (h : b ∉ gatherRefs) : V2 m d b = V1 m d b := by
  simp only [gatherRefs, Finset.mem_insert, Finset.mem_singleton, not_or] at h
  obtain ⟨-, -, h8, h9, h10, h11, h12⟩ := h
  unfold V2
  rw [Function.update_of_ne h12, Function.update_of_ne h11, Function.update_of_ne h10, Function.update_of_ne h9, Function.update_of_ne h8]

/-- with the positions and the table, and their results hold the gathered rows. -/
theorem V2_7 (d : Dev nD) : V2 m d (Proc.devRef .tc main_v7) = ids m d := by
  unfold V2
  rw [Function.update_of_ne (by decide), Function.update_of_ne (by decide), Function.update_of_ne (by decide), Function.update_of_ne (by decide),
    Function.update_of_ne (by decide)]; rfl
theorem V2_3 (d : Dev nD) : V2 m d (Proc.devRef .tc main_arg3) = m ((SparseCore.T d).loc main_arg3) := by
  unfold V2
  rw [Function.update_of_ne (by decide), Function.update_of_ne (by decide), Function.update_of_ne (by decide), Function.update_of_ne (by decide),
    Function.update_of_ne (by decide)]; exact V1_of m d main_arg3 (by decide)
theorem V2_8 (d : Dev nD) : V2 m d (Proc.devRef .tc main_v8) = got m (ids m) 0 d := by
  unfold V2
  rw [Function.update_of_ne (by decide), Function.update_of_ne (by decide), Function.update_of_ne (by decide), Function.update_of_ne (by decide),
    Function.update_self]
theorem V2_9 (d : Dev nD) : V2 m d (Proc.devRef .tc main_v9) = got m (ids m) 1 d := by
  unfold V2
  rw [Function.update_of_ne (by decide), Function.update_of_ne (by decide), Function.update_of_ne (by decide), Function.update_self]
theorem V2_10 (d : Dev nD) : V2 m d (Proc.devRef .tc main_v10) = got m (ids m) 2 d := by
  unfold V2
  rw [Function.update_of_ne (by decide), Function.update_of_ne (by decide), Function.update_self]
theorem V2_11 (d : Dev nD) : V2 m d (Proc.devRef .tc main_v11) = got m (ids m) 3 d := by
  unfold V2
  rw [Function.update_of_ne (by decide), Function.update_self]
theorem V2_12 (d : Dev nD) : V2 m d (Proc.devRef .tc main_v12) = got m (ids m) 4 d := by
  unfold V2
  rw [Function.update_self]

/-- The arrays the gathers leave alone. -/
abbrev others (d : Dev nD) : sProp 𝕄 := StableHlo.held (d.tc : Thread nD τ) (Pipeline.ucRefs τ sig \ gatherRefs) (V1 m d)

/-- Before the gathers, -/
theorem before_gathers (d : Dev nD) : (StableHlo.held (d.tc : Thread nD τ) (Pipeline.ucRefs τ sig) (V1 m d) : sProp 𝕄)
    ⊢ iprop(others m d ∗ reads m (ids m) d fullShare ∗ outAt m 0 d ∗ outAt m 1 d ∗ outAt m 2 d ∗ outAt m 3 d ∗ outAt m 4 d) := by
  rw [StableHlo.held_sub_split (d.tc : Thread nD τ) gatherRefs_sub (V1 m d), held_gather,
    V1_of m d main_arg3 (by decide), V1_of m d main_v8 (by decide), V1_of m d main_v9 (by decide), V1_of m d main_v10 (by decide),
    V1_of m d main_v11 (by decide), V1_of m d main_v12 (by decide)]
  unfold reads outAt ids
  iintro ⟨⟨H7, H3, H8, H9, H10, H11, H12⟩, Ho⟩
  isplitl [Ho]; · iexact Ho
  isplitl [H7 H3]
  · isplitl [H7]; · iexact H7
    iexact H3
  isplitl [H8]; · iexact H8
  isplitl [H9]; · iexact H9
  isplitl [H10]; · iexact H10
  isplitl [H11]; · iexact H11
  iexact H12

/-- and after. -/
theorem after_gathers (d : Dev nD) :
    iprop(others m d ∗ reads m (ids m) d fullShare ∗ outGot m (ids m) 0 d ∗ outGot m (ids m) 1 d ∗ outGot m (ids m) 2 d ∗ outGot m (ids m) 3 d ∗ outGot m (ids m) 4 d)
      ⊢ (StableHlo.held (d.tc : Thread nD τ) (Pipeline.ucRefs τ sig) (V2 m d) : sProp 𝕄) := by
  rw [StableHlo.held_sub_split (d.tc : Thread nD τ) gatherRefs_sub (V2 m d), held_gather, V2_7, V2_3, V2_8, V2_9, V2_10, V2_11, V2_12,
    StableHlo.held_congr (d.tc : Thread nD τ) (V := V2 m d) (V' := V1 m d) fun b hb => V2_of m d b (Finset.mem_sdiff.mp hb).2]
  unfold reads outGot
  iintro ⟨Ho, ⟨H7, H3⟩, H8, H9, H10, H11, H12⟩
  isplitr [Ho]
  · isplitl [H7]; · iexact H7
    isplitl [H3]; · iexact H3
    isplitl [H8]; · iexact H8
    isplitl [H9]; · iexact H9
    isplitl [H10]; · iexact H10
    isplitl [H11]; · iexact H11
    iexact H12
  iexact Ho

/-! ## @main -/

/-- One gather, from its operands and its result's array. -/
theorem wp_gather (κ : GSem nD τ sig → ℕ) (d : Dev nD) (q : Fin 5) (Φ : PUnit → sProp 𝕄) :
    iprop((K (F := F)).ctx EH (P m (ids m)) κ ∗ (K (F := F)).tcSt EH d q ∗ reads m (ids m) d fullShare ∗ outAt m q d
        ∗ (iprop((K (F := F)).tcSt EH d (q.val + 1) ∗ reads m (ids m) d fullShare ∗ outGot m (ids m) q d) -∗ Φ ⟨⟩))
      ⊢ wp frame (wpE ((K (F := F)).defs (DP (F := F))) 𝒱 (SparseCore.T d) none) Set.univ ((K (F := F)).run d q) Φ := by
  have hin := Entails.of_eq (call_in m (ids m) q d)
  have hout := Entails.of_eq (call_out m (ids m) q d)
  iintro ⟨#Hctx, Hst, Hr, Ho, Hk⟩
  ihave H := hin $$ [Hr Ho]
  · isplitl [Hr]; · iexact Hr
    iexact Ho
  icases H with ⟨Hr, Hin⟩
  iapply ((K (F := F)).wp_run (DP (F := F)) 𝒱 (EH := EH) (P := P m (ids m)) κ d q)
  isplitr; · iexact Hctx
  isplitl [Hst]; · iexact Hst
  isplitl [Hin]; · iexact Hin
  iintro ⟨Hst, Hdn⟩
  iapply Hk
  isplitl [Hst]; · iexact Hst
  iapply hout
  isplitl [Hr]; · iexact Hr
  iexact Hdn

/-- The pipelines' ghost state on device `d`. -/
abbrev G (d : Dev nD) : sProp 𝕄 := Pipeline.ghostOn (pcfgs (F := F)) adm EP Finset.univ d

/-- What @main ends with: the arrays at their last contents. -/
abbrev FIN (d : Dev nD) : sProp 𝕄 := StableHlo.held (d.tc : Thread nD τ) (Pipeline.ucRefs τ sig) (V12 m d)

omit [FloatOps F] in
theorem Otc_end (d : Dev nD) : (K (F := F)).Otc d 5 = 0 :=
  Finset.sum_eq_zero fun q _ => if_neg (Nat.not_le.mpr q.isLt)

/-- By the calls' end every wait was below them. -/
theorem below_all (d : Dev nD) (W : Waits sig (HIx 5)) : (K (F := F)).WBelow (SparseCore.T d) W (8 * 5) := fun p _ => by
  obtain ⟨g, i⟩ := p
  cases i with
  | none => exact Nat.zero_le _
  | some q => exact ((K (F := F)).lev_some_le (SparseCore.T d, g) q).trans (by have := q.isLt; omega)

theorem tail_ok [∀ e, Nonempty (Elt F e)] (κ : GSem nD τ sig → ℕ) (d : Dev nD) :
    iprop((K (F := F)).ctx EH (P m (ids m)) κ ∗ (K (F := F)).tcSt EH d 5 ∗ boundary (SparseCore.T d) ∗ (K (F := F)).tcSems0 d
        ∗ StableHlo.held (d.tc : Thread nD τ) (Pipeline.ucRefs τ sig) (V2 m d) ∗ G d)
      ⊢ wp frame (wpE ((K (F := F)).defs (DP (F := F))) 𝒱 (SparseCore.T d) none) Set.univ (SparseCore.liftProg (tail (F := F)))
          fun _ => iprop((K (F := F)).tcSt EH d 5 ∗ FIN m d ∗ (K (F := F)).tcEnd d) := by
  refine BI.BIBase.Entails.trans ?_ ((K (F := F)).wp_liftProg (DP (F := F)) 𝒱 (SparseCore.T d) Set.univ none (tail (F := F)) _)
  rw [tail_run m]
  have hseg := Pipeline.wp_segs (pcfgs (F := F)) adm (pdats m) (none : HIx 5) cellOf_inj EP defs₀ Variants.none (K (F := F)).L (K (F := F)).lev d
    (Q := fun _ => iprop((K (F := F)).tcSt EH d 5 ∗ FIN m d ∗ (K (F := F)).tcEnd d)) (segs m) Finset.univ (St (V2 m)) (St (V12 m))
    (by simp only [segs, Pipeline.Seg.pipes_host, Pipeline.Seg.pipes_region, Pipeline.Seg.pipes_nil]; decide) (fun _ _ => Finset.mem_univ _) (segs_chain m)
  refine BI.BIBase.Entails.trans ?_ hseg
  unfold SparseCore.Cfg.tcSt SparseCore.Cfg.tcEnd
  rw [Otc_end]
  iintro ⟨#Hctx, ⟨⟨%W, -, HO⟩, Hrest⟩, Hb, Hs, Hh, HG⟩
  isplitl [Hrest Hs]
  · iintro ⟨Hb, Hh, ⟨%W', HO⟩, -⟩
    isplitl [Hrest HO]
    · isplitl [HO]
      · iexists W'
        isplitr
        · ipureintro; exact below_all d W'
        iexact HO
      iexact Hrest
    isplitl [Hh]; · iexact Hh
    isplitl [Hb]; · iexact Hb
    iexact Hs
  isplitl [Hb]; · iexact Hb
  isplitl [Hh HO]
  · isplitl [Hh]; · iexact Hh
    isplitl [HO]; · iexists W; iexact HO
    isplitl []; · iempintro
    iempintro
  isplitr [HG]
  · iapply ((K (F := F)).ctx_levAts (EH := EH) (P := P m (ids m)) κ); iexact Hctx
  iexact HG

theorem hmain [∀ e, Nonempty (Elt F e)] (κ : GSem nD τ sig → ℕ) (d : Dev nD) :
    iprop((K (F := F)).ctx EH (P m (ids m)) κ ∗ (K (F := F)).tcSt EH d 0 ∗ (K (F := F)).tcRes m ρ d ∗ G d)
      ⊢ wp frame (wpE ((K (F := F)).defs (DP (F := F))) 𝒱 (SparseCore.T d) none) Set.univ (main d)
          fun _ => iprop((K (F := F)).tcSt EH d 5 ∗ FIN m d ∗ (K (F := F)).tcEnd d) := by
  rw [main_eq]
  have hpre := fun k (Φ : PUnit → sProp 𝕄) => StableHlo.wp_seq (defs := (K (F := F)).defs (DP (F := F))) 𝒱 none Set.univ d (Pipeline.ucRefs τ sig) k (K := Φ) preOps
    (fun op h => Pipeline.sub_ucRefs op ((List.forall_iff_forall_mem.mp preOps_sub) op h))
    (fun op h => (List.forall_iff_forall_mem.mp preOps_fresh) op h) (fun b => m (d, b))
  have hbefore : (StableHlo.held (d.tc : Thread nD τ) (Pipeline.ucRefs τ sig) (StableHlo.after preOps fun b => m (d, b)) : sProp 𝕄) ⊢ _ := before_gathers m d
  have hafter := after_gathers m d
  unfold SparseCore.Cfg.tcRes
  rw [show unscopedBufs d (fun b => m ((SparseCore.T d).loc b)) = (StableHlo.held (d.tc : Thread nD τ) (Pipeline.ucRefs τ sig) (fun b => m (d, b)) : sProp 𝕄)
    from Pipeline.unscopedBufs_held d (fun b => m (d, b))]
  iintro ⟨#Hctx, Hst, ⟨Hb, Hh, Hs, -⟩, HG⟩
  iapply (hpre _ _) $$ [Hb Hh]
  · isplitl [Hb] <;> iassumption
  iintro ⟨Hb, Hh⟩
  ihave H := hbefore $$ Hh
  icases H with ⟨Ho, Hr, H0, H1, H2, H3, H4⟩
  simp only [wp_bind]
  iapply (wp_gather m κ d 0)
  isplitr; · iexact Hctx
  isplitl [Hst]; · iexact Hst
  isplitl [Hr]; · iexact Hr
  isplitl [H0]; · iexact H0
  iintro ⟨Hst, Hr, H0⟩
  iapply (wp_gather m κ d 1)
  isplitr; · iexact Hctx
  isplitl [Hst]; · iexact Hst
  isplitl [Hr]; · iexact Hr
  isplitl [H1]; · iexact H1
  iintro ⟨Hst, Hr, H1⟩
  iapply (wp_gather m κ d 2)
  isplitr; · iexact Hctx
  isplitl [Hst]; · iexact Hst
  isplitl [Hr]; · iexact Hr
  isplitl [H2]; · iexact H2
  iintro ⟨Hst, Hr, H2⟩
  iapply (wp_gather m κ d 3)
  isplitr; · iexact Hctx
  isplitl [Hst]; · iexact Hst
  isplitl [Hr]; · iexact Hr
  isplitl [H3]; · iexact H3
  iintro ⟨Hst, Hr, H3⟩
  iapply (wp_gather m κ d 4)
  isplitr; · iexact Hctx
  isplitl [Hst]; · iexact Hst
  isplitl [Hr]; · iexact Hr
  isplitl [H4]; · iexact H4
  iintro ⟨Hst, Hr, H4⟩
  iapply (tail_ok m κ d)
  isplitr; · iexact Hctx
  isplitl [Hst]; · iexact Hst
  isplitl [Hb]; · iexact Hb
  isplitl [Hs]; · iexact Hs
  isplitr [HG]
  · iapply hafter
    isplitl [Ho]; · iexact Ho
    isplitl [Hr]; · iexact Hr
    isplitl [H0]; · iexact H0
    isplitl [H1]; · iexact H1
    isplitl [H2]; · iexact H2
    isplitl [H3]; · iexact H3
    iexact H4
  iexact HG

/-! ## The launch -/

/-- The ghost state the launch starts from: the handshakes' rounds and the pipelines'. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- Every device's ghost state of the pipelines, from the launch's. -/
theorem deal_ghost : (BI.own (EP (initOf (Pipeline.cells (Pipeline.pin (pcfgs (F := F)) adm) cellOf_inj) (Pipeline.launchToks (Pipeline.pin (pcfgs (F := F)) adm) cellOf_inj))) : sProp 𝕄)
    ⊢ iprop(|==> bigSep Finset.univ fun d : Dev nD => G d) := by
  have h := Pipeline.fund_ghost (Pipeline.pin (pcfgs (F := F)) adm) (EP (F := F)) cellOf_inj
  have e : (bigSep Finset.univ fun d : Dev nD => (G d : sProp 𝕄))
      = iprop((bigSep Finset.univ fun c : Dev nD => bigSep Finset.univ fun p => Pipeline.cellsGhost (Pipeline.pin (pcfgs (F := F)) adm) EP p c)
        ∗ (bigSep Finset.univ fun c : Dev nD => bigSep Finset.univ fun p => Pipeline.toksInit (Pipeline.pin (pcfgs (F := F)) adm) EP p c)) := by
    rw [← bigSep_sep']
    exact bigSep_congr fun d _ => bigSep_sep' ..
  rw [e]
  exact h

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 5 => (P m (ids m)).x q thr) := by
  unfold u₀
  have hpair := ownU_pair (nD := nD) (τ := τ) (sig := sig) (Ix := HIx 5) (Val := Elt F) (Name := ℕ) (Lvl := ℕ) (A := UH) (B := UP × Counters) (initOf (K (F := F)).hsCells (K (F := F)).hsToks)
    ((initOf (Pipeline.cells (Pipeline.pin (pcfgs (F := F)) adm) cellOf_inj) (Pipeline.launchToks (Pipeline.pin (pcfgs (F := F)) adm) cellOf_inj), 1) : UP × Counters)
  have hpair' : _ ⊢ iprop(BI.own (EP (initOf (Pipeline.cells (Pipeline.pin (pcfgs (F := F)) adm) cellOf_inj) (Pipeline.launchToks (Pipeline.pin (pcfgs (F := F)) adm) cellOf_inj))) ∗ _) :=
    own_pair_emb (embR (A := UH) (B := UP × Counters) : Emb (UP × Counters) 𝕄)
    (initOf (Pipeline.cells (Pipeline.pin (pcfgs (F := F)) adm) cellOf_inj) (Pipeline.launchToks (Pipeline.pin (pcfgs (F := F)) adm) cellOf_inj)) (1 : Counters)
  iintro Hu
  ihave H := hpair $$ Hu
  icases H with ⟨HH, HP⟩
  ihave H := hpair' $$ HP
  icases H with ⟨HP, -⟩
  imod (deal_ghost (F := F)) $$ HP with HG
  imodintro
  isplitl [HH]; · iexact HH
  isplitl [HG]; · iexact HG
  rw [show (bigSep Finset.univ fun thr : Thread nD τ => bigSep Finset.univ fun q : Fin 5 => (P m (ids m)).x q thr) = (iprop(emp) : sProp 𝕄) from
    (bigSep_congr fun _ _ => bigSep_emp_const _).trans (bigSep_emp_const _)]
  iempintro

/-- What a final state shows: the arrays at their last contents. -/
def fq (d : Dev nD) (s' : Phys nD τ sig (Elt F)) : Prop := ∀ b ∈ Pipeline.ucRefs τ sig, s'.mem.mem (d, b) = V12 m d b

theorem hfin (d : Dev nD) (s' : Phys nD τ sig (Elt F)) : iprop(FIN m d ∗ SI s') ⊢ (⌜fq m d s'⌝ : sProp 𝕄) := by
  unfold FIN StableHlo.held fq
  iintro ⟨Hh, HSI⟩
  ihave H := (pointsTo_read_all (Pipeline.ucRefs τ sig) (fun b => (d, b)) (V12 m d) s') $$ [Hh HSI]
  · isplitl [Hh] <;> iassumption
  icases H with ⟨%h, -⟩
  ipureintro; exact h

theorem run_main [∀ e, Nonempty (Elt F e)] (hI : IdsOK (ids m)) :
    θ_run (defs (F := F)) (threads (F := F)) ⟨m, fun _ => 0, ρ⟩
      fun r => (∀ d : Dev nD, ∀ b ∈ Pipeline.ucRefs τ sig, r.2.mem (d, b) = V12 m d b) ∧ r.2.sem = fun _ => 0 :=
  SparseCore.Cfg.θ_run_sc_quiescent (K := K (F := F)) (D := DP (F := F)) (𝒱 := 𝒱) (EH := EH) (P := P m (ids m)) (A := ∅) launchFacts v₀
    (fun q hq => by fin_cases q <;> exact nomatch hq)
    (fun q _ => tileObl m (ids m) hI q)
    (fun q _ => SparseCore.Cfg.VecSplit.of_plain (vecSplit m (ids m) q))
    m ρ main (fun d => G d) (FIN m) (u₀ (F := F)) (sep_elim_left.trans (hu₀ m)) (hmain m ρ) (fq m) (hfin m) _ (fun _ h hz => ⟨h, hz⟩)

end Cert.KernelIdeal.Rows
-- ==== Proof.Kept.lean ====
module

public import proofs.«01_k».proof.Proof.Launching

/-! What the calls on the TensorCore and the copies between them leave alone. -/

@[expose] public section

set_option maxRecDepth 16384

noncomputable section

namespace Cert.KernelIdeal.Rows

open Cert.KernelIdeal.Gen Cert.KernelIdeal.Tile
open Idealize.ShloMosaic Idealize.ShloMosaic.TcCoe
open Idealize.SL Idealize.SL.Sem

variable {F : FTy → Type} [FloatOps F]
variable (m : (ℓ : Loc nD τ sig) → Buf (Elt F) ℓ)

/-- The results of the TensorCore's calls, and the last reshape's. -/
abbrev results : List (Ref sig .tc) := [main_v13, main_v14, main_v15, main_v16, main_v17, main_v18]

theorem ne_of_not_results {r s : Ref sig .tc} (h : r ∉ results) (hs : s ∈ results) : s ≠ r := fun e => h (e ▸ hs)

/-- Call 1 writes one array. -/
theorem out5 : ∀ w, (cfg5.win w).isOut = true → Pipeline.arrRef spec5 w = main_v13 := by decide
/-- It leaves the others. -/
theorem keep5 (V : Valuation τ sig (Elt F)) (c : Dev nD) (r : Ref sig .tc) (h : main_v13 ≠ r) :
    Pipeline.afterRegion (dat5 V c) V (Proc.devRef .tc r) = V (Proc.devRef .tc r) :=
  Pipeline.afterRegion_keeps (dat5 V c) V launch5.win.arr_inj (fun _ => rfl) r fun w e => by
    by_contra hw
    exact h ((out5 w (Bool.eq_true_of_not_eq_false hw)).symm.trans e)

/-- Call 2 writes one array. -/
theorem out6 : ∀ w, (cfg6.win w).isOut = true → Pipeline.arrRef spec6 w = main_v14 := by decide
/-- It leaves the others. -/
theorem keep6 (V : Valuation τ sig (Elt F)) (c : Dev nD) (r : Ref sig .tc) (h : main_v14 ≠ r) :
    Pipeline.afterRegion (dat6 V c) V (Proc.devRef .tc r) = V (Proc.devRef .tc r) :=
  Pipeline.afterRegion_keeps (dat6 V c) V launch6.win.arr_inj (fun _ => rfl) r fun w e => by
    by_contra hw
    exact h ((out6 w (Bool.eq_true_of_not_eq_false hw)).symm.trans e)

/-- Call 3 writes one array. -/
theorem out7 : ∀ w, (cfg7.win w).isOut = true → Pipeline.arrRef spec7 w = main_v15 := by decide
/-- It leaves the others. -/
theorem keep7 (V : Valuation τ sig (Elt F)) (c : Dev nD) (r : Ref sig .tc) (h : main_v15 ≠ r) :
    Pipeline.afterRegion (dat7 V c) V (Proc.devRef .tc r) = V (Proc.devRef .tc r) :=
  Pipeline.afterRegion_keeps (dat7 V c) V launch7.win.arr_inj (fun _ => rfl) r fun w e => by
    by_contra hw
    exact h ((out7 w (Bool.eq_true_of_not_eq_false hw)).symm.trans e)

/-- Call 4 writes one array. -/
theorem out8 : ∀ w, (cfg8.win w).isOut = true → Pipeline.arrRef spec8 w = main_v16 := by decide
/-- It leaves the others. -/
theorem keep8 (V : Valuation τ sig (Elt F)) (c : Dev nD) (r : Ref sig .tc) (h : main_v16 ≠ r) :
    Pipeline.afterRegion (dat8 V c) V (Proc.devRef .tc r) = V (Proc.devRef .tc r) :=
  Pipeline.afterRegion_keeps (dat8 V c) V launch8.win.arr_inj (fun _ => rfl) r fun w e => by
    by_contra hw
    exact h ((out8 w (Bool.eq_true_of_not_eq_false hw)).symm.trans e)

/-- Call 5 writes one array. -/
theorem out9 : ∀ w, (cfg9.win w).isOut = true → Pipeline.arrRef spec9 w = main_v17 := by decide
/-- It leaves the others. -/
theorem keep9 (V : Valuation τ sig (Elt F)) (c : Dev nD) (r : Ref sig .tc) (h : main_v17 ≠ r) :
    Pipeline.afterRegion (dat9 V c) V (Proc.devRef .tc r) = V (Proc.devRef .tc r) :=
  Pipeline.afterRegion_keeps (dat9 V c) V launch9.win.arr_inj (fun _ => rfl) r fun w e => by
    by_contra hw
    exact h ((out9 w (Bool.eq_true_of_not_eq_false hw)).symm.trans e)

theorem copy1_keeps (V : Valuation τ sig (Elt F)) (r : Ref sig .tc) (h : main_v14 ≠ r) :
    StableHlo.after copy1 V (Proc.devRef .tc r) = V (Proc.devRef .tc r) :=
  StableHlo.after_of_writes_sub (W := [main_v14]) copy1 V (StableHlo.forall_writes_sub_of_map rfl) (by simpa using h.symm)
/-- The copy's result is its operand's contents. -/
theorem copy1_result (V : Valuation τ sig (Elt F)) :
    StableHlo.after copy1 V (Proc.devRef .tc main_v14) = V (Proc.devRef .tc main_v13) := by
  rw [StableHlo.after_cons, StableHlo.after_nil, StableHlo.unary_result main_v13 main_v14 id _ _ _]; rfl

theorem copy2_keeps (V : Valuation τ sig (Elt F)) (r : Ref sig .tc) (h : main_v15 ≠ r) :
    StableHlo.after copy2 V (Proc.devRef .tc r) = V (Proc.devRef .tc r) :=
  StableHlo.after_of_writes_sub (W := [main_v15]) copy2 V (StableHlo.forall_writes_sub_of_map rfl) (by simpa using h.symm)
/-- The copy's result is its operand's contents. -/
theorem copy2_result (V : Valuation τ sig (Elt F)) :
    StableHlo.after copy2 V (Proc.devRef .tc main_v15) = V (Proc.devRef .tc main_v14) := by
  rw [StableHlo.after_cons, StableHlo.after_nil, StableHlo.unary_result main_v14 main_v15 id _ _ _]; rfl

theorem copy3_keeps (V : Valuation τ sig (Elt F)) (r : Ref sig .tc) (h : main_v16 ≠ r) :
    StableHlo.after copy3 V (Proc.devRef .tc r) = V (Proc.devRef .tc r) :=
  StableHlo.after_of_writes_sub (W := [main_v16]) copy3 V (StableHlo.forall_writes_sub_of_map rfl) (by simpa using h.symm)
/-- The copy's result is its operand's contents. -/
theorem copy3_result (V : Valuation τ sig (Elt F)) :
    StableHlo.after copy3 V (Proc.devRef .tc main_v16) = V (Proc.devRef .tc main_v15) := by
  rw [StableHlo.after_cons, StableHlo.after_nil, StableHlo.unary_result main_v15 main_v16 id _ _ _]; rfl

theorem copy4_keeps (V : Valuation τ sig (Elt F)) (r : Ref sig .tc) (h : main_v17 ≠ r) :
    StableHlo.after copy4 V (Proc.devRef .tc r) = V (Proc.devRef .tc r) :=
  StableHlo.after_of_writes_sub (W := [main_v17]) copy4 V (StableHlo.forall_writes_sub_of_map rfl) (by simpa using h.symm)
/-- The copy's result is its operand's contents. -/
theorem copy4_result (V : Valuation τ sig (Elt F)) :
    StableHlo.after copy4 V (Proc.devRef .tc main_v17) = V (Proc.devRef .tc main_v16) := by
  rw [StableHlo.after_cons, StableHlo.after_nil, StableHlo.unary_result main_v16 main_v17 id _ _ _]; rfl

theorem last_keeps (V : Valuation τ sig (Elt F)) (r : Ref sig .tc) (h : main_v18 ≠ r) :
    StableHlo.after lastOps V (Proc.devRef .tc r) = V (Proc.devRef .tc r) :=
  StableHlo.after_of_writes_sub (W := [main_v18]) lastOps V (StableHlo.forall_writes_sub_of_map rfl) (by simpa using h.symm)

/-! From the gathers on, an array that is no result of a call on the TensorCore keeps its contents. -/

variable (c : Dev nD) (r : Ref sig .tc) (h : r ∉ results)
include h
theorem V3_of : V3 m c (Proc.devRef .tc r) = V2 m c (Proc.devRef .tc r) :=
  (keep5 (V2 m c) c r (ne_of_not_results h (by decide)))
theorem V4_of : V4 m c (Proc.devRef .tc r) = V2 m c (Proc.devRef .tc r) :=
  (copy1_keeps (V3 m c) r (ne_of_not_results h (by decide))).trans (V3_of m c r h)
theorem V5_of : V5 m c (Proc.devRef .tc r) = V2 m c (Proc.devRef .tc r) :=
  (keep6 (V4 m c) c r (ne_of_not_results h (by decide))).trans (V4_of m c r h)
theorem V6_of : V6 m c (Proc.devRef .tc r) = V2 m c (Proc.devRef .tc r) :=
  (copy2_keeps (V5 m c) r (ne_of_not_results h (by decide))).trans (V5_of m c r h)
theorem V7_of : V7 m c (Proc.devRef .tc r) = V2 m c (Proc.devRef .tc r) :=
  (keep7 (V6 m c) c r (ne_of_not_results h (by decide))).trans (V6_of m c r h)
theorem V8_of : V8 m c (Proc.devRef .tc r) = V2 m c (Proc.devRef .tc r) :=
  (copy3_keeps (V7 m c) r (ne_of_not_results h (by decide))).trans (V7_of m c r h)
theorem V9_of : V9 m c (Proc.devRef .tc r) = V2 m c (Proc.devRef .tc r) :=
  (keep8 (V8 m c) c r (ne_of_not_results h (by decide))).trans (V8_of m c r h)
theorem V10_of : V10 m c (Proc.devRef .tc r) = V2 m c (Proc.devRef .tc r) :=
  (copy4_keeps (V9 m c) r (ne_of_not_results h (by decide))).trans (V9_of m c r h)
theorem V11_of : V11 m c (Proc.devRef .tc r) = V2 m c (Proc.devRef .tc r) :=
  (keep9 (V10 m c) c r (ne_of_not_results h (by decide))).trans (V10_of m c r h)
theorem V12_of : V12 m c (Proc.devRef .tc r) = V2 m c (Proc.devRef .tc r) :=
  (last_keeps (V11 m c) r (ne_of_not_results h (by decide))).trans (V11_of m c r h)

omit h in
/-- The arguments end as they began. -/
theorem V12_arg (ha : r ∈ [main_arg0, main_arg1, main_arg2, main_arg3, main_arg4, main_arg5, main_arg6, main_arg7]) :
    V12 m c (Proc.devRef .tc r) = m (c, Proc.devRef .tc r) := by
  have h1 : r ∉ results := by revert ha; revert r; decide
  rw [V12_of m c r h1]
  by_cases h3 : r = main_arg3
  · subst h3; exact V2_3 m c
  · have h2 : (Proc.devRef .tc r : DevRef τ sig) ∉ gatherRefs := by revert ha h3; clear h1; revert r; decide
    rw [V2_of m c _ h2]
    exact V1_of m c r (by revert ha; clear h1 h2 h3; revert r; decide)

end Cert.KernelIdeal.Rows
-- ==== Proof.Operands.lean ====
module

public import proofs.«01_k».proof.Proof.Kept

/-! What the first operations leave in the arrays the calls read. -/

@[expose] public section

set_option maxRecDepth 16384

noncomputable section

namespace Cert.KernelIdeal.Rows

open Cert.KernelIdeal.Gen Cert.KernelIdeal.Tile
open Idealize.ShloMosaic Idealize.ShloMosaic.TcCoe
open Idealize.SL Idealize.SL.Sem

variable {F : FTy → Type} [FloatOps F]
variable (m : (ℓ : Loc nD τ sig) → Buf (Elt F) ℓ) (d : Dev nD)

/-- The looked-up positions, in rows of 128. -/
theorem V1_7 : V1 m d (Proc.devRef .tc main_v7)
    = shapeCast S1600x128 (shapeCast S204800 (m (d, Proc.devRef .tc main_arg0)) shapeCasts_S1024x200_S204800) shapeCasts_S204800_S1600x128 := by
  unfold V1; after_results_simp; rfl
/-- The places of the words, in rows of 8192. -/
theorem V1_1 : V1 m d (Proc.devRef .tc main_v1) = shapeCast S25x1x8192 (m (d, Proc.devRef .tc main_arg2)) shapeCasts_S1024x200_S25x1x8192 := by
  unfold V1; after_results_simp; rfl
/-- Their segments. -/
theorem V1_2 : V1 m d (Proc.devRef .tc main_v2) = shapeCast S25x1x8192 (m (d, Proc.devRef .tc main_arg1)) shapeCasts_S1024x200_S25x1x8192 := by
  unfold V1; after_results_simp; rfl
/-- The places' rows with the segments' below them. -/
theorem V1_4 : V1 m d (Proc.devRef .tc main_v4)
    = truncf .bf16 (concatenate S514x128 0 [⟨S512x128, m (d, Proc.devRef .tc main_arg4)⟩, ⟨S2x128, m (d, Proc.devRef .tc main_arg5)⟩] concatenates_S512x128_S2x128_S514x128_d0 : FVec F S514x128 .f32) bitsLt_bf16_f32 := by
  unfold V1; after_results_simp; rfl
/-- The scale. -/
theorem V1_5 : V1 m d (Proc.devRef .tc main_v5) = shapeCast S1x128 (m (d, Proc.devRef .tc main_arg6)) shapeCasts_S128_S1x128 := by
  unfold V1; after_results_simp; rfl
/-- The shift. -/
theorem V1_6 : V1 m d (Proc.devRef .tc main_v6) = shapeCast S1x128 (m (d, Proc.devRef .tc main_arg7)) shapeCasts_S128_S1x128 := by
  unfold V1; after_results_simp; rfl

/-- The gathers' positions are rows of the table, if the first argument's entries are. -/
theorem ids_ok (h : ∀ (d : Dev nD) (i : S1024x200.Idx), ((m (d, Proc.devRef .tc main_arg0) : S1024x200.Idx → BitVec 32) i).toNat < 100000) : IdsOK (ids m) := by
  intro d j
  unfold ids
  rw [V1_7]
  exact h d _

end Cert.KernelIdeal.Rows
-- ==== Proof.Ranges.lean ====
module

public import proofs.«01_k».proof.Pre_ids_in_range
public import Idealize.ShloMosaic.Lib.ReduceAll
public import Idealize.ShloMosaic.Lib.Affine

/-! The precondition, entry by entry: every looked-up position is one of the table's rows. -/

@[expose] public section

namespace Cert.Pre_ids_in_range

open Idealize.ShloMosaic

theorem facts : Facts := ⟨by decide, by decide, by decide⟩

/-- A word at least 0 and below `n`, read signed, is below `n`. -/
theorem lt_of_word (n : ℕ) (hn : n < 2 ^ 31) (v : BitVec 32) (h0 : IntOp.cmpi .sge v 0#32 = 1#1) (h1 : IntOp.cmpi .slt v (BitVec.ofNat 32 n) = 1#1) :
    v.toNat < n := by
  have h0 := IntOp.cmpi_sge.1 h0
  have h1 := IntOp.cmpi_slt.1 h1
  simp only [BitVec.toInt_eq_toNat_cond, BitVec.toNat_ofNat] at h0 h1
  omega

variable {F : FTy → Type} [FloatOps F]

/-- Every entry of the three index arrays is in range. -/
theorem bounds [Facts] {a0 a1 a2 : IVec S1024x200 32} {a3 a4 a5 a6 a7} (h : fn (F := F) a0 a1 a2 a3 a4 a5 a6 a7 = fun _ => 1#1) (i : S1024x200.Idx) :
    (a0 i).toNat < 100000 ∧ (a1 i).toNat < 2 ∧ (a2 i).toNat < 512 := by
  have e := congrFun h (Shape.Idx.first Facts.h_S_)
  obtain ⟨e01, e2⟩ := IntOp.andi_eq_one.1 e
  obtain ⟨e0, e1⟩ := IntOp.andi_eq_one.1 e01
  have : Subsingleton S_.Idx := ⟨fun x y => funext fun a => a.elim0⟩
  obtain ⟨p0, q0⟩ := IntOp.andi_eq_one.1 (Host.reduce_andi_all _ _ _ _ _ e0 i)
  obtain ⟨p1, q1⟩ := IntOp.andi_eq_one.1 (Host.reduce_andi_all _ _ _ _ _ e1 i)
  obtain ⟨p2, q2⟩ := IntOp.andi_eq_one.1 (Host.reduce_andi_all _ _ _ _ _ e2 i)
  exact ⟨lt_of_word 100000 (by decide) _ p0 q0, lt_of_word 2 (by decide) _ p1 q1, lt_of_word 512 (by decide) _ p2 q2⟩

end Cert.Pre_ids_in_range
-- ==== Proof.Same.lean ====
module

public import proofs.«01_k».proof.Proof.Gen.Kernel
public import proofs.«01_k».proof.Proof.Gen.KernelIdeal

/-! The kernel and its idealization are one program. -/

@[expose] public section

set_option maxRecDepth 16384
set_option maxHeartbeats 4000000

noncomputable section

namespace Cert.Proof

open Idealize.ShloMosaic Idealize.SL.Sem

variable {F : FTy → Type} [FloatOps F]

attribute [local instance] Cert.Kernel.Gen.facts Cert.KernelIdeal.Gen.facts

/-- They run the same bodies, -/
theorem bodies_same : @Cert.Kernel.defs₀ F _ _ = @Cert.KernelIdeal.defs₀ F _ _ := by
  funext p l a
  rcases p with _ | _ | ⟨c, s⟩ <;> fin_cases l
  all_goals exact rfl

/-- under the same pipelines and launches, -/
theorem defs_same : @Cert.Kernel.defs F _ _ = @Cert.KernelIdeal.defs F _ _ :=
  (congrArg (fun D => (Cert.Kernel.sc (F := F)).defs (Pipeline.defs Cert.Kernel.pcfgs D)) bodies_same).trans (by exact rfl)

/-- on the same threads. -/
theorem threads_same : @Cert.Kernel.threads F _ _ = @Cert.KernelIdeal.threads F _ _ := by exact rfl

end Cert.Proof
-- ==== Proof.Frames.lean ====
module

public import proofs.«01_k».proof.Defs
public import proofs.«01_k».proof.Proof.Operands
public import proofs.«01_k».proof.Proof.Ranges
public import proofs.«01_k».proof.Proof.Same
public import proofs.«01_k».proof.Proof.Gen.ReferenceIdeal.Run

/-! The frames: the kernel's, over either kind of float values, from its one run; and the reference's. -/

@[expose] public section

set_option maxRecDepth 16384

noncomputable section

namespace Cert.KernelIdeal.Rows

open Cert.KernelIdeal.Gen Cert.KernelIdeal.Tile
open Idealize.ShloMosaic Idealize.ShloMosaic.TcCoe
open Idealize.SL Idealize.SL.Sem

variable {F : FTy → Type} [FloatOps F]

/-- The run, with what it leaves in the result and the arguments. -/
theorem run_args [∀ e, Nonempty (Elt F e)] (m : (ℓ : Loc nD τ sig) → Buf (Elt F) ℓ) (ρ : Dev nD → PrngReg)
    (h : ∀ (d : Dev nD) (i : S1024x200.Idx), ((m (d, Proc.devRef .tc main_arg0) : S1024x200.Idx → BitVec 32) i).toNat < 100000) :
    θ_run (defs (F := F)) (threads (F := F)) ⟨m, fun _ => 0, ρ⟩ fun r =>
      (∀ c : Dev nD, r.2.mem (c, Proc.devRef .tc main_v18) = V12 m c (Proc.devRef .tc main_v18)
        ∧ ∀ a ∈ [main_arg0, main_arg1, main_arg2, main_arg3, main_arg4, main_arg5, main_arg6, main_arg7],
            r.2.mem (c, Proc.devRef .tc a) = m (c, Proc.devRef .tc a)) ∧ r.2.sem = fun _ => 0 :=
  (θ_run defs _ _).mono (fun r hr => ⟨fun c => ⟨hr.1 c _ (mem_uc _ (by decide)), fun a ha =>
    (hr.1 c _ (mem_uc a (by clear hr; revert ha; revert a; decide))).trans (V12_arg m c a ha)⟩, hr.2⟩) (run_main m ρ (ids_ok m h))

/-- The frame, over any float values. -/
theorem run_frame [∀ e, Nonempty (Elt F e)] (m : (ℓ : Loc nD τ sig) → Buf (Elt F) ℓ) (ρ : Dev nD → PrngReg)
    (h : ∀ (d : Dev nD) (i : S1024x200.Idx), ((m (d, Proc.devRef .tc main_arg0) : S1024x200.Idx → BitVec 32) i).toNat < 100000) :
    θ_run (defs (F := F)) (threads (F := F)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0 :=
  (θ_run defs _ _).mono (fun r hr => ⟨fun c => ⟨(hr.1 c).2 main_arg0 (by decide), (hr.1 c).2 main_arg1 (by decide), (hr.1 c).2 main_arg2 (by decide),
    (hr.1 c).2 main_arg3 (by decide), (hr.1 c).2 main_arg4 (by decide), (hr.1 c).2 main_arg5 (by decide), (hr.1 c).2 main_arg6 (by decide),
    (hr.1 c).2 main_arg7 (by decide)⟩, hr.2⟩) (run_args m ρ h)

/-- The same, of a program given as equal to this one. -/
theorem run_frame_of [∀ e, Nonempty (Elt F e)] (D : Defs nD τ sig (Elt F) (SparseCore.Sig (Pipeline.Sig Λ₀ (Fin 5) fun p => (pcfgs (F := F) p).Adm) 5))
    (hD : D = defs (F := F))
    (T : (c : Thread nD τ) → Prog (TpuEff nD τ sig (Elt F) (SparseCore.Sig (Pipeline.Sig Λ₀ (Fin 5) fun p => (pcfgs (F := F) p).Adm) 5) c.2) PUnit)
    (hT : T = threads (F := F)) (m : (ℓ : Loc nD τ sig) → Buf (Elt F) ℓ) (ρ : Dev nD → PrngReg)
    (h : ∀ (d : Dev nD) (i : S1024x200.Idx), ((m (d, Proc.devRef .tc main_arg0) : S1024x200.Idx → BitVec 32) i).toNat < 100000) :
    θ_run D T ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0 := by
  subst hD hT; exact run_frame m ρ h

end Cert.KernelIdeal.Rows

namespace Cert.Proof

open Idealize.ShloMosaic Idealize.SL.Sem

attribute [local instance] Cert.Kernel.Gen.facts Cert.KernelIdeal.Gen.facts Cert.ReferenceIdeal.Gen.facts Cert.Pre_ids_in_range.facts

/-- The precondition bounds the kernel's index arrays, at the words of its floats -/
theorem range_kernel {m} (h : Cert.Pre_Kernel m) (d : Dev Cert.Kernel.nD) (i : Cert.Kernel.S1024x200.Idx) :
    ((m (d, Proc.devRef .tc Cert.Kernel.main_arg0) : Cert.Kernel.S1024x200.Idx → BitVec 32) i).toNat < 100000 :=
  (Cert.Pre_ids_in_range.bounds (h d) i).1
/-- and over the extended reals. -/
theorem range_ideal {m} (h : Cert.Pre_KernelIdeal m) (d : Dev Cert.KernelIdeal.nD) (i : Cert.KernelIdeal.S1024x200.Idx) :
    ((m (d, Proc.devRef .tc Cert.KernelIdeal.main_arg0) : Cert.KernelIdeal.S1024x200.Idx → BitVec 32) i).toNat < 100000 :=
  (Cert.Pre_ids_in_range.bounds (h d) i).1

set_option maxHeartbeats 4000000 in
/-- The kernel's frame, on the words of its floats. -/
theorem frame_kernel : Cert.quiescent_Kernel := fun m ρ h =>
  Cert.KernelIdeal.Rows.run_frame_of (F := Bits) Cert.Kernel.defs defs_same Cert.Kernel.threads threads_same m ρ (range_kernel h)

/-- The kernel's frame, over the extended reals. -/
theorem frame_ideal : Cert.quiescent_KernelIdeal := fun m ρ h =>
  Cert.KernelIdeal.Rows.run_frame (F := Ideal) m ρ (range_ideal h)

/-- The reference's frame, over the extended reals: its operations write none of its arguments and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.RowMath.lean ====
module

public import Idealize.ShloMosaic.Lib.ValueIdx
public import Idealize.ShloMosaic.Lib.IdealHost

/-! One row of 128 extended reals: its mean, its variance, and the row normalised, scaled and shifted; and the one-hot sum that picks
    two rows of a table. -/

@[expose] public section

noncomputable section

namespace Cert.RowMath

open Idealize.ShloMosaic
open scoped BigOperators

/-- The two float words of the programs, 128 and the small constant under the root. -/
def count : EReal := Ideal.ofBits .f32 0x43000000#32
def eps : EReal := Ideal.ofBits .f32 0x2B8CBCCC#32

theorem count_eq : count = ((128 : ℝ) : EReal) := by
  unfold count; simp [Ideal.ofBits, Ideal.ieee]; norm_cast; norm_num

theorem eps_pos : 0 < eps := by
  unfold eps; simp [Ideal.ofBits, Ideal.ieee]; norm_cast; positivity

/-- The mean of a row, the row less its mean, and the mean of that row's squares. -/
def mean (e : Fin 128 → EReal) : EReal := Ideal.div (∑ l, e l) count
def dev (e : Fin 128 → EReal) (l : Fin 128) : EReal := e l - mean e
def var (e : Fin 128 → EReal) : EReal := Ideal.div (∑ l, dev e l * dev e l) count

/-- The row normalised, times a scale, plus a bias. -/
def norm (e g b : Fin 128 → EReal) (l : Fin 128) : EReal := Ideal.div (dev e l) (Ideal.sqrt (var e + eps)) * g l + b l

theorem mul_self_nonneg (x : EReal) : 0 ≤ x * x := by
  rcases le_total 0 x with h | h
  · exact mul_nonneg h h
  · rw [← neg_mul_neg]; exact mul_nonneg (EReal.neg_nonneg.mpr h) (EReal.neg_nonneg.mpr h)

theorem var_nonneg (e : Fin 128 → EReal) : 0 ≤ var e := by
  unfold var
  rw [count_eq, Ideal.div_coe (by norm_num)]
  exact mul_nonneg (Finset.sum_nonneg fun l _ => mul_self_nonneg _) (by exact_mod_cast (by norm_num : (0 : ℝ) ≤ 1 / 128))

theorem under_root_pos (e : Fin 128 → EReal) : 0 < var e + eps :=
  lt_of_lt_of_le eps_pos (le_add_of_nonneg_left (var_nonneg e))

/-- At a positive value, the product with the reciprocal root is the quotient by the root. -/
theorem mul_rsqrt {w : EReal} (hw : 0 < w) (x : EReal) : x * Ideal.rsqrt w = Ideal.div x (Ideal.sqrt w) := by
  induction w with
  | bot => exact absurd hw (by simp)
  | top => rw [Ideal.rsqrt_top, Ideal.sqrt_top, Ideal.div, if_neg EReal.top_ne_zero, EReal.inv_top]
  | coe r =>
    have hr : 0 < r := by exact_mod_cast hw
    have hs : (Real.sqrt r) ≠ 0 := (Real.sqrt_pos.mpr hr).ne'
    rw [Ideal.rsqrt_coe, Ideal.sqrt_coe, if_neg hr.not_gt, if_neg hr.ne', if_neg hr.not_gt, Ideal.div_coe hs, one_div]

/-- The kernel's form of the normalised row: with the reciprocal root, it is the same row. -/
theorem norm_of_rsqrt (e g b : Fin 128 → EReal) (l : Fin 128) :
    dev e l * Ideal.rsqrt (var e + eps) * g l + b l = norm e g b l := by
  rw [mul_rsqrt (under_root_pos e)]; rfl

/-- One or nothing, by whether two words are the same. -/
def ind (u v : BitVec 32) : EReal := (((IntOp.cmpi .eq u v).setWidth 32).toInt : ℝ)

theorem ind_eq (n : ℕ) (hn : n < 2 ^ 32) (v : BitVec 32) : ind (BitVec.ofNat 32 n) v = if n = v.toNat then 1 else 0 := by
  unfold ind IntOp.cmpi
  by_cases h : n = v.toNat
  · subst h; simp
  · have : (BitVec.ofNat 32 n == v) = false := by
      rw [beq_eq_false_iff_ne]; rintro rfl; apply h; rw [BitVec.toNat_ofNat, Nat.mod_eq_of_lt hn]
    simp [this, h]

/-- The sum over 514 rows against two one-hot marks, among the first 512 and among the last 2, is the sum of the two marked rows. -/
theorem two_hot (t : Fin 514 → EReal) (p s : BitVec 32) (hp : p.toNat < 512) (hs : s.toNat < 2) (h : Fin 514 → EReal)
    (h1 : ∀ k : Fin 512, h (Fin.castAdd 2 k) = ind (BitVec.ofNat 32 k) p) (h2 : ∀ k : Fin 2, h (Fin.natAdd 512 k) = ind (BitVec.ofNat 32 k) s) :
    ∑ k, h k * t k = t ⟨p.toNat, by omega⟩ + t ⟨512 + s.toNat, by omega⟩ := by
  rw [Fin.sum_univ_add (a := 512) (b := 2) fun k => h k * t k]
  congr 1
  · rw [Finset.sum_eq_single ⟨p.toNat, hp⟩]
    · rw [h1, ind_eq _ (by have := hp; simp only []; omega), if_pos rfl, one_mul]; rfl
    · intro k _ hk
      rw [h1, ind_eq _ (by have := k.isLt; omega), if_neg (fun e => hk (Fin.ext e)), zero_mul]
    · intro hn; exact absurd (Finset.mem_univ _) hn
  · rw [Finset.sum_eq_single ⟨s.toNat, hs⟩]
    · rw [h2, ind_eq _ (by simp only []; omega), if_pos rfl, one_mul]; rfl
    · intro k _ hk
      rw [h2, ind_eq _ (by have := k.isLt; omega), if_neg (fun e => hk (Fin.ext e)), zero_mul]
    · intro hn; exact absurd (Finset.mem_univ _) hn

end Cert.RowMath

end
-- ==== Proof.Quarter.lean ====
module

public import proofs.«01_k».proof.Proof.Rows
public import proofs.«01_k».proof.Proof.RowMath
public import Idealize.ShloMosaic.Lib.Pipeline.Value
public import Idealize.ShloMosaic.Lib.ValueLayout

/-! What the TensorCore's part computes from 2048 gathered rows, entry by entry over the extended reals: row `r` of the result is the
    gathered row, plus its position's row and its segment's row of the table, normalised, scaled and shifted. -/

@[expose] public section

set_option maxRecDepth 16384

noncomputable section

namespace Cert.KernelIdeal.Quarter

open Cert.KernelIdeal.Gen Cert.KernelIdeal.Rows Cert.RowMath
open Idealize.ShloMosaic Idealize.ShloMosaic.ValueIdx
open scoped BigOperators

/-- The marks of 2048 rows: among the first 512 lines the one of a row's position, among the last 2 the one of its segment. -/
def marks (p s : Vec Ideal S1x1x2048 .i32) : FVec Ideal S514x2048 .bf16 :=
  concatenate S514x2048 0
    [⟨S512x2048, truncf .bf16 (sitofp .f32 (extui 32 (cmpi .eq (iota .tc S512x2048 32 [0] iota_S512x2048_d0_w32)
        (broadcastTo S512x2048 (shapeCast S1x2048 p shapeCasts_S1x1x2048_S1x2048) broadcasts_S1x2048_S512x2048)) natLt_1_32)) bitsLt_bf16_f32⟩,
      ⟨S2x2048, truncf .bf16 (sitofp .f32 (extui 32 (cmpi .eq (iota .tc S2x2048 32 [0] iota_S2x2048_d0_w32)
        (broadcastTo S2x2048 (shapeCast S1x2048 s shapeCasts_S1x1x2048_S1x2048) broadcasts_S1x2048_S2x2048)) natLt_1_32)) bitsLt_bf16_f32⟩]
    concatenates_S512x2048_S2x2048_S514x2048_d0

theorem num_apply (p : Vec Ideal S1x1x2048 .i32) (r : Fin 2048) :
    shapeCast S1x2048 p shapeCasts_S1x1x2048_S1x2048 (ix2 0 r) = p (ix3 0 0 r) :=
  shapeCast_1ab_ab_apply p _ 0 r

theorem marks_position (p s : Vec Ideal S1x1x2048 .i32) (k : Fin 512) (r : Fin 2048) :
    marks p s (ix2 (Fin.castAdd 2 k) r) = ind (BitVec.ofNat 32 k) (p (ix3 0 0 r)) := by
  unfold marks
  refine (concatenate_pair_apply_left (t := S514x2048) (s₁ := S512x2048) (s₂ := S2x2048) 0 _ _ _ (ix2 (n0 := 514) (Fin.castAdd 2 k) r) rfl (ix2 k r)
    fun b => by match b with | ⟨0, _⟩ => rfl | ⟨1, _⟩ => rfl).trans ?_
  show ((((IntOp.cmpi .eq _ _).setWidth 32).toInt : ℝ) : EReal) = _
  rw [iota_single_apply, broadcastTo_1b_ab_apply, num_apply]
  rfl

theorem marks_segment (p s : Vec Ideal S1x1x2048 .i32) (k : Fin 2) (r : Fin 2048) :
    marks p s (ix2 (Fin.natAdd 512 k) r) = ind (BitVec.ofNat 32 k) (s (ix3 0 0 r)) := by
  unfold marks
  refine (concatenate_pair_apply_right (t := S514x2048) (s₁ := S512x2048) (s₂ := S2x2048) 0 _ _ _ (ix2 (n0 := 514) (Fin.natAdd 512 k) r) rfl rfl (ix2 k r)
    (fun b hb => by match b with | ⟨0, _⟩ => exact absurd rfl hb | ⟨1, _⟩ => rfl) (by show k.val + 512 = 512 + k.val; omega)).trans ?_
  show ((((IntOp.cmpi .eq _ _).setWidth 32).toInt : ℝ) : EReal) = _
  rw [iota_single_apply, broadcastTo_1b_ab_apply, num_apply]
  rfl

/-- The table's product with the marks. -/
def picked (tab : Vec Ideal S514x128 .bf16) (p s : Vec Ideal S1x1x2048 .i32) : FVec Ideal S2048x128 .f32 :=
  matmul (φ₁ := .bf16) (φ₂ := .bf16) dot_S514x2048_S514x128_S2048x128_0_0_1_1_n_n none (marks p s) tab (constant S2048x128 .f32 0x00000000#32)

theorem picked_apply (tab : Vec Ideal S514x128 .bf16) (p s : Vec Ideal S1x1x2048 .i32) (r : Fin 2048) (l : Fin 128) :
    picked tab p s (ix2 r l) = ∑ k : Fin 514, marks p s (ix2 k r) * tab (ix2 k l) := by
  unfold picked
  let D := dot_S514x2048_S514x128_S2048x128_0_0_1_1_n_n
  have hr : D.contr.rank = 1 := rfl
  have hs : D.contr.size ⟨0, by omega⟩ = 514 := rfl
  refine (Ideal.matmul_constant_zero_apply D none (marks p s) tab (ix2 r l)).trans ?_
  rw [← Equiv.sum_comp (contrEquiv1 D 514 hr hs).symm]
  refine Finset.sum_congr rfl fun k _ => ?_
  have hk := contrEquiv1_symm_val D 514 hr hs k
  have el : D.lhsIdx (ix2 r l) ((contrEquiv1 D 514 hr hs).symm k) = ix2 k r := by
    funext a; apply Fin.ext
    match a with
    | ⟨0, _⟩ => exact hk
    | ⟨1, _⟩ => rfl
  have er : D.rhsIdx (ix2 r l) ((contrEquiv1 D 514 hr hs).symm k) = ix2 k l := by
    funext a; apply Fin.ext
    match a with
    | ⟨0, _⟩ => exact hk
    | ⟨1, _⟩ => rfl
  rw [el, er]

/-- A gathered row with the two rows of the table added. -/
def embRow (tab : Vec Ideal S514x128 .bf16) (x : Vec Ideal S2048x128 .f32) (p s : BitVec 32) (hp : p.toNat < 512) (hs : s.toNat < 2)
    (r : Fin 2048) (l : Fin 128) : EReal :=
  x (ix2 r l) + (tab (ix2 ⟨p.toNat, by omega⟩ l) + tab (ix2 ⟨512 + s.toNat, by omega⟩ l))

theorem emb_apply (tab : Vec Ideal S514x128 .bf16) (x : Vec Ideal S2048x128 .f32) (p s : Vec Ideal S1x1x2048 .i32) (r : Fin 2048)
    (hp : (p (ix3 0 0 r)).toNat < 512) (hs : (s (ix3 0 0 r)).toNat < 2) (l : Fin 128) :
    addf (F := Ideal) (φ := .f32) x (picked tab p s) (ix2 r l) = embRow tab x (p (ix3 0 0 r)) (s (ix3 0 0 r)) hp hs r l := by
  rw [addf_apply, picked_apply]
  unfold embRow
  exact congrArg _ (two_hot (fun k => tab (ix2 k l)) _ _ hp hs (fun k => marks p s (ix2 k r)) (fun k => marks_position p s k r) fun k => marks_segment p s k r)

/-- The sum of a row. -/
theorem sum_apply (e : FVec Ideal S2048x128 .f32) (r : Fin 2048) :
    shapeCast S2048x1 (multiReduction .add [1] S2048 e 0x00000000#32 reduces_S2048x128_S2048 (.inl rfl) rfl) shapeCasts_S2048_S2048x1 (ix2 r 0)
      = ∑ l : Fin 128, e (ix2 r l) := by
  rw [shapeCast_apply _ _ (ix2 r 0) (ix1 r) (by rw [Shape.rowMajor_val_one, Shape.rowMajor_val_two]; show r.val = r.val * 1 + 0; omega)]
  refine (Ideal.multiReduction_add_single e _ _ _ _ _).trans ?_
  refine Finset.sum_congr rfl fun l _ => congrArg e ?_
  funext a; apply Fin.ext
  match a with
  | ⟨0, _⟩ => rfl
  | ⟨1, _⟩ => rfl

/-- One value per row, laid along the row. -/
theorem column_apply (v : FVec Ideal S2048x1 .f32) (r : Fin 2048) (l : Fin 128) :
    broadcastTo S2048x128 v broadcasts_S2048x1_S2048x128 (ix2 r l) = v (ix2 r 0) :=
  broadcastTo_apply _ _ _ _ fun a => by match a with | ⟨0, _⟩ => rfl | ⟨1, _⟩ => rfl

/-- The rows less their means. -/
def centred (e : FVec Ideal S2048x128 .f32) : FVec Ideal S2048x128 .f32 :=
  subf e (broadcastTo S2048x128 (divf (shapeCast S2048x1 (multiReduction .add [1] S2048 e 0x00000000#32 reduces_S2048x128_S2048 (.inl rfl) rfl) shapeCasts_S2048_S2048x1)
    (broadcast S2048x1 (Scalar.ofBits .f32 0x43000000#32))) broadcasts_S2048x1_S2048x128)

theorem centred_apply (e : FVec Ideal S2048x128 .f32) (r : Fin 2048) (l : Fin 128) :
    centred e (ix2 r l) = dev (fun l => e (ix2 r l)) l := by
  unfold centred
  rw [subf_apply, column_apply, divf_apply, sum_apply]
  rfl

/-- The rows normalised. -/
def normed (e : FVec Ideal S2048x128 .f32) : FVec Ideal S2048x128 .f32 :=
  mulf (centred e) (broadcastTo S2048x128 (rsqrt (addf (divf (shapeCast S2048x1
    (multiReduction .add [1] S2048 (mulf (centred e) (centred e)) 0x00000000#32 reduces_S2048x128_S2048 (.inl rfl) rfl) shapeCasts_S2048_S2048x1)
    (broadcast S2048x1 (Scalar.ofBits .f32 0x43000000#32))) (broadcast S2048x1 (Scalar.ofBits .f32 0x2B8CBCCC#32)))) broadcasts_S2048x1_S2048x128)

theorem normed_apply (e : FVec Ideal S2048x128 .f32) (r : Fin 2048) (l : Fin 128) :
    normed e (ix2 r l) = dev (fun l => e (ix2 r l)) l * Ideal.rsqrt (var (fun l => e (ix2 r l)) + eps) := by
  unfold normed
  rw [mulf_apply, column_apply, centred_apply]
  refine congrArg (fun t : EReal => dev (fun l => e (ix2 r l)) l * t) ?_
  show Ideal.rsqrt (Ideal.div _ count + eps) = _
  rw [sum_apply]
  unfold var
  refine congrArg (fun t : EReal => Ideal.rsqrt (Ideal.div t count + eps)) (Finset.sum_congr rfl fun l _ => ?_)
  rw [mulf_apply, centred_apply]

theorem pay3_eq (tab : Vec Ideal S514x128 .bf16) (x : Vec Ideal S2048x128 .f32) (p s : Vec Ideal S1x1x2048 .i32) :
    k5_pay3 tab x p s = normed (addf (F := Ideal) (φ := .f32) (shapeCast S2048x128 x shapeCasts_S2048x128_S2048x128)
      (picked (shapeCast S514x128 tab shapeCasts_S514x128_S514x128) p s)) := rfl

/-- Row `r` of a quarter: the embedded row normalised, scaled and shifted. -/
theorem quarter_apply (tab : Vec Ideal S514x128 .bf16) (x : Vec Ideal S2048x128 .f32) (p s : Vec Ideal S1x1x2048 .i32) (g b : Vec Ideal S1x128 .f32)
    (r : Fin 2048) (hp : (p (ix3 0 0 r)).toNat < 512) (hs : (s (ix3 0 0 r)).toNat < 2) (l : Fin 128) :
    quarter tab x p s g b (ix2 r l)
      = norm (embRow tab x (p (ix3 0 0 r)) (s (ix3 0 0 r)) hp hs r) (fun l => g (ix2 0 l)) (fun l => b (ix2 0 l)) l := by
  rw [← norm_of_rsqrt]
  unfold quarter
  rw [pay3_eq]
  simp only [k5_pay4, k5_pay5, shapeCast_self]
  rw [addf_apply, mulf_apply, broadcastTo_1b_ab_apply, broadcastTo_1b_ab_apply, normed_apply]
  simp only [emb_apply tab x p s r hp hs]

end Cert.KernelIdeal.Quarter

end
-- ==== Proof.BlockValue.lean ====
module

public import proofs.«01_k».proof.Proof.Quarter

/-! What one call of the TensorCore's part leaves in one block of 8192 rows, entry by entry over the extended reals. -/

@[expose] public section

set_option maxRecDepth 16384

noncomputable section

namespace Cert.KernelIdeal.Quarter

open Cert.KernelIdeal.Gen Cert.KernelIdeal.Rows Cert.RowMath
open Idealize.ShloMosaic Idealize.ShloMosaic.ValueIdx
open scoped BigOperators

section
variable (x : Vec Ideal S8192x128 .f32) (p s : Vec Ideal S1x1x8192 .i32) (tab : Vec Ideal S514x128 .bf16) (g b : Vec Ideal S1x128 .f32)
  (hp : ∀ j, (p j).toNat < 512) (hs : ∀ j, (s j).toNat < 2)

/-- Row `r` of a block with its two rows of the table added. -/
def blockRow (r : Fin 8192) (l : Fin 128) : EReal :=
  x (ix2 r l) + (tab (ix2 ⟨(p (ix3 0 0 r)).toNat, by have := hp (ix3 0 0 r); omega⟩ l)
    + tab (ix2 ⟨512 + (s (ix3 0 0 r)).toNat, by have := hs (ix3 0 0 r); omega⟩ l))

/-- The block of results: every row normalised, scaled and shifted. -/
def blockOf (y : S8192x128.Idx) : EReal :=
  norm (blockRow x p s tab hp hs (y 0)) (fun l => g (ix2 0 l)) (fun l => b (ix2 0 l)) (y 1)

/-- The quarter of a block that starts at row `o` is that part of the block of results. -/
theorem quarter_at (o : ℕ) (h1 : ∀ a, ![o, 0] a + S2048x128.size a ≤ S8192x128.size a) (h2 : ∀ a, ![0, 0, o] a + S1x1x2048.size a ≤ S1x1x8192.size a)
    (z : S2048x128.Idx) :
    quarter (F := Ideal) (View.ld (Val := Elt Ideal) tab tabR) (View.ld (Val := Elt Ideal) x (Rect.unit (s := S8192x128) ![o, 0] S2048x128.size h1))
        (View.ld (Val := Elt Ideal) p (Rect.unit (s := S1x1x8192) ![0, 0, o] S1x1x2048.size h2))
        (View.ld (Val := Elt Ideal) s (Rect.unit (s := S1x1x8192) ![0, 0, o] S1x1x2048.size h2))
        (View.ld (Val := Elt Ideal) g vecR) (View.ld (Val := Elt Ideal) b vecR) z
      = blockOf x p s tab g b hp hs ((Rect.unit (s := S8192x128) ![o, 0] S2048x128.size h1).emb z) := by
  have z2 : ![0, 0] = fun _ : Fin 2 => 0 := by funext a; match a with | ⟨0, _⟩ => rfl | ⟨1, _⟩ => rfl
  have ho : o + 2048 ≤ 8192 := h1 0
  obtain ⟨r, l, rfl⟩ : ∃ (r : Fin 2048) (l : Fin 128), z = ix2 r l := ⟨z 0, z 1, eq_ix2 z⟩
  have er : ∀ l : Fin 128, (Rect.unit (s := S8192x128) ![o, 0] S2048x128.size h1).emb (ix2 r l) = ix2 ⟨o + r.val, by omega⟩ l := fun l => by
    funext a; apply Fin.ext
    match a with
    | ⟨0, _⟩ => show o + 1 * r.val = o + r.val; omega
    | ⟨1, _⟩ => show 0 + 1 * l.val = l.val; omega
  have en : (Rect.unit (s := S1x1x8192) ![0, 0, o] S1x1x2048.size h2).emb (ix3 0 0 r) = ix3 0 0 ⟨o + r.val, by omega⟩ := by
    funext a; apply Fin.ext
    match a with
    | ⟨0, _⟩ => rfl
    | ⟨1, _⟩ => rfl
    | ⟨2, _⟩ => show o + 1 * r.val = o + r.val; omega
  rw [er]
  have e1 : View.ld (Val := Elt Ideal) tab tabR = tab := View.ld_unit_zero z2 _ _
  have e2 : View.ld (Val := Elt Ideal) g vecR = g := View.ld_unit_zero z2 _ _
  have e3 : View.ld (Val := Elt Ideal) b vecR = b := View.ld_unit_zero z2 _ _
  rw [e1, e2, e3, quarter_apply _ _ _ _ _ _ _ (hp _) (hs _)]
  unfold blockOf
  refine congrArg (fun e => norm e _ _ l) (funext fun l' => ?_)
  unfold embRow blockRow
  have ex : View.ld (Val := Elt Ideal) x (Rect.unit (s := S8192x128) ![o, 0] S2048x128.size h1) (ix2 r l') = x (ix2 ⟨o + r.val, by omega⟩ l') := congrArg x (er l')
  have ep : View.ld (Val := Elt Ideal) p (Rect.unit (s := S1x1x8192) ![0, 0, o] S1x1x2048.size h2) (ix3 0 0 r) = p (ix3 0 0 ⟨o + r.val, by omega⟩) := congrArg p en
  have es : View.ld (Val := Elt Ideal) s (Rect.unit (s := S1x1x8192) ![0, 0, o] S1x1x2048.size h2) (ix3 0 0 r) = s (ix3 0 0 ⟨o + r.val, by omega⟩) := congrArg s en
  simp only [ex, ep, es]

/-- The block the body leaves is the block of results. -/
theorem block_eq : block (F := Ideal) x p s tab g b = blockOf x p s tab g b hp hs := by
  funext y
  unfold block
  refine View.canon_apply_of_pieces (Val := Elt Ideal) (e := .f32) (blockOf x p s tab g b hp hs) _ ?_ y (block_cover _ _ _ _ y)
  intro q hq
  simp only [List.mem_cons, List.not_mem_nil, or_false] at hq
  rcases hq with rfl | rfl | rfl | rfl
  · exact quarter_at x p s tab g b hp hs 6144 _ _
  · exact quarter_at x p s tab g b hp hs 4096 _ _
  · exact quarter_at x p s tab g b hp hs 2048 _ _
  · exact quarter_at x p s tab g b hp hs 0 _ _

end

end Cert.KernelIdeal.Quarter

end
-- ==== Proof.Flat.lean ====
module

public import proofs.«01_k».proof.Proof.BlockValue

/-! The result of the whole computation, word by word over the extended reals, laid out flat in 204800 rows; and one block of it from one
    block of each operand. -/

@[expose] public section

set_option maxRecDepth 16384

noncomputable section

namespace Cert.KernelIdeal.Quarter

open Cert.KernelIdeal.Gen Cert.KernelIdeal.Rows Cert.RowMath
open Idealize.ShloMosaic Idealize.ShloMosaic.ValueIdx
open scoped BigOperators

section
/- The words' numbers, segments and places; the three tables; the scale and the bias. -/
variable (a0 a1 a2 : S1024x200.Idx → BitVec 32) (Tb : S100000x128.Idx → EReal) (Tp : S512x128.Idx → EReal) (Ts : S2x128.Idx → EReal)
  (sc bi : S128.Idx → EReal) (hB : ∀ i, (a0 i).toNat < 100000 ∧ (a1 i).toNat < 2 ∧ (a2 i).toNat < 512)

/-- The embedding of word `i`. -/
def embedding (i : S1024x200.Idx) (l : Fin 128) : EReal :=
  Tb (ix2 ⟨(a0 i).toNat, (hB i).1⟩ l) + (Tp (ix2 ⟨(a2 i).toNat, (hB i).2.2⟩ l) + Ts (ix2 ⟨(a1 i).toNat, (hB i).2.1⟩ l))

/-- The result at word `i`: its embedding normalised, scaled and shifted. -/
def result (i : S1024x200.Idx) (l : Fin 128) : EReal :=
  norm (embedding a0 a1 a2 Tb Tp Ts hB i) (fun l => sc (ix1 l)) (fun l => bi (ix1 l)) l

/-- The word of flat row `n`. -/
def word (n : Fin 204800) : S1024x200.Idx := ix2 ⟨n.val / 200, by have := n.isLt; omega⟩ ⟨n.val % 200, Nat.mod_lt _ (by decide)⟩

/-- The results, laid out flat. -/
def flat (y : S204800x128.Idx) : EReal := result a0 a1 a2 Tb Tp Ts sc bi hB (word (y 0)) (y 1)

/-- The flat row of row `r` of chunk `k`. -/
def chunkRow (k : Fin 5) (r : Fin 40960) : Fin 204800 := ⟨40960 * k.val + r.val, by have := k.isLt; have := r.isLt; omega⟩
/-- The flat row of place `r` of block `q`. -/
def placeRow (q : Fin 25) (r : Fin 8192) : Fin 204800 := ⟨8192 * q.val + r.val, by have := q.isLt; have := r.isLt; omega⟩
/-- Block `t` of a chunk: its number among all blocks, its row within the chunk. -/
def blockNo (k t : Fin 5) : Fin 25 := ⟨5 * k.val + t.val, by have := k.isLt; have := t.isLt; omega⟩
def inChunk (t : Fin 5) (r : Fin 8192) : Fin 40960 := ⟨8192 * t.val + r.val, by have := t.isLt; have := r.isLt; omega⟩

theorem chunkRow_inChunk (k t : Fin 5) (r : Fin 8192) : chunkRow k (inChunk t r) = placeRow (blockNo k t) r :=
  Fin.ext (by show 40960 * k.val + (8192 * t.val + r.val) = 8192 * (5 * k.val + t.val) + r.val; omega)

/-- The six operands of the call on chunk `k` hold what they should. -/
structure Ready (k : Fin 5) (X : S40960x128.Idx → EReal) (P S : S25x1x8192.Idx → BitVec 32) (T : S514x128.Idx → EReal) (g b : S1x128.Idx → EReal) : Prop where
  rows : ∀ r l, X (ix2 r l) = Tb (ix2 ⟨(a0 (word (chunkRow k r))).toNat, (hB _).1⟩ l)
  places : ∀ q r, P (ix3 q 0 r) = a2 (word (placeRow q r))
  segments : ∀ q r, S (ix3 q 0 r) = a1 (word (placeRow q r))
  upper : ∀ (n : ℕ) (h : n < 512) l, T (ix2 ⟨n, by omega⟩ l) = Tp (ix2 ⟨n, h⟩ l)
  lower : ∀ (n : ℕ) (h : n < 2) l, T (ix2 ⟨512 + n, by omega⟩ l) = Ts (ix2 ⟨n, h⟩ l)
  scale : ∀ l, g (ix2 0 l) = sc (ix1 l)
  shift : ∀ l, b (ix2 0 l) = bi (ix1 l)

variable {a0 a1 a2 Tb Tp Ts sc bi hB}

/-- So block `t` of the call is that block of the results. -/
theorem Ready.block {k : Fin 5} {X : S40960x128.Idx → EReal} {P S : S25x1x8192.Idx → BitVec 32} {T : S514x128.Idx → EReal} {g b : S1x128.Idx → EReal}
    (R : Ready a0 a1 a2 Tb Tp Ts sc bi hB k X P S T g b) (t : Fin 5) (x : Vec Ideal S8192x128 .f32) (p s : Vec Ideal S1x1x8192 .i32)
    (ex : ∀ r l, x (ix2 r l) = X (ix2 (inChunk t r) l)) (ep : ∀ r, p (ix3 0 0 r) = P (ix3 (blockNo k t) 0 r))
    (es : ∀ r, s (ix3 0 0 r) = S (ix3 (blockNo k t) 0 r)) (r : Fin 8192) (l : Fin 128) :
    Rows.block (F := Ideal) x p s T g b (ix2 r l) = flat a0 a1 a2 Tb Tp Ts sc bi hB (ix2 (placeRow (blockNo k t) r) l) := by
  have ep' : ∀ r, p (ix3 0 0 r) = a2 (word (placeRow (blockNo k t) r)) := fun r => (ep r).trans (R.places _ _)
  have es' : ∀ r, s (ix3 0 0 r) = a1 (word (placeRow (blockNo k t) r)) := fun r => (es r).trans (R.segments _ _)
  have unit : ∀ j : S1x1x8192.Idx, ∃ r : Fin 8192, j = ix3 0 0 r := fun j => ⟨j 2, by
    funext a; match a with
    | ⟨0, _⟩ => exact Subsingleton.elim (α := Fin 1) _ _
    | ⟨1, _⟩ => exact Subsingleton.elim (α := Fin 1) _ _
    | ⟨2, _⟩ => rfl⟩
  have hp : ∀ j, (p j).toNat < 512 := fun j => by obtain ⟨r, rfl⟩ := unit j; rw [ep']; exact (hB _).2.2
  have hs : ∀ j, (s j).toNat < 2 := fun j => by obtain ⟨r, rfl⟩ := unit j; rw [es']; exact (hB _).2.1
  rw [block_eq x p s T g b hp hs]
  show norm (blockRow x p s T hp hs r) (fun l => g (ix2 0 l)) (fun l => b (ix2 0 l)) l
    = norm (embedding a0 a1 a2 Tb Tp Ts hB (word (placeRow (blockNo k t) r))) (fun l => sc (ix1 l)) (fun l => bi (ix1 l)) l
  have eg : (fun l => g (ix2 0 l)) = fun l => sc (ix1 l) := funext R.scale
  have eb : (fun l => b (ix2 0 l)) = fun l => bi (ix1 l) := funext R.shift
  rw [eg, eb]
  refine congrArg (fun e => norm e _ _ l) (funext fun l' => ?_)
  unfold blockRow embedding
  rw [ex, R.rows, chunkRow_inChunk, R.upper _ (hp _), R.lower _ (hs _)]
  simp only [ep', es']

end

end Cert.KernelIdeal.Quarter

end
-- ==== Proof.OperandValue.lean ====
module

public import proofs.«01_k».proof.Proof.Operands
public import proofs.«01_k».proof.Proof.Flat

/-! What the operands of the TensorCore's calls hold over the extended reals, word by word, from the arguments. -/

@[expose] public section

set_option maxRecDepth 16384

noncomputable section

namespace Cert.KernelIdeal.Rows

open Cert.KernelIdeal.Gen Cert.KernelIdeal.Tile Cert.KernelIdeal.Quarter
open Idealize.ShloMosaic Idealize.ShloMosaic.TcCoe Idealize.ShloMosaic.ValueIdx
open Idealize.SL Idealize.SL.Sem

variable (m : (ℓ : Loc nD τ sig) → Buf (Elt Ideal) ℓ) (d : Dev nD)

/-- The arguments, as plain arrays. -/
abbrev arr0 : S1024x200.Idx → BitVec 32 := m (d, Proc.devRef .tc main_arg0)
abbrev arr1 : S1024x200.Idx → BitVec 32 := m (d, Proc.devRef .tc main_arg1)
abbrev arr2 : S1024x200.Idx → BitVec 32 := m (d, Proc.devRef .tc main_arg2)
abbrev arr3 : S100000x128.Idx → EReal := m (d, Proc.devRef .tc main_arg3)
abbrev arr4 : S512x128.Idx → EReal := m (d, Proc.devRef .tc main_arg4)
abbrev arr5 : S2x128.Idx → EReal := m (d, Proc.devRef .tc main_arg5)
abbrev arr6 : S128.Idx → EReal := m (d, Proc.devRef .tc main_arg6)
abbrev arr7 : S128.Idx → EReal := m (d, Proc.devRef .tc main_arg7)

/-- The word of flat row `n` is the word at place `n` in row-major order. -/
theorem word_place (n : Fin 204800) : (S1024x200.rowMajor (word n)).val = n.val := by
  rw [Shape.rowMajor_val_two]
  show n.val / 200 * 200 + n.val % 200 = n.val
  omega

theorem ids_apply (k : Fin 5) (r : Fin 40960) :
    ids m d (idIx (320 * k.val + r.val / 128) (r.val % 128)) = arr0 m d (word (chunkRow k r)) := by
  have hk := k.isLt
  have hr := r.isLt
  unfold ids
  rw [V1_7]
  refine (shapeCast_apply _ _ (idIx (320 * k.val + r.val / 128) (r.val % 128)) (ix1 (chunkRow k r)) ?_).trans
    (shapeCast_apply _ _ (ix1 (chunkRow k r)) (word (chunkRow k r)) ?_)
  · rw [Shape.rowMajor_val_one, Shape.rowMajor_val_two]
    show 40960 * k.val + r.val = (320 * k.val + r.val / 128) % 1600 * 128 + r.val % 128 % 128
    omega
  · rw [word_place, Shape.rowMajor_val_one]

theorem numbers_apply (a : S1024x200.Idx → BitVec 32) (q : Fin 25) (r : Fin 8192) :
    shapeCast S25x1x8192 a shapeCasts_S1024x200_S25x1x8192 (ix3 q 0 r) = a (word (placeRow q r)) := by
  refine shapeCast_apply _ _ (ix3 q 0 r) (word (placeRow q r)) ?_
  rw [word_place, Shape.rowMajor_val_three]
  show 8192 * q.val + r.val = (q.val * 1 + 0) * 8192 + r.val
  omega

theorem vec_apply (a : S128.Idx → EReal) (l : Fin 128) : shapeCast S1x128 a shapeCasts_S128_S1x128 (ix2 0 l) = a (ix1 l) :=
  shapeCast_a_1a_apply a _ _ _

theorem table_upper (n : ℕ) (h : n < 512) (l : Fin 128) :
    (V1 m d (Proc.devRef .tc main_v4) : S514x128.Idx → EReal) (ix2 ⟨n, by omega⟩ l) = arr4 m d (ix2 ⟨n, h⟩ l) := by
  rw [V1_4, truncf_apply]
  refine (concatenate_pair_apply_left (t := S514x128) (s₁ := S512x128) (s₂ := S2x128) 0 _ _ concatenates_S512x128_S2x128_S514x128_d0 (ix2 (n0 := 514) ⟨n, by omega⟩ l) rfl (ix2 ⟨n, h⟩ l)
    fun b => by match b with | ⟨0, _⟩ => rfl | ⟨1, _⟩ => rfl).trans ?_
  rfl

theorem table_lower (n : ℕ) (h : n < 2) (l : Fin 128) :
    (V1 m d (Proc.devRef .tc main_v4) : S514x128.Idx → EReal) (ix2 ⟨512 + n, by omega⟩ l) = arr5 m d (ix2 ⟨n, h⟩ l) := by
  rw [V1_4, truncf_apply]
  refine (concatenate_pair_apply_right (t := S514x128) (s₁ := S512x128) (s₂ := S2x128) 0 _ _ concatenates_S512x128_S2x128_S514x128_d0 (ix2 (n0 := 514) ⟨512 + n, by omega⟩ l) rfl rfl (ix2 ⟨n, h⟩ l)
    (fun b hb => by match b with | ⟨0, _⟩ => exact absurd rfl hb | ⟨1, _⟩ => rfl) (by show n + 512 = 512 + n; omega)).trans ?_
  rfl

variable (hB : ∀ i, (arr0 m d i).toNat < 100000 ∧ (arr1 m d i).toNat < 2 ∧ (arr2 m d i).toNat < 512)

theorem got_apply (k : Fin 5) (r : Fin 40960) (l : Fin 128) :
    (got m (ids m) k d : S40960x128.Idx → EReal) (ix2 r l) = arr3 m d (ix2 ⟨(arr0 m d (word (chunkRow k r))).toNat, (hB _).1⟩ l) := by
  show arr3 m d (tblIx (ids m d (idIx (320 * k.val + r.val / 128) (r.val % 128))).toNat l) = _
  rw [ids_apply]
  refine congrArg (arr3 m d) (funext fun a => ?_)
  match a with
  | ⟨0, _⟩ => exact Fin.ext (Nat.mod_eq_of_lt (hB _).1)
  | ⟨1, _⟩ => rfl

/-- The operands of the call on chunk `k` hold what they should. -/
theorem ready (k : Fin 5) : Ready (arr0 m d) (arr1 m d) (arr2 m d) (arr3 m d) (arr4 m d) (arr5 m d) (arr6 m d) (arr7 m d) hB k
    (got m (ids m) k d) (V1 m d (Proc.devRef .tc main_v1)) (V1 m d (Proc.devRef .tc main_v2)) (V1 m d (Proc.devRef .tc main_v4))
    (V1 m d (Proc.devRef .tc main_v5)) (V1 m d (Proc.devRef .tc main_v6)) where
  rows r l := got_apply m d hB k r l
  places q r := by rw [V1_1]; exact numbers_apply _ q r
  segments q r := by rw [V1_2]; exact numbers_apply _ q r
  upper n h l := table_upper m d n h l
  lower n h l := table_lower m d n h l
  scale l := by rw [V1_5]; exact vec_apply _ l
  shift l := by rw [V1_6]; exact vec_apply _ l

end Cert.KernelIdeal.Rows

end
-- ==== Proof.CallValue.lean ====
module

public import proofs.«01_k».proof.Proof.OperandValue
public import Idealize.ShloMosaic.Lib.Pipeline.Value

/-! What each call on the TensorCore makes of its result's array: one chunk of the results, the other rows as they were. -/

@[expose] public section

set_option maxRecDepth 16384

noncomputable section

namespace Cert.KernelIdeal.Rows

open Cert.KernelIdeal.Gen Cert.KernelIdeal.Tile Cert.KernelIdeal.Quarter
open Idealize.ShloMosaic Idealize.ShloMosaic.TcCoe Idealize.ShloMosaic.ValueIdx
open Idealize.SL Idealize.SL.Sem
open Idealize.ShloMosaic.Pipeline (Dat)

section
variable {a0 a1 a2 : S1024x200.Idx → BitVec 32} {Tb : S100000x128.Idx → EReal} {Tp : S512x128.Idx → EReal} {Ts : S2x128.Idx → EReal}
  {sc bi : S128.Idx → EReal} {hB : ∀ i, (a0 i).toNat < 100000 ∧ (a1 i).toNat < 2 ∧ (a2 i).toNat < 512}

/-- The rows of the first `k` chunks of an array are the results'. -/
def Upto (a0 a1 a2 : S1024x200.Idx → BitVec 32) (Tb : S100000x128.Idx → EReal) (Tp : S512x128.Idx → EReal) (Ts : S2x128.Idx → EReal)
    (sc bi : S128.Idx → EReal) (hB : ∀ i, (a0 i).toNat < 100000 ∧ (a1 i).toNat < 2 ∧ (a2 i).toNat < 512) (k : ℕ) (A : S204800x128.Idx → EReal) : Prop :=
  ∀ i : S204800x128.Idx, (i 0).val < 40960 * k → A i = flat a0 a1 a2 Tb Tp Ts sc bi hB i

/-- One block of a call, its operands read where its windows lie: that block of the results. -/
theorem block_read {k : Fin 5} {X : S40960x128.Idx → EReal} {P S : S25x1x8192.Idx → BitVec 32} {T : S514x128.Idx → EReal} {g b : S1x128.Idx → EReal}
    (R : Ready a0 a1 a2 Tb Tp Ts sc bi hB k X P S T g b) (t : ℕ) (ht : t < 5)
    (f0 : S8192x128.Idx → S40960x128.Idx) (f1 f2 : S1x1x8192.Idx → S25x1x8192.Idx) (f3 : S514x128.Idx → S514x128.Idx) (f4 f5 : S1x128.Idx → S1x128.Idx)
    (f6 : S8192x128.Idx → S204800x128.Idx)
    (h0 : ∀ y, (f0 y 0).val = t * 8192 + (y 0).val ∧ (f0 y 1).val = (y 1).val)
    (h1 : ∀ y, (f1 y 0).val = (5 * k.val + t) * 1 + (y 0).val ∧ (f1 y 2).val = (y 2).val)
    (h2 : ∀ y, (f2 y 0).val = (5 * k.val + t) * 1 + (y 0).val ∧ (f2 y 2).val = (y 2).val)
    (h3 : ∀ y, (f3 y 0).val = (y 0).val ∧ (f3 y 1).val = (y 1).val)
    (h4 : ∀ y, (f4 y 1).val = (y 1).val) (h5 : ∀ y, (f5 y 1).val = (y 1).val)
    (h6 : ∀ y, (f6 y 0).val = (5 * k.val + t) * 8192 + (y 0).val ∧ (f6 y 1).val = (y 1).val) :
    block (F := Ideal) (fun y => X (f0 y)) (fun y => P (f1 y)) (fun y => S (f2 y)) (fun y => T (f3 y)) (fun y => g (f4 y)) (fun y => b (f5 y))
      = fun y => flat a0 a1 a2 Tb Tp Ts sc bi hB (f6 y) := by
  have e3 : f3 = id := funext fun y => funext fun a => Fin.ext (by match a with | ⟨0, _⟩ => exact (h3 y).1 | ⟨1, _⟩ => exact (h3 y).2)
  have one (f : S1x128.Idx → S1x128.Idx) (h : ∀ y, (f y 1).val = (y 1).val) : f = id := funext fun y => funext fun a => by
    match a with
    | ⟨0, _⟩ => exact Subsingleton.elim (α := Fin 1) _ _
    | ⟨1, _⟩ => exact Fin.ext (h y)
  rw [e3, one f4 h4, one f5 h5]
  funext y
  obtain ⟨r, l, rfl⟩ : ∃ (r : Fin 8192) (l : Fin 128), y = ix2 r l := ⟨y 0, y 1, eq_ix2 (n0 := 8192) (n1 := 128) y⟩
  refine (R.block (⟨t, ht⟩ : Fin 5) _ _ _ (fun r l => ?_) (fun r => ?_) (fun r => ?_) r l).trans ?_
  · refine congrArg X (funext fun a => Fin.ext ?_)
    match a with
    | ⟨0, _⟩ => exact (h0 (ix2 r l)).1.trans (by show t * 8192 + r.val = 8192 * t + r.val; omega)
    | ⟨1, _⟩ => exact (h0 (ix2 r l)).2
  · refine congrArg P (funext fun a => ?_)
    match a with
    | ⟨0, _⟩ => exact Fin.ext ((h1 (ix3 0 0 r)).1.trans (by show (5 * k.val + t) * 1 + 0 = 5 * k.val + t; omega))
    | ⟨1, _⟩ => exact Subsingleton.elim (α := Fin 1) _ _
    | ⟨2, _⟩ => exact Fin.ext (h1 (ix3 0 0 r)).2
  · refine congrArg S (funext fun a => ?_)
    match a with
    | ⟨0, _⟩ => exact Fin.ext ((h2 (ix3 0 0 r)).1.trans (by show (5 * k.val + t) * 1 + 0 = 5 * k.val + t; omega))
    | ⟨1, _⟩ => exact Subsingleton.elim (α := Fin 1) _ _
    | ⟨2, _⟩ => exact Fin.ext (h2 (ix3 0 0 r)).2
  · refine congrArg _ (funext fun a => Fin.ext ?_)
    match a with
    | ⟨0, _⟩ => exact ((h6 (ix2 r l)).1.trans (by show (5 * k.val + t) * 8192 + r.val = 8192 * (5 * k.val + t) + r.val; omega)).symm
    | ⟨1, _⟩ => exact (h6 (ix2 r l)).2.symm

/-- The block of chunk `k` a flat row lies in, and its place there. -/
theorem row_split {k n : ℕ} (h1 : 40960 * k ≤ n) (h2 : n < 40960 * (k + 1)) :
    (n - 40960 * k) / 8192 < 5 ∧ (5 * k + (n - 40960 * k) / 8192) * 8192 + n % 8192 = n := by
  have h : n - 40960 * k < 40960 := by omega
  refine ⟨by omega, ?_⟩
  have e : n % 8192 = (n - 40960 * k) % 8192 := by omega
  omega

variable (V : Valuation τ sig (Elt Ideal)) (c : Dev nD)

/-- Where call 1's blocks lie, at every point. -/
theorem index5 : ∀ t : Fin cfg5.N, ((win5_0.index t 0 = t.val ∧ win5_0.index t 1 = 0)
    ∧ (win5_1.index t 0 = 5 * 0 + t.val ∧ win5_1.index t 2 = 0) ∧ (win5_2.index t 0 = 5 * 0 + t.val ∧ win5_2.index t 2 = 0))
    ∧ ((win5_3.index t 0 = 0 ∧ win5_3.index t 1 = 0) ∧ win5_4.index t 1 = 0 ∧ win5_5.index t 1 = 0)
    ∧ (win5_6.index t 0 = 5 * 0 + t.val ∧ win5_6.index t 1 = 0) ∧ win5_6.flush t = true ∧ t.val < 5 :=
  (by decide +kernel : ∀ t : Fin grid5.N, _)

/-- What call 1 writes back at a point is that block of the results. -/
theorem flushed5 (R : Ready a0 a1 a2 Tb Tp Ts sc bi hB 0 (V (Proc.devRef .tc main_v8)) (V (Proc.devRef .tc main_v1)) (V (Proc.devRef .tc main_v2))
      (V (Proc.devRef .tc main_v4)) (V (Proc.devRef .tc main_v5)) (V (Proc.devRef .tc main_v6))) (t : Fin cfg5.N) :
    (dat5 V c).flushed 6 t = ((cfg5.win 6).blk t).view.read (Elt Ideal) (flat a0 a1 a2 Tb Tp Ts sc bi hB) := by
  obtain ⟨⟨⟨i00, i01⟩, ⟨i10, i12⟩, ⟨i20, i22⟩⟩, ⟨⟨i30, i31⟩, i41, i51⟩, ⟨i60, i61⟩, -, ht⟩ := index5 t
  show (cfg5.win 6).cut (grid5.coords t) ((dat5 V c).after 6 t) = _
  rw [(after5 V c t).2.2]
  exact block_read R t.val ht ((cfg5.win 0).rect t).emb ((cfg5.win 1).rect t).emb ((cfg5.win 2).rect t).emb ((cfg5.win 3).rect t).emb
    ((cfg5.win 4).rect t).emb ((cfg5.win 5).rect t).emb ((cfg5.win 6).rect t).emb
    (fun y => ⟨(Pipeline.Window.rect_emb_val (cfg5.win 0) t y 0).trans (congrArg (· * 8192 + (y 0).val) i00), Pipeline.Window.rect_emb_val_of_index_zero (cfg5.win 0) t 1 i01 y⟩)
    (fun y => ⟨(Pipeline.Window.rect_emb_val (cfg5.win 1) t y 0).trans (congrArg (· * 1 + (y 0).val) i10), Pipeline.Window.rect_emb_val_of_index_zero (cfg5.win 1) t 2 i12 y⟩)
    (fun y => ⟨(Pipeline.Window.rect_emb_val (cfg5.win 2) t y 0).trans (congrArg (· * 1 + (y 0).val) i20), Pipeline.Window.rect_emb_val_of_index_zero (cfg5.win 2) t 2 i22 y⟩)
    (fun y => ⟨Pipeline.Window.rect_emb_val_of_index_zero (cfg5.win 3) t 0 i30 y, Pipeline.Window.rect_emb_val_of_index_zero (cfg5.win 3) t 1 i31 y⟩)
    (fun y => Pipeline.Window.rect_emb_val_of_index_zero (cfg5.win 4) t 1 i41 y) (fun y => Pipeline.Window.rect_emb_val_of_index_zero (cfg5.win 5) t 1 i51 y)
    (fun y => ⟨(Pipeline.Window.rect_emb_val (cfg5.win 6) t y 0).trans (congrArg (· * 8192 + (y 0).val) i60), Pipeline.Window.rect_emb_val_of_index_zero (cfg5.win 6) t 1 i61 y⟩)

/-- So after call 1 one more chunk is the results'. -/
theorem upto5 (R : Ready a0 a1 a2 Tb Tp Ts sc bi hB 0 (V (Proc.devRef .tc main_v8)) (V (Proc.devRef .tc main_v1)) (V (Proc.devRef .tc main_v2))
      (V (Proc.devRef .tc main_v4)) (V (Proc.devRef .tc main_v5)) (V (Proc.devRef .tc main_v6)))
    (h : Upto a0 a1 a2 Tb Tp Ts sc bi hB 0 (V (Proc.devRef .tc main_v13))) :
    Upto a0 a1 a2 Tb Tp Ts sc bi hB (0 + 1) (Pipeline.afterRegion (dat5 V c) V (Proc.devRef .tc main_v13)) := fun i hi => by
  refine (congrFun (Pipeline.afterRegion_arr (dat5 V c) V launch5.win.arr_inj 6) i).trans ?_
  refine ((dat5 V c).arrAt_eq_piecewise 6 (flat a0 a1 a2 Tb Tp Ts sc bi hB) (fun t _ => flushed5 V c R t) i).trans ?_
  split
  · rfl
  · rename_i hno
    refine h i (lt_of_not_ge fun hge => hno ?_)
    obtain ⟨hN, he⟩ := row_split hge hi
    obtain ⟨-, -, ⟨i60, i61⟩, hf, -⟩ := index5 ⟨_, hN⟩
    refine ⟨⟨_, hN⟩, hf, ?_⟩
    refine (congrArg (· ∈ ((cfg5.win 6).blk ⟨_, hN⟩).view.set) (funext fun a => Fin.ext ?_)).mp (View.emb_mem_set _
      (ix2 (n0 := 8192) (n1 := 128) ⟨(i 0).val % 8192, Nat.mod_lt _ (by decide)⟩ (i 1) : S8192x128.Idx))
    match a with
    | ⟨0, _⟩ => exact (Pipeline.Window.rect_emb_val (cfg5.win 6) _ _ 0).trans ((congrArg (· * 8192 + (i 0).val % 8192) i60).trans he)
    | ⟨1, _⟩ => exact Pipeline.Window.rect_emb_val_of_index_zero (cfg5.win 6) _ 1 i61 _

/-- Where call 2's blocks lie, at every point. -/
theorem index6 : ∀ t : Fin cfg6.N, ((win6_0.index t 0 = t.val ∧ win6_0.index t 1 = 0)
    ∧ (win6_1.index t 0 = 5 * 1 + t.val ∧ win6_1.index t 2 = 0) ∧ (win6_2.index t 0 = 5 * 1 + t.val ∧ win6_2.index t 2 = 0))
    ∧ ((win6_3.index t 0 = 0 ∧ win6_3.index t 1 = 0) ∧ win6_4.index t 1 = 0 ∧ win6_5.index t 1 = 0)
    ∧ (win6_6.index t 0 = 5 * 1 + t.val ∧ win6_6.index t 1 = 0) ∧ win6_6.flush t = true ∧ t.val < 5 :=
  (by decide +kernel : ∀ t : Fin grid6.N, _)

/-- What call 2 writes back at a point is that block of the results. -/
theorem flushed6 (R : Ready a0 a1 a2 Tb Tp Ts sc bi hB 1 (V (Proc.devRef .tc main_v9)) (V (Proc.devRef .tc main_v1)) (V (Proc.devRef .tc main_v2))
      (V (Proc.devRef .tc main_v4)) (V (Proc.devRef .tc main_v5)) (V (Proc.devRef .tc main_v6))) (t : Fin cfg6.N) :
    (dat6 V c).flushed 6 t = ((cfg6.win 6).blk t).view.read (Elt Ideal) (flat a0 a1 a2 Tb Tp Ts sc bi hB) := by
  obtain ⟨⟨⟨i00, i01⟩, ⟨i10, i12⟩, ⟨i20, i22⟩⟩, ⟨⟨i30, i31⟩, i41, i51⟩, ⟨i60, i61⟩, -, ht⟩ := index6 t
  show (cfg6.win 6).cut (grid6.coords t) ((dat6 V c).after 6 t) = _
  rw [(after6 V c t).2.2]
  exact block_read R t.val ht ((cfg6.win 0).rect t).emb ((cfg6.win 1).rect t).emb ((cfg6.win 2).rect t).emb ((cfg6.win 3).rect t).emb
    ((cfg6.win 4).rect t).emb ((cfg6.win 5).rect t).emb ((cfg6.win 6).rect t).emb
    (fun y => ⟨(Pipeline.Window.rect_emb_val (cfg6.win 0) t y 0).trans (congrArg (· * 8192 + (y 0).val) i00), Pipeline.Window.rect_emb_val_of_index_zero (cfg6.win 0) t 1 i01 y⟩)
    (fun y => ⟨(Pipeline.Window.rect_emb_val (cfg6.win 1) t y 0).trans (congrArg (· * 1 + (y 0).val) i10), Pipeline.Window.rect_emb_val_of_index_zero (cfg6.win 1) t 2 i12 y⟩)
    (fun y => ⟨(Pipeline.Window.rect_emb_val (cfg6.win 2) t y 0).trans (congrArg (· * 1 + (y 0).val) i20), Pipeline.Window.rect_emb_val_of_index_zero (cfg6.win 2) t 2 i22 y⟩)
    (fun y => ⟨Pipeline.Window.rect_emb_val_of_index_zero (cfg6.win 3) t 0 i30 y, Pipeline.Window.rect_emb_val_of_index_zero (cfg6.win 3) t 1 i31 y⟩)
    (fun y => Pipeline.Window.rect_emb_val_of_index_zero (cfg6.win 4) t 1 i41 y) (fun y => Pipeline.Window.rect_emb_val_of_index_zero (cfg6.win 5) t 1 i51 y)
    (fun y => ⟨(Pipeline.Window.rect_emb_val (cfg6.win 6) t y 0).trans (congrArg (· * 8192 + (y 0).val) i60), Pipeline.Window.rect_emb_val_of_index_zero (cfg6.win 6) t 1 i61 y⟩)

/-- So after call 2 one more chunk is the results'. -/
theorem upto6 (R : Ready a0 a1 a2 Tb Tp Ts sc bi hB 1 (V (Proc.devRef .tc main_v9)) (V (Proc.devRef .tc main_v1)) (V (Proc.devRef .tc main_v2))
      (V (Proc.devRef .tc main_v4)) (V (Proc.devRef .tc main_v5)) (V (Proc.devRef .tc main_v6)))
    (h : Upto a0 a1 a2 Tb Tp Ts sc bi hB 1 (V (Proc.devRef .tc main_v14))) :
    Upto a0 a1 a2 Tb Tp Ts sc bi hB (1 + 1) (Pipeline.afterRegion (dat6 V c) V (Proc.devRef .tc main_v14)) := fun i hi => by
  refine (congrFun (Pipeline.afterRegion_arr (dat6 V c) V launch6.win.arr_inj 6) i).trans ?_
  refine ((dat6 V c).arrAt_eq_piecewise 6 (flat a0 a1 a2 Tb Tp Ts sc bi hB) (fun t _ => flushed6 V c R t) i).trans ?_
  split
  · rfl
  · rename_i hno
    refine h i (lt_of_not_ge fun hge => hno ?_)
    obtain ⟨hN, he⟩ := row_split hge hi
    obtain ⟨-, -, ⟨i60, i61⟩, hf, -⟩ := index6 ⟨_, hN⟩
    refine ⟨⟨_, hN⟩, hf, ?_⟩
    refine (congrArg (· ∈ ((cfg6.win 6).blk ⟨_, hN⟩).view.set) (funext fun a => Fin.ext ?_)).mp (View.emb_mem_set _
      (ix2 (n0 := 8192) (n1 := 128) ⟨(i 0).val % 8192, Nat.mod_lt _ (by decide)⟩ (i 1) : S8192x128.Idx))
    match a with
    | ⟨0, _⟩ => exact (Pipeline.Window.rect_emb_val (cfg6.win 6) _ _ 0).trans ((congrArg (· * 8192 + (i 0).val % 8192) i60).trans he)
    | ⟨1, _⟩ => exact Pipeline.Window.rect_emb_val_of_index_zero (cfg6.win 6) _ 1 i61 _

/-- Where call 3's blocks lie, at every point. -/
theorem index7 : ∀ t : Fin cfg7.N, ((win7_0.index t 0 = t.val ∧ win7_0.index t 1 = 0)
    ∧ (win7_1.index t 0 = 5 * 2 + t.val ∧ win7_1.index t 2 = 0) ∧ (win7_2.index t 0 = 5 * 2 + t.val ∧ win7_2.index t 2 = 0))
    ∧ ((win7_3.index t 0 = 0 ∧ win7_3.index t 1 = 0) ∧ win7_4.index t 1 = 0 ∧ win7_5.index t 1 = 0)
    ∧ (win7_6.index t 0 = 5 * 2 + t.val ∧ win7_6.index t 1 = 0) ∧ win7_6.flush t = true ∧ t.val < 5 :=
  (by decide +kernel : ∀ t : Fin grid7.N, _)

/-- What call 3 writes back at a point is that block of the results. -/
theorem flushed7 (R : Ready a0 a1 a2 Tb Tp Ts sc bi hB 2 (V (Proc.devRef .tc main_v10)) (V (Proc.devRef .tc main_v1)) (V (Proc.devRef .tc main_v2))
      (V (Proc.devRef .tc main_v4)) (V (Proc.devRef .tc main_v5)) (V (Proc.devRef .tc main_v6))) (t : Fin cfg7.N) :
    (dat7 V c).flushed 6 t = ((cfg7.win 6).blk t).view.read (Elt Ideal) (flat a0 a1 a2 Tb Tp Ts sc bi hB) := by
  obtain ⟨⟨⟨i00, i01⟩, ⟨i10, i12⟩, ⟨i20, i22⟩⟩, ⟨⟨i30, i31⟩, i41, i51⟩, ⟨i60, i61⟩, -, ht⟩ := index7 t
  show (cfg7.win 6).cut (grid7.coords t) ((dat7 V c).after 6 t) = _
  rw [(after7 V c t).2.2]
  exact block_read R t.val ht ((cfg7.win 0).rect t).emb ((cfg7.win 1).rect t).emb ((cfg7.win 2).rect t).emb ((cfg7.win 3).rect t).emb
    ((cfg7.win 4).rect t).emb ((cfg7.win 5).rect t).emb ((cfg7.win 6).rect t).emb
    (fun y => ⟨(Pipeline.Window.rect_emb_val (cfg7.win 0) t y 0).trans (congrArg (· * 8192 + (y 0).val) i00), Pipeline.Window.rect_emb_val_of_index_zero (cfg7.win 0) t 1 i01 y⟩)
    (fun y => ⟨(Pipeline.Window.rect_emb_val (cfg7.win 1) t y 0).trans (congrArg (· * 1 + (y 0).val) i10), Pipeline.Window.rect_emb_val_of_index_zero (cfg7.win 1) t 2 i12 y⟩)
    (fun y => ⟨(Pipeline.Window.rect_emb_val (cfg7.win 2) t y 0).trans (congrArg (· * 1 + (y 0).val) i20), Pipeline.Window.rect_emb_val_of_index_zero (cfg7.win 2) t 2 i22 y⟩)
    (fun y => ⟨Pipeline.Window.rect_emb_val_of_index_zero (cfg7.win 3) t 0 i30 y, Pipeline.Window.rect_emb_val_of_index_zero (cfg7.win 3) t 1 i31 y⟩)
    (fun y => Pipeline.Window.rect_emb_val_of_index_zero (cfg7.win 4) t 1 i41 y) (fun y => Pipeline.Window.rect_emb_val_of_index_zero (cfg7.win 5) t 1 i51 y)
    (fun y => ⟨(Pipeline.Window.rect_emb_val (cfg7.win 6) t y 0).trans (congrArg (· * 8192 + (y 0).val) i60), Pipeline.Window.rect_emb_val_of_index_zero (cfg7.win 6) t 1 i61 y⟩)

/-- So after call 3 one more chunk is the results'. -/
theorem upto7 (R : Ready a0 a1 a2 Tb Tp Ts sc bi hB 2 (V (Proc.devRef .tc main_v10)) (V (Proc.devRef .tc main_v1)) (V (Proc.devRef .tc main_v2))
      (V (Proc.devRef .tc main_v4)) (V (Proc.devRef .tc main_v5)) (V (Proc.devRef .tc main_v6)))
    (h : Upto a0 a1 a2 Tb Tp Ts sc bi hB 2 (V (Proc.devRef .tc main_v15))) :
    Upto a0 a1 a2 Tb Tp Ts sc bi hB (2 + 1) (Pipeline.afterRegion (dat7 V c) V (Proc.devRef .tc main_v15)) := fun i hi => by
  refine (congrFun (Pipeline.afterRegion_arr (dat7 V c) V launch7.win.arr_inj 6) i).trans ?_
  refine ((dat7 V c).arrAt_eq_piecewise 6 (flat a0 a1 a2 Tb Tp Ts sc bi hB) (fun t _ => flushed7 V c R t) i).trans ?_
  split
  · rfl
  · rename_i hno
    refine h i (lt_of_not_ge fun hge => hno ?_)
    obtain ⟨hN, he⟩ := row_split hge hi
    obtain ⟨-, -, ⟨i60, i61⟩, hf, -⟩ := index7 ⟨_, hN⟩
    refine ⟨⟨_, hN⟩, hf, ?_⟩
    refine (congrArg (· ∈ ((cfg7.win 6).blk ⟨_, hN⟩).view.set) (funext fun a => Fin.ext ?_)).mp (View.emb_mem_set _
      (ix2 (n0 := 8192) (n1 := 128) ⟨(i 0).val % 8192, Nat.mod_lt _ (by decide)⟩ (i 1) : S8192x128.Idx))
    match a with
    | ⟨0, _⟩ => exact (Pipeline.Window.rect_emb_val (cfg7.win 6) _ _ 0).trans ((congrArg (· * 8192 + (i 0).val % 8192) i60).trans he)
    | ⟨1, _⟩ => exact Pipeline.Window.rect_emb_val_of_index_zero (cfg7.win 6) _ 1 i61 _

/-- Where call 4's blocks lie, at every point. -/
theorem index8 : ∀ t : Fin cfg8.N, ((win8_0.index t 0 = t.val ∧ win8_0.index t 1 = 0)
    ∧ (win8_1.index t 0 = 5 * 3 + t.val ∧ win8_1.index t 2 = 0) ∧ (win8_2.index t 0 = 5 * 3 + t.val ∧ win8_2.index t 2 = 0))
    ∧ ((win8_3.index t 0 = 0 ∧ win8_3.index t 1 = 0) ∧ win8_4.index t 1 = 0 ∧ win8_5.index t 1 = 0)
    ∧ (win8_6.index t 0 = 5 * 3 + t.val ∧ win8_6.index t 1 = 0) ∧ win8_6.flush t = true ∧ t.val < 5 :=
  (by decide +kernel : ∀ t : Fin grid8.N, _)

/-- What call 4 writes back at a point is that block of the results. -/
theorem flushed8 (R : Ready a0 a1 a2 Tb Tp Ts sc bi hB 3 (V (Proc.devRef .tc main_v11)) (V (Proc.devRef .tc main_v1)) (V (Proc.devRef .tc main_v2))
      (V (Proc.devRef .tc main_v4)) (V (Proc.devRef .tc main_v5)) (V (Proc.devRef .tc main_v6))) (t : Fin cfg8.N) :
    (dat8 V c).flushed 6 t = ((cfg8.win 6).blk t).view.read (Elt Ideal) (flat a0 a1 a2 Tb Tp Ts sc bi hB) := by
  obtain ⟨⟨⟨i00, i01⟩, ⟨i10, i12⟩, ⟨i20, i22⟩⟩, ⟨⟨i30, i31⟩, i41, i51⟩, ⟨i60, i61⟩, -, ht⟩ := index8 t
  show (cfg8.win 6).cut (grid8.coords t) ((dat8 V c).after 6 t) = _
  rw [(after8 V c t).2.2]
  exact block_read R t.val ht ((cfg8.win 0).rect t).emb ((cfg8.win 1).rect t).emb ((cfg8.win 2).rect t).emb ((cfg8.win 3).rect t).emb
    ((cfg8.win 4).rect t).emb ((cfg8.win 5).rect t).emb ((cfg8.win 6).rect t).emb
    (fun y => ⟨(Pipeline.Window.rect_emb_val (cfg8.win 0) t y 0).trans (congrArg (· * 8192 + (y 0).val) i00), Pipeline.Window.rect_emb_val_of_index_zero (cfg8.win 0) t 1 i01 y⟩)
    (fun y => ⟨(Pipeline.Window.rect_emb_val (cfg8.win 1) t y 0).trans (congrArg (· * 1 + (y 0).val) i10), Pipeline.Window.rect_emb_val_of_index_zero (cfg8.win 1) t 2 i12 y⟩)
    (fun y => ⟨(Pipeline.Window.rect_emb_val (cfg8.win 2) t y 0).trans (congrArg (· * 1 + (y 0).val) i20), Pipeline.Window.rect_emb_val_of_index_zero (cfg8.win 2) t 2 i22 y⟩)
    (fun y => ⟨Pipeline.Window.rect_emb_val_of_index_zero (cfg8.win 3) t 0 i30 y, Pipeline.Window.rect_emb_val_of_index_zero (cfg8.win 3) t 1 i31 y⟩)
    (fun y => Pipeline.Window.rect_emb_val_of_index_zero (cfg8.win 4) t 1 i41 y) (fun y => Pipeline.Window.rect_emb_val_of_index_zero (cfg8.win 5) t 1 i51 y)
    (fun y => ⟨(Pipeline.Window.rect_emb_val (cfg8.win 6) t y 0).trans (congrArg (· * 8192 + (y 0).val) i60), Pipeline.Window.rect_emb_val_of_index_zero (cfg8.win 6) t 1 i61 y⟩)

/-- So after call 4 one more chunk is the results'. -/
theorem upto8 (R : Ready a0 a1 a2 Tb Tp Ts sc bi hB 3 (V (Proc.devRef .tc main_v11)) (V (Proc.devRef .tc main_v1)) (V (Proc.devRef .tc main_v2))
      (V (Proc.devRef .tc main_v4)) (V (Proc.devRef .tc main_v5)) (V (Proc.devRef .tc main_v6)))
    (h : Upto a0 a1 a2 Tb Tp Ts sc bi hB 3 (V (Proc.devRef .tc main_v16))) :
    Upto a0 a1 a2 Tb Tp Ts sc bi hB (3 + 1) (Pipeline.afterRegion (dat8 V c) V (Proc.devRef .tc main_v16)) := fun i hi => by
  refine (congrFun (Pipeline.afterRegion_arr (dat8 V c) V launch8.win.arr_inj 6) i).trans ?_
  refine ((dat8 V c).arrAt_eq_piecewise 6 (flat a0 a1 a2 Tb Tp Ts sc bi hB) (fun t _ => flushed8 V c R t) i).trans ?_
  split
  · rfl
  · rename_i hno
    refine h i (lt_of_not_ge fun hge => hno ?_)
    obtain ⟨hN, he⟩ := row_split hge hi
    obtain ⟨-, -, ⟨i60, i61⟩, hf, -⟩ := index8 ⟨_, hN⟩
    refine ⟨⟨_, hN⟩, hf, ?_⟩
    refine (congrArg (· ∈ ((cfg8.win 6).blk ⟨_, hN⟩).view.set) (funext fun a => Fin.ext ?_)).mp (View.emb_mem_set _
      (ix2 (n0 := 8192) (n1 := 128) ⟨(i 0).val % 8192, Nat.mod_lt _ (by decide)⟩ (i 1) : S8192x128.Idx))
    match a with
    | ⟨0, _⟩ => exact (Pipeline.Window.rect_emb_val (cfg8.win 6) _ _ 0).trans ((congrArg (· * 8192 + (i 0).val % 8192) i60).trans he)
    | ⟨1, _⟩ => exact Pipeline.Window.rect_emb_val_of_index_zero (cfg8.win 6) _ 1 i61 _

/-- Where call 5's blocks lie, at every point. -/
theorem index9 : ∀ t : Fin cfg9.N, ((win9_0.index t 0 = t.val ∧ win9_0.index t 1 = 0)
    ∧ (win9_1.index t 0 = 5 * 4 + t.val ∧ win9_1.index t 2 = 0) ∧ (win9_2.index t 0 = 5 * 4 + t.val ∧ win9_2.index t 2 = 0))
    ∧ ((win9_3.index t 0 = 0 ∧ win9_3.index t 1 = 0) ∧ win9_4.index t 1 = 0 ∧ win9_5.index t 1 = 0)
    ∧ (win9_6.index t 0 = 5 * 4 + t.val ∧ win9_6.index t 1 = 0) ∧ win9_6.flush t = true ∧ t.val < 5 :=
  (by decide +kernel : ∀ t : Fin grid9.N, _)

/-- What call 5 writes back at a point is that block of the results. -/
theorem flushed9 (R : Ready a0 a1 a2 Tb Tp Ts sc bi hB 4 (V (Proc.devRef .tc main_v12)) (V (Proc.devRef .tc main_v1)) (V (Proc.devRef .tc main_v2))
      (V (Proc.devRef .tc main_v4)) (V (Proc.devRef .tc main_v5)) (V (Proc.devRef .tc main_v6))) (t : Fin cfg9.N) :
    (dat9 V c).flushed 6 t = ((cfg9.win 6).blk t).view.read (Elt Ideal) (flat a0 a1 a2 Tb Tp Ts sc bi hB) := by
  obtain ⟨⟨⟨i00, i01⟩, ⟨i10, i12⟩, ⟨i20, i22⟩⟩, ⟨⟨i30, i31⟩, i41, i51⟩, ⟨i60, i61⟩, -, ht⟩ := index9 t
  show (cfg9.win 6).cut (grid9.coords t) ((dat9 V c).after 6 t) = _
  rw [(after9 V c t).2.2]
  exact block_read R t.val ht ((cfg9.win 0).rect t).emb ((cfg9.win 1).rect t).emb ((cfg9.win 2).rect t).emb ((cfg9.win 3).rect t).emb
    ((cfg9.win 4).rect t).emb ((cfg9.win 5).rect t).emb ((cfg9.win 6).rect t).emb
    (fun y => ⟨(Pipeline.Window.rect_emb_val (cfg9.win 0) t y 0).trans (congrArg (· * 8192 + (y 0).val) i00), Pipeline.Window.rect_emb_val_of_index_zero (cfg9.win 0) t 1 i01 y⟩)
    (fun y => ⟨(Pipeline.Window.rect_emb_val (cfg9.win 1) t y 0).trans (congrArg (· * 1 + (y 0).val) i10), Pipeline.Window.rect_emb_val_of_index_zero (cfg9.win 1) t 2 i12 y⟩)
    (fun y => ⟨(Pipeline.Window.rect_emb_val (cfg9.win 2) t y 0).trans (congrArg (· * 1 + (y 0).val) i20), Pipeline.Window.rect_emb_val_of_index_zero (cfg9.win 2) t 2 i22 y⟩)
    (fun y => ⟨Pipeline.Window.rect_emb_val_of_index_zero (cfg9.win 3) t 0 i30 y, Pipeline.Window.rect_emb_val_of_index_zero (cfg9.win 3) t 1 i31 y⟩)
    (fun y => Pipeline.Window.rect_emb_val_of_index_zero (cfg9.win 4) t 1 i41 y) (fun y => Pipeline.Window.rect_emb_val_of_index_zero (cfg9.win 5) t 1 i51 y)
    (fun y => ⟨(Pipeline.Window.rect_emb_val (cfg9.win 6) t y 0).trans (congrArg (· * 8192 + (y 0).val) i60), Pipeline.Window.rect_emb_val_of_index_zero (cfg9.win 6) t 1 i61 y⟩)

/-- So after call 5 one more chunk is the results'. -/
theorem upto9 (R : Ready a0 a1 a2 Tb Tp Ts sc bi hB 4 (V (Proc.devRef .tc main_v12)) (V (Proc.devRef .tc main_v1)) (V (Proc.devRef .tc main_v2))
      (V (Proc.devRef .tc main_v4)) (V (Proc.devRef .tc main_v5)) (V (Proc.devRef .tc main_v6)))
    (h : Upto a0 a1 a2 Tb Tp Ts sc bi hB 4 (V (Proc.devRef .tc main_v17))) :
    Upto a0 a1 a2 Tb Tp Ts sc bi hB (4 + 1) (Pipeline.afterRegion (dat9 V c) V (Proc.devRef .tc main_v17)) := fun i hi => by
  refine (congrFun (Pipeline.afterRegion_arr (dat9 V c) V launch9.win.arr_inj 6) i).trans ?_
  refine ((dat9 V c).arrAt_eq_piecewise 6 (flat a0 a1 a2 Tb Tp Ts sc bi hB) (fun t _ => flushed9 V c R t) i).trans ?_
  split
  · rfl
  · rename_i hno
    refine h i (lt_of_not_ge fun hge => hno ?_)
    obtain ⟨hN, he⟩ := row_split hge hi
    obtain ⟨-, -, ⟨i60, i61⟩, hf, -⟩ := index9 ⟨_, hN⟩
    refine ⟨⟨_, hN⟩, hf, ?_⟩
    refine (congrArg (· ∈ ((cfg9.win 6).blk ⟨_, hN⟩).view.set) (funext fun a => Fin.ext ?_)).mp (View.emb_mem_set _
      (ix2 (n0 := 8192) (n1 := 128) ⟨(i 0).val % 8192, Nat.mod_lt _ (by decide)⟩ (i 1) : S8192x128.Idx))
    match a with
    | ⟨0, _⟩ => exact (Pipeline.Window.rect_emb_val (cfg9.win 6) _ _ 0).trans ((congrArg (· * 8192 + (i 0).val % 8192) i60).trans he)
    | ⟨1, _⟩ => exact Pipeline.Window.rect_emb_val_of_index_zero (cfg9.win 6) _ 1 i61 _

end

end Cert.KernelIdeal.Rows

end
-- ==== Proof.KernelValue.lean ====
module

public import proofs.«01_k».proof.Proof.CallValue
public import proofs.«01_k».proof.Proof.Kept

/-! What the kernel's result holds: the results, word by word. -/

@[expose] public section

set_option maxRecDepth 16384

noncomputable section

namespace Cert.KernelIdeal.Rows

open Cert.KernelIdeal.Gen Cert.KernelIdeal.Tile Cert.KernelIdeal.Quarter
open Idealize.ShloMosaic Idealize.ShloMosaic.TcCoe Idealize.ShloMosaic.ValueIdx
open Idealize.SL Idealize.SL.Sem

variable (m : (ℓ : Loc nD τ sig) → Buf (Elt Ideal) ℓ) (d : Dev nD)
  (hB : ∀ i, (arr0 m d i).toNat < 100000 ∧ (arr1 m d i).toNat < 2 ∧ (arr2 m d i).toNat < 512)

/-- The operands of the call on chunk `k` hold what they should, in any later state that kept them. -/
theorem ready_of (k : Fin 5) (V : Valuation τ sig (Elt Ideal)) (X : S40960x128.Idx → EReal) (hX : X = got m (ids m) k d)
    (h : ∀ r, r ∉ results → V (Proc.devRef .tc r) = V2 m d (Proc.devRef .tc r)) :
    Ready (arr0 m d) (arr1 m d) (arr2 m d) (arr3 m d) (arr4 m d) (arr5 m d) (arr6 m d) (arr7 m d) hB k X
      (V (Proc.devRef .tc main_v1)) (V (Proc.devRef .tc main_v2)) (V (Proc.devRef .tc main_v4)) (V (Proc.devRef .tc main_v5)) (V (Proc.devRef .tc main_v6)) := by
  subst hX
  rw [h main_v1 (by decide), h main_v2 (by decide), h main_v4 (by decide), h main_v5 (by decide), h main_v6 (by decide),
    V2_of m d _ (by decide), V2_of m d _ (by decide), V2_of m d _ (by decide), V2_of m d _ (by decide), V2_of m d _ (by decide)]
  exact ready m d hB k

/-- The rows of the first `k` chunks of an array are the results' of the arguments. -/
abbrev Done (k : ℕ) (A : S204800x128.Idx → EReal) : Prop :=
  Upto (arr0 m d) (arr1 m d) (arr2 m d) (arr3 m d) (arr4 m d) (arr5 m d) (arr6 m d) (arr7 m d) hB k A

theorem done3 : Done m d hB 1 (V3 m d (Proc.devRef .tc main_v13)) :=
  upto5 (V2 m d) d (ready_of m d hB 0 (V2 m d) _ (V2_8 m d) fun _ _ => rfl) fun i hi => absurd hi (by omega)
theorem done5 : Done m d hB 2 (V5 m d (Proc.devRef .tc main_v14)) :=
  upto6 (V4 m d) d (ready_of m d hB 1 (V4 m d) _ ((V4_of m d main_v9 (by decide)).trans (V2_9 m d)) (V4_of m d))
    ((congrArg (Done m d hB 1) (copy1_result (V3 m d))).mpr (done3 m d hB))
theorem done7 : Done m d hB 3 (V7 m d (Proc.devRef .tc main_v15)) :=
  upto7 (V6 m d) d (ready_of m d hB 2 (V6 m d) _ ((V6_of m d main_v10 (by decide)).trans (V2_10 m d)) (V6_of m d))
    ((congrArg (Done m d hB 2) (copy2_result (V5 m d))).mpr (done5 m d hB))
theorem done9 : Done m d hB 4 (V9 m d (Proc.devRef .tc main_v16)) :=
  upto8 (V8 m d) d (ready_of m d hB 3 (V8 m d) _ ((V8_of m d main_v11 (by decide)).trans (V2_11 m d)) (V8_of m d))
    ((congrArg (Done m d hB 3) (copy3_result (V7 m d))).mpr (done7 m d hB))
theorem done11 : Done m d hB 5 (V11 m d (Proc.devRef .tc main_v17)) :=
  upto9 (V10 m d) d (ready_of m d hB 4 (V10 m d) _ ((V10_of m d main_v12 (by decide)).trans (V2_12 m d)) (V10_of m d))
    ((congrArg (Done m d hB 4) (copy4_result (V9 m d))).mpr (done9 m d hB))

/-- The last reshape's result. -/
theorem V12_result : (V12 m d (Proc.devRef .tc main_v18) : S1024x200x128.Idx → EReal)
    = shapeCast S1024x200x128 (V11 m d (Proc.devRef .tc main_v17) : S204800x128.Idx → EReal) shapeCasts_S204800x128_S1024x200x128 := by
  unfold V12
  after_results_simp
  rfl

/-- The kernel's result, at word `(a, b)` and place `l`. -/
theorem kernel_value (a : Fin 1024) (b : Fin 200) (l : Fin 128) :
    (V12 m d (Proc.devRef .tc main_v18) : S1024x200x128.Idx → EReal) (ix3 a b l)
      = result (arr0 m d) (arr1 m d) (arr2 m d) (arr3 m d) (arr4 m d) (arr5 m d) (arr6 m d) (arr7 m d) hB (ix2 a b) l := by
  have ha := a.isLt
  have hb := b.isLt
  have hn : 200 * a.val + b.val < 204800 := by omega
  rw [V12_result]
  refine (shapeCast_apply _ _ (ix3 a b l) (ix2 ⟨200 * a.val + b.val, hn⟩ l) ?_).trans ((done11 m d hB (ix2 ⟨200 * a.val + b.val, hn⟩ l) ?_).trans ?_)
  · rw [Shape.rowMajor_val_two, Shape.rowMajor_val_three]
    show (200 * a.val + b.val) * 128 + l.val = (a.val * 200 + b.val) * 128 + l.val
    omega
  · show 200 * a.val + b.val < 40960 * 5; omega
  · show result _ _ _ _ _ _ _ _ hB (word ⟨200 * a.val + b.val, hn⟩) l = _
    have e : word ⟨200 * a.val + b.val, hn⟩ = ix2 a b := funext fun x => Fin.ext (by
      match x with
      | ⟨0, _⟩ => show (200 * a.val + b.val) / 200 = a.val; omega
      | ⟨1, _⟩ => show (200 * a.val + b.val) % 200 = b.val; omega)
    rw [e]

end Cert.KernelIdeal.Rows

end
-- ==== Proof.Look.lean ====
module

public import proofs.«01_k».proof.Proof.Gen.ReferenceIdeal
public import Idealize.ShloMosaic.Lib.ValueIdx
public import Idealize.ShloMosaic.Lib.IdealHost
public import Idealize.ShloMosaic.Lib.ReduceAll
public import Idealize.ShloMosaic.Lib.DynamicIndex
public import Idealize.ShloMosaic.Lib.Pipeline.Value

/-! The reference's look-up of rows of a table: at numbers in the table's range, the rows themselves. -/

@[expose] public section

set_option maxRecDepth 16384

noncomputable section

namespace Cert.ReferenceIdeal.Look

open Cert.ReferenceIdeal Cert.ReferenceIdeal.Gen
open Idealize.ShloMosaic Idealize.ShloMosaic.ValueIdx

/-- A gather of whole rows of a table of `N`. -/
abbrev rowsOf (N : ℕ) (wf : GatherDims.WF ⟨2, ![N, 128]⟩ S1024x200x1 S1024x200x128 [2] [0] [] [0] [] 2 ![1, 128]) :
    GatherDims ⟨2, ![N, 128]⟩ S1024x200x1 S1024x200x128 where
  offsetDims := [2]
  collapsedSliceDims := [0]
  operandBatchingDims := []
  startIndicesBatchingDims := []
  startIndexMap := [0]
  indexVectorDim := 2
  sliceSizes := ![1, 128]
  wf := wf

/-- It reads, at `(a, b, l)`, word `l` of the row numbered at `(a, b)`, the number clamped to the table. -/
theorem rows_apply {α : Type} {N : ℕ} (hN : 0 < N) (wf) (x : (⟨2, ![N, 128]⟩ : Shape).Idx → α) (I : S1024x200x1.Idx → BitVec 32)
    (a : Fin 1024) (b : Fin 200) (l : Fin 128) :
    Host.gather (rowsOf N wf) x I (ix3 a b l) = x (ix2 ⟨min (I (ix3 a b 0)).toInt.toNat (N - 1), by omega⟩ l) := by
  refine congrArg x (funext fun y => Fin.ext ?_)
  show (rowsOf N wf).start (ix3 a b l) I y + (rowsOf N wf).batchCoord (ix3 a b l) y + (rowsOf N wf).offCoord (ix3 a b l) y = _
  match y with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have e : (rowsOf N wf).siIdx (ix3 a b l) ⟨List.idxOf (0 : Fin 2) (rowsOf N wf).startIndexMap,
        List.idxOf_lt_length_iff.2 (List.mem_singleton.mpr rfl)⟩ = ix3 a b 0 := funext fun z => Fin.ext (by
      match z with
      | ⟨0, _⟩ => rfl
      | ⟨1, _⟩ => rfl
      | ⟨2, _⟩ => rfl)
    refine (congrArg (fun i => min (I i).toInt.toNat (N - 1)) e).trans rfl
  | ⟨1, _⟩ =>
    rw [GatherDims.batchCoord_eq_zero _ _ _ List.not_mem_nil]
    have e : (rowsOf N wf).start (ix3 a b l) I 1 = 0 :=
      dif_neg fun h => absurd (List.mem_singleton.mp h) (by decide : ¬ (1 : Fin 2) = 0)
    refine (congrArg (· + 0 + _) e).trans ?_
    simp only [Nat.zero_add]
    rfl

/-- A broadcast along a new last axis reads the operand. -/
theorem over_last {α : Type} {k : ℕ} (h : (⟨2, ![1024, 200]⟩ : Shape).BroadcastsInDim ⟨3, ![1024, 200, k]⟩ ![0, 1])
    (x : (⟨2, ![1024, 200]⟩ : Shape).Idx → α) (a : Fin 1024) (b : Fin 200) (z : Fin k) :
    broadcastInDim ⟨3, ![1024, 200, k]⟩ ![0, 1] h x (ix3 a b z) = x (ix2 a b) := by
  refine broadcastInDim_apply ![0, 1] h x (ix3 a b z) (ix2 a b) ?_
  intro y
  match y with
  | ⟨0, _⟩ => show a.val = if (1024 : ℕ) = 1 then 0 else a.val; rw [if_neg (by decide)]
  | ⟨1, _⟩ => show b.val = if (200 : ℕ) = 1 then 0 else b.val; rw [if_neg (by decide)]

/-- The row numbers, negative ones counted from the table's end. -/
def numbers (n : BitVec 32) (I : S1024x200.Idx → BitVec 32) : S1024x200x1.Idx → BitVec 32 :=
  broadcastInDim S1024x200x1 ![0, 1] bcast_S1024x200_S1024x200x1_0_1 (select (cmpi .slt I (broadcastInDim S1024x200 ![] bcast_S_S1024x200 (constantI S_ 32 0#32)))
    (addi I (broadcastInDim S1024x200 ![] bcast_S_S1024x200 (constantI S_ 32 n))) I)

/-- Whether each is in the table's range. -/
def inRange (u : BitVec 32) (J : S1024x200x1.Idx → BitVec 32) : S1024x200.Idx → BitVec 1 :=
  Host.reduce IntOp.andi (andi (cmpi .sge J (broadcastInDim S1024x200x1 ![] bcast_S_S1024x200x1 (constantI S_ 32 0#32)))
    (cmpi .sle J (broadcastInDim S1024x200x1 ![0, 1, 2] bcast_S1x1x1_S1024x200x1_0_1_2 (broadcastInDim S1x1x1 ![2] bcast_S1_S1x1x1_2 (constantI S1 32 u)))))
    (constantI S_ 1 1#1) reducesTo_S1024x200x1_S1024x200_d2 h_S_

/-- The rows looked up: where a number is out of range, no number. -/
def looked {F : FTy → Type} [FloatOps F] {s : Shape} (G : GatherDims s S1024x200x1 S1024x200x128) (n u : BitVec 32) (x : s.Idx → F .f32)
    (I : S1024x200.Idx → BitVec 32) : S1024x200x128.Idx → F .f32 :=
  select (broadcastInDim S1024x200x128 ![0, 1] bcast_S1024x200_S1024x200x128_0_1 (inRange u (numbers n I))) (Host.gather G x (numbers n I))
    (broadcastInDim S1024x200x128 ![] bcast_S_S1024x200x128 (constant S_ .f32 0x7FC00000#32))

theorem toInt_of_lt {w : BitVec 32} {N : ℕ} (hN : N < 2 ^ 31) (h : w.toNat < N) : w.toInt = (w.toNat : ℤ) :=
  BitVec.toInt_eq_toNat_of_lt (by omega)

variable {n : BitVec 32} {I : S1024x200.Idx → BitVec 32} {N : ℕ} (hN : N < 2 ^ 31) (hI : ∀ i, (I i).toNat < N)
include hN hI

theorem numbers_apply (a : Fin 1024) (b : Fin 200) (z : Fin 1) : numbers n I (ix3 a b z) = I (ix2 a b) := by
  unfold numbers
  refine (over_last _ _ a b z).trans
    (select_slt_zero_of_nonneg I _ _ (ix2 a b) (by rw [toInt_of_lt hN (hI _)]; omega))

theorem inRange_apply {u : BitVec 32} (hu : u.toInt = (N : ℤ) - 1) (i : S1024x200.Idx) : inRange u (numbers n I) i = 1#1 := by
  unfold inRange
  refine Host.reduce_andi_one _ _ _ _ i rfl fun j => ?_
  obtain ⟨a, b, z, rfl⟩ : ∃ a b z, j = ix3 a b z := ⟨j 0, j 1, j 2, eq_ix3 (n0 := 1024) (n1 := 200) (n2 := 1) j⟩
  have h := toInt_of_lt hN (hI (ix2 a b))
  have h' := hI (ix2 a b)
  show IntOp.andi (BitVec.ofBool ((0#32).sle (numbers n I (ix3 a b z)))) (BitVec.ofBool ((numbers n I (ix3 a b z)).sle u)) = 1#1
  rw [numbers_apply hN hI]
  have e1 : (0#32).sle (I (ix2 a b)) = true := by simp only [BitVec.sle, BitVec.toInt_zero, decide_eq_true_eq]; omega
  have e2 : (I (ix2 a b)).sle u = true := by simp only [BitVec.sle, decide_eq_true_eq]; omega
  rw [e1, e2]
  rfl

/-- At numbers in range, the rows looked up are the table's. -/
theorem looked_apply {u : BitVec 32} (hu : u.toInt = (N : ℤ) - 1) (wf) (x : (⟨2, ![N, 128]⟩ : Shape).Idx → EReal)
    (a : Fin 1024) (b : Fin 200) (l : Fin 128) :
    looked (F := Ideal) (rowsOf N wf) n u x I (ix3 a b l) = x (ix2 ⟨(I (ix2 a b)).toNat, hI _⟩ l) := by
  have h' := hI (ix2 a b)
  have hm : broadcastInDim S1024x200x128 ![0, 1] bcast_S1024x200_S1024x200x128_0_1 (inRange u (numbers n I)) (ix3 a b l) = 1#1 :=
    (over_last _ _ a b l).trans (inRange_apply hN hI hu _)
  unfold looked
  show Scalar.select (broadcastInDim S1024x200x128 ![0, 1] bcast_S1024x200_S1024x200x128_0_1 (inRange u (numbers n I)) (ix3 a b l)) _ _ = _
  rw [hm, select_one]
  refine ((rows_apply (by omega) wf x _ a b l).trans (congrArg x (funext fun y => Fin.ext ?_)))
  match y with
  | ⟨0, _⟩ =>
    show min (numbers n I (ix3 a b 0)).toInt.toNat (N - 1) = (I (ix2 a b)).toNat
    rw [numbers_apply hN hI, toInt_of_lt hN h']
    omega
  | ⟨1, _⟩ => rfl

end Cert.ReferenceIdeal.Look

end
-- ==== Proof.RefValue.lean ====
module

public import proofs.«01_k».proof.Proof.Look
public import proofs.«01_k».proof.Proof.Flat
public import proofs.«01_k».proof.Proof.Gen.ReferenceIdeal.Run

/-! What the reference's result holds, word by word over the extended reals. -/

@[expose] public section

set_option maxRecDepth 16384

noncomputable section

namespace Cert.ReferenceIdeal.Look

open Cert.ReferenceIdeal Cert.ReferenceIdeal.Gen Cert.RowMath
open Idealize.ShloMosaic Idealize.ShloMosaic.TcCoe Idealize.ShloMosaic.ValueIdx
open Idealize.SL.Sem
open scoped BigOperators

section
variable {F : FTy → Type} [FloatOps F]

/-- The sum of three tables' rows. -/
def summed (a0 a1 a2 : S1024x200.Idx → BitVec 32) (a3 : S100000x128.Idx → F .f32) (a4 : S512x128.Idx → F .f32) (a5 : S2x128.Idx → F .f32) : FVec F S1024x200x128 .f32 :=
  addf (addf (looked gather_S100000x128_S1024x200x1_S1024x200x128_2_0_n_n_0_2_1128 100000#32 99999#32 a3 a0)
    (looked gather_S512x128_S1024x200x1_S1024x200x128_2_0_n_n_0_2_1128 512#32 511#32 a4 a2))
    (looked gather_S2x128_S1024x200x1_S1024x200x128_2_0_n_n_0_2_1128 2#32 1#32 a5 a1)

/-- The sum of each row. -/
def sums (E : FVec F S1024x200x128 .f32) : FVec F S1024x200x1 .f32 :=
  broadcastInDim S1024x200x1 ![0, 1] bcast_S1024x200_S1024x200x1_0_1 (Host.reduceAdd E (constant S_ .f32 0x00000000#32) reducesTo_S1024x200x128_S1024x200_d2 h_S_)

/-- A column spread over its row. -/
def spread (x : FVec F S1024x200x1 .f32) : FVec F S1024x200x128 .f32 :=
  broadcastInDim S1024x200x128 ![0, 1, 2] bcast_S1024x200x1_S1024x200x128_0_1_2 x

/-- A vector repeated for every word. -/
def repeated (x : FVec F S128 .f32) : FVec F S1024x200x128 .f32 :=
  broadcastInDim S1024x200x128 ![0, 1, 2] bcast_S1x1x128_S1024x200x128_0_1_2 (broadcastInDim S1x1x128 ![2] bcast_S128_S1x1x128_2 x)

/-- Each row less its mean. -/
def less (E : FVec F S1024x200x128 .f32) : FVec F S1024x200x128 .f32 :=
  subf E (spread (Host.divf (sums E) (broadcastInDim S1024x200x1 ![] bcast_S_S1024x200x1 (constant S_ .f32 0x43000000#32))))

/-- The number the squares are divided by. -/
def divisor : FVec F S_ .f32 := subf (constant S_ .f32 0x43000000#32) (sitofp .f32 (constantI S_ 32 0#32))

/-- Each row's variance. -/
def spreadOf (E : FVec F S1024x200x128 .f32) : FVec F S1024x200x1 .f32 :=
  select (broadcastInDim S1024x200x1 ![] bcast_S_S1024x200x1 (cmpf .ogt (divisor (F := F)) (constant S_ .f32 0x00000000#32)))
    (Host.divf (sums (mulf (less E) (less E))) (broadcastInDim S1024x200x1 ![] bcast_S_S1024x200x1 divisor))
    (broadcastInDim S1024x200x1 ![] bcast_S_S1024x200x1 (id (constant S_ .f32 0x7FC00000#32)))

/-- The rows normalised, scaled and shifted. -/
def whole (E : FVec F S1024x200x128 .f32) (a6 a7 : FVec F S128 .f32) : FVec F S1024x200x128 .f32 :=
  addf (mulf (Host.divf (less E) (spread (Host.sqrt (addf (spreadOf E) (broadcastInDim S1024x200x1 ![] bcast_S_S1024x200x1 (constant S_ .f32 0x2B8CBCCC#32))))))
    (repeated a6)) (repeated a7)

/-- The reference's result is that. -/
theorem term_eq (m : (ℓ : Loc nD τ sig) → Buf (Elt F) ℓ) (c : Dev nD) :
    Value.res_main_v22 m c = whole (summed (m (c, Proc.devRef .tc main_arg0)) (m (c, Proc.devRef .tc main_arg1)) (m (c, Proc.devRef .tc main_arg2))
      (m (c, Proc.devRef .tc main_arg3)) (m (c, Proc.devRef .tc main_arg4)) (m (c, Proc.devRef .tc main_arg5)))
      (m (c, Proc.devRef .tc main_arg6)) (m (c, Proc.devRef .tc main_arg7)) := by
  unfold Value.res_main_v22 whole spreadOf less divisor repeated spread sums summed looked inRange numbers
  rfl

end

variable (E : FVec Ideal S1024x200x128 .f32) (a : Fin 1024) (b : Fin 200)

/-- The row of word `(a, b)`. -/
abbrev row (l : Fin 128) : EReal := E (ix3 a b l)

theorem sums_apply : sums E (ix3 a b 0) = ∑ l, row E a b l := by
  unfold sums
  refine (over_last _ _ a b 0).trans ((hostReduceAdd_apply _ _ _ _ _).trans
    ((Ideal.hostReduceAdd_single _ (by decide : Shape.Reduces S1024x200x128 [2] S1024x200) E _ (ix2 a b)).trans ?_))
  refine (congrArg (· + _) Ideal.ofBits_zero_f32).trans ((zero_add _).trans (Finset.sum_congr rfl fun l _ => congrArg E (funext fun y => Fin.ext ?_)))
  match y with
  | ⟨0, _⟩ => rfl
  | ⟨1, _⟩ => rfl
  | ⟨2, _⟩ => rfl

theorem spread_apply (x : FVec Ideal S1024x200x1 .f32) (l : Fin 128) : spread x (ix3 a b l) = x (ix3 a b 0) := by
  refine broadcastInDim_apply ![0, 1, 2] _ x (ix3 a b l) (ix3 a b 0) ?_
  intro y
  match y with
  | ⟨0, _⟩ => show a.val = if (1024 : ℕ) = 1 then 0 else a.val; rw [if_neg (by decide)]
  | ⟨1, _⟩ => show b.val = if (200 : ℕ) = 1 then 0 else b.val; rw [if_neg (by decide)]
  | ⟨2, _⟩ => show 0 = if (1 : ℕ) = 1 then 0 else l.val; rw [if_pos rfl]

theorem repeated_apply (x : FVec Ideal S128 .f32) (l : Fin 128) : repeated x (ix3 a b l) = x (ix1 l) := by
  refine (broadcastInDim_apply ![0, 1, 2] _ _ (ix3 a b l) (ix3 (n0 := 1) (n1 := 1) 0 0 l) ?_).trans (broadcastInDim_apply ![2] _ x (ix3 (n0 := 1) (n1 := 1) 0 0 l) (ix1 l) ?_)
  · intro y
    match y with
    | ⟨0, _⟩ => show 0 = if (1 : ℕ) = 1 then 0 else a.val; rw [if_pos rfl]
    | ⟨1, _⟩ => show 0 = if (1 : ℕ) = 1 then 0 else b.val; rw [if_pos rfl]
    | ⟨2, _⟩ => show l.val = if (128 : ℕ) = 1 then 0 else l.val; rw [if_neg (by decide)]
  · intro y
    match y with
    | ⟨0, _⟩ => show l.val = if (128 : ℕ) = 1 then 0 else l.val; rw [if_neg (by decide)]

theorem less_apply (l : Fin 128) : less E (ix3 a b l) = dev (row E a b) l := by
  show E (ix3 a b l) - spread _ (ix3 a b l) = _
  rw [spread_apply, hostDivf_apply, sums_apply]
  rfl

theorem divisor_apply : divisor (F := Ideal) ix0 = count := by
  show count - (((0#32 : BitVec 32).toInt : ℝ) : EReal) = count
  simp

theorem spreadOf_apply : spreadOf E (ix3 a b 0) = var (row E a b) := by
  have hc : (broadcastInDim S1024x200x1 ![] bcast_S_S1024x200x1 (cmpf .ogt (divisor (F := Ideal)) (constant S_ .f32 0x00000000#32))) (ix3 a b 0) = 1#1 := by
    refine (broadcastInDim_scalar_apply _ _ _).trans ?_
    show Ideal.cmp .ogt (divisor (F := Ideal) ix0) (Ideal.ofBits .f32 0x00000000#32) = 1#1
    rw [divisor_apply, Ideal.ofBits_zero_f32, count_eq]
    simp [Ideal.cmp]
  unfold spreadOf
  show Scalar.select _ _ _ = _
  rw [hc, select_one, hostDivf_apply, sums_apply]
  show Ideal.div _ (broadcastInDim S1024x200x1 ![] bcast_S_S1024x200x1 (divisor (F := Ideal)) (ix3 a b 0)) = Ideal.div (∑ l, dev (row E a b) l * dev (row E a b) l) count
  rw [broadcastInDim_scalar_apply, divisor_apply]
  refine congrArg (Ideal.div · count) (Finset.sum_congr rfl fun l _ => ?_)
  show less E (ix3 a b l) * less E (ix3 a b l) = _
  rw [less_apply]

theorem whole_apply (a6 a7 : FVec Ideal S128 .f32) (l : Fin 128) :
    whole E a6 a7 (ix3 a b l) = norm (row E a b) (fun l => a6 (ix1 l)) (fun l => a7 (ix1 l)) l := by
  show Host.divf (less E) _ (ix3 a b l) * repeated a6 (ix3 a b l) + repeated a7 (ix3 a b l) = _
  rw [hostDivf_apply, less_apply, spread_apply, repeated_apply, repeated_apply]
  show Ideal.div _ (Ideal.sqrt (spreadOf E (ix3 a b 0) + eps)) * _ + _ = _
  rw [spreadOf_apply]
  rfl

/-- The sum of the three rows is the word's embedding. -/
theorem summed_apply (a0 a1 a2 : S1024x200.Idx → BitVec 32) (a3 : S100000x128.Idx → EReal) (a4 : S512x128.Idx → EReal) (a5 : S2x128.Idx → EReal)
    (hB : ∀ i, (a0 i).toNat < 100000 ∧ (a1 i).toNat < 2 ∧ (a2 i).toNat < 512) (l : Fin 128) :
    summed (F := Ideal) a0 a1 a2 a3 a4 a5 (ix3 a b l) = KernelIdeal.Quarter.embedding a0 a1 a2 a3 a4 a5 hB (ix2 a b) l := by
  have e0 := looked_apply (n := 100000#32) (u := 99999#32) (N := 100000) (by norm_num) (fun i => (hB i).1) (by decide)
    gather_S100000x128_S1024x200x1_S1024x200x128_2_0_n_n_0_2_1128_wf a3 a b l
  have e2 := looked_apply (n := 512#32) (u := 511#32) (N := 512) (by norm_num) (fun i => (hB i).2.2) (by decide)
    gather_S512x128_S1024x200x1_S1024x200x128_2_0_n_n_0_2_1128_wf a4 a b l
  have e1 := looked_apply (n := 2#32) (u := 1#32) (N := 2) (by norm_num) (fun i => (hB i).2.1) (by decide)
    gather_S2x128_S1024x200x1_S1024x200x128_2_0_n_n_0_2_1128_wf a5 a b l
  refine (congrArg₂ (· + ·) (congrArg₂ (· + ·) e0 e2) e1).trans ?_
  exact add_assoc _ _ _

/-- The reference's result, at word `(a, b)` and place `l`. -/
theorem reference_value (m : (ℓ : Loc nD τ sig) → Buf (Elt Ideal) ℓ) (c : Dev nD)
    (a0 a1 a2 : S1024x200.Idx → BitVec 32) (a3 : S100000x128.Idx → EReal) (a4 : S512x128.Idx → EReal) (a5 : S2x128.Idx → EReal) (a6 a7 : S128.Idx → EReal)
    (h0 : m (c, Proc.devRef .tc main_arg0) = a0) (h1 : m (c, Proc.devRef .tc main_arg1) = a1) (h2 : m (c, Proc.devRef .tc main_arg2) = a2)
    (h3 : m (c, Proc.devRef .tc main_arg3) = a3) (h4 : m (c, Proc.devRef .tc main_arg4) = a4) (h5 : m (c, Proc.devRef .tc main_arg5) = a5)
    (h6 : m (c, Proc.devRef .tc main_arg6) = a6) (h7 : m (c, Proc.devRef .tc main_arg7) = a7)
    (hB : ∀ i, (a0 i).toNat < 100000 ∧ (a1 i).toNat < 2 ∧ (a2 i).toNat < 512) (l : Fin 128) :
    (Value.res_main_v22 m c : S1024x200x128.Idx → EReal) (ix3 a b l) = KernelIdeal.Quarter.result a0 a1 a2 a3 a4 a5 a6 a7 hB (ix2 a b) l := by
  rw [term_eq, h0, h1, h2, h3, h4, h5, h6, h7]
  refine (whole_apply _ a b a6 a7 l).trans ?_
  exact congrArg (fun e => norm e _ _ l) (funext fun l' => summed_apply a b a0 a1 a2 a3 a4 a5 hB l')

end Cert.ReferenceIdeal.Look

end
-- ==== Proof.Algebraic.lean ====
module

public import proofs.«01_k».proof.Proof.Frames
public import proofs.«01_k».proof.Proof.KernelValue
public import proofs.«01_k».proof.Proof.RefValue

/-! The kernel and the reference compute the same function over the extended reals. -/

@[expose] public section

set_option maxRecDepth 16384

noncomputable section

namespace Cert.Proof

open Cert.KernelIdeal.Gen Cert.ReferenceIdeal.Gen Cert.KernelIdeal.Rows
open Idealize.ShloMosaic Idealize.ShloMosaic.TcCoe Idealize.ShloMosaic.ValueIdx
open Idealize.SL Idealize.SL.Sem

attribute [local instance] Cert.Kernel.Gen.facts Cert.KernelIdeal.Gen.facts Cert.ReferenceIdeal.Gen.facts Cert.Pre_ids_in_range.facts

/-- From arguments that agree, the reference's result is the kernel's. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hB : ∀ i, (arr0 m c i).toNat < 100000 ∧ (arr1 m c i).toNat < 2 ∧ (arr2 m c i).toNat < 512)
    (h0 : m' (c, Proc.devRef .tc Cert.ReferenceIdeal.main_arg0) = arr0 m c) (h1 : m' (c, Proc.devRef .tc Cert.ReferenceIdeal.main_arg1) = arr1 m c)
    (h2 : m' (c, Proc.devRef .tc Cert.ReferenceIdeal.main_arg2) = arr2 m c) (h3 : m' (c, Proc.devRef .tc Cert.ReferenceIdeal.main_arg3) = arr3 m c)
    (h4 : m' (c, Proc.devRef .tc Cert.ReferenceIdeal.main_arg4) = arr4 m c) (h5 : m' (c, Proc.devRef .tc Cert.ReferenceIdeal.main_arg5) = arr5 m c)
    (h6 : m' (c, Proc.devRef .tc Cert.ReferenceIdeal.main_arg6) = arr6 m c) (h7 : m' (c, Proc.devRef .tc Cert.ReferenceIdeal.main_arg7) = arr7 m c) :
    (Cert.ReferenceIdeal.Value.res_main_v22 m' c : Cert.ReferenceIdeal.S1024x200x128.Idx → EReal)
      = (V12 m c (Proc.devRef .tc Cert.KernelIdeal.main_v18) : Cert.KernelIdeal.S1024x200x128.Idx → EReal) := by
  funext y
  obtain ⟨a, b, l, rfl⟩ : ∃ (a : Fin 1024) (b : Fin 200) (l : Fin 128), y = ix3 a b l := ⟨y 0, y 1, y 2, eq_ix3 (n0 := 1024) (n1 := 200) (n2 := 128) y⟩
  exact (Cert.ReferenceIdeal.Look.reference_value a b m' c _ _ _ _ _ _ _ _ h0 h1 h2 h3 h4 h5 h6 h7 hB l).trans (kernel_value m c hB a b l).symm

/-- The kernel's ideal reading and the reference end with the same result, their arguments as they were. -/
theorem algebraic : Cert.algebraic_KernelIdeal_ReferenceIdeal := fun m g m' g' hpre hargs => by
  refine ⟨fun c => V12 m c (Proc.devRef .tc Cert.KernelIdeal.main_v18), ?_, ?_⟩
  · refine (θ_run Cert.KernelIdeal.defs _ _).mono (fun r hr c => ?_) (run_args (F := Ideal) m g (range_ideal hpre))
    obtain ⟨hv, ha⟩ := hr.1 c
    exact ⟨hv, ha _ (by decide), ha _ (by decide), ha _ (by decide), ha _ (by decide), ha _ (by decide), ha _ (by decide), ha _ (by decide), ha _ (by decide)⟩
  · refine (θ_run Cert.ReferenceIdeal.defs _ _).mono (fun r hr c => ⟨(hr c).1.trans ?_, (hr c).2⟩) (Cert.ReferenceIdeal.Value.run (F := Ideal) m' g')
    obtain ⟨h0, h1, h2, h3, h4, h5, h6, h7⟩ := hargs c
    exact same_result m m' c (fun i => Cert.Pre_ids_in_range.bounds (hpre c) i) h0 h1 h2 h3 h4 h5 h6 h7

end Cert.Proof

end
-- ==== Proof.lean ====
module

public import proofs.«01_k».proof.Defs
public import proofs.«01_k».proof.Proof.Algebraic
public import proofs.«01_k».proof.Proof.Gen.ReferenceIdeal.Run
public import Idealize.ShloMosaic.Adequacy
public import Idealize.ShloMosaic.Init

@[expose] public section

noncomputable section

namespace Cert.Proof

/-- The kernel and its ideal reading run without fault and leave their arguments unchanged and every semaphore at zero, and so
    does the reference; the ideal reading is the kernel's; and over the extended reals the kernel and the reference
    compute the same function. -/
theorem claim : Cert.Claim :=
  ⟨Cert.Kernel.Gen.facts, Cert.KernelIdeal.Gen.facts, Cert.ReferenceIdeal.Gen.facts, Cert.Pre_ids_in_range.facts,
    frame_kernel, frame_ideal, frame_reference, fun m ρ _ => frame_reference m ρ trivial, trivial, algebraic⟩

end Cert.Proof

end
